-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v56) = v4 c
          ∧ r.2.mem ((c.tc : Thread Cert.Reference2Ideal.nD Cert.Reference2Ideal.τ).loc Cert.Reference2Ideal.main_v36) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v56) = v0 c
          ∧ r.2.mem ((c.tc : Thread Cert.Reference7Ideal.nD Cert.Reference7Ideal.τ).loc Cert.Reference7Ideal.main_v57) = v1 c
          ∧ r.2.mem ((c.tc : Thread Cert.Reference7Ideal.nD Cert.Reference7Ideal.τ).loc Cert.Reference7Ideal.main_v58) = v2 c
          ∧ r.2.mem ((c.tc : Thread Cert.Reference7Ideal.nD Cert.Reference7Ideal.τ).loc Cert.Reference7Ideal.main_v59) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v48) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v79) = v0 c
          ∧ r.2.mem ((c.tc : Thread Cert.Reference10Ideal.nD Cert.Reference10Ideal.τ).loc Cert.Reference10Ideal.main_v80) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v20) = v0 c
          ∧ r.2.mem ((c.tc : Thread Cert.Reference15Ideal.nD Cert.Reference15Ideal.τ).loc Cert.Reference15Ideal.main_v21) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v44) = v0 c
          ∧ r.2.mem ((c.tc : Thread Cert.Reference16Ideal.nD Cert.Reference16Ideal.τ).loc Cert.Reference16Ideal.main_v45) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S8x4096x128 : Shape := ⟨3, ![8, 4096, 128]⟩
abbrev S32x8x2x128 : Shape := ⟨4, ![32, 8, 2, 128]⟩
abbrev S32x2x8x128x128 : Shape := ⟨5, ![32, 2, 8, 128, 128]⟩
abbrev S8x256x128 : Shape := ⟨3, ![8, 256, 128]⟩
abbrev S2x8x2x128 : Shape := ⟨4, ![2, 8, 2, 128]⟩
abbrev S2x2x8x128x128 : Shape := ⟨5, ![2, 2, 8, 128, 128]⟩
abbrev S8x128x128 : Shape := ⟨3, ![8, 128, 128]⟩
abbrev S1x1x8x128x128 : Shape := ⟨5, ![1, 1, 8, 128, 128]⟩
abbrev S8x64x128 : Shape := ⟨3, ![8, 64, 128]⟩
abbrev S1x8x1x128 : Shape := ⟨4, ![1, 8, 1, 128]⟩
abbrev S8x1x128 : Shape := ⟨3, ![8, 1, 128]⟩

abbrev nBuf : Space → Nat
  | .hbm => 8
  | .vmem => 17
  | .smem => 0
  | _ => 0

abbrev bufTy : (tb : Table) → Fin (tcTables nBuf tb) → BufTy
  | .hbm, ⟨0, _⟩ => ⟨S8x4096x128, .bf16⟩
  | .hbm, ⟨1, _⟩ => ⟨S8x4096x128, .bf16⟩
  | .hbm, ⟨2, _⟩ => ⟨S8x4096x128, .f32⟩
  | .hbm, ⟨3, _⟩ => ⟨S8x4096x128, .bf16⟩
  | .hbm, ⟨4, _⟩ => ⟨S8x4096x128, .bf16⟩
  | .hbm, ⟨5, _⟩ => ⟨S32x8x2x128, .f32⟩
  | .hbm, ⟨6, _⟩ => ⟨S8x4096x128, .f32⟩
  | .hbm, ⟨7, _⟩ => ⟨S32x2x8x128x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S8x256x128, .f32⟩
  | .local _ .vmem, ⟨5, _⟩ => ⟨S8x256x128, .f32⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S2x8x2x128, .f32⟩
  | .local _ .vmem, ⟨11, _⟩ => ⟨S2x8x2x128, .f32⟩
  | .local _ .vmem, ⟨12, _⟩ => ⟨S8x256x128, .f32⟩
  | .local _ .vmem, ⟨13, _⟩ => ⟨S8x256x128, .f32⟩
  | .local _ .vmem, ⟨14, _⟩ => ⟨S2x2x8x128x128, .f32⟩
  | .local _ .vmem, ⟨15, _⟩ => ⟨S2x2x8x128x128, .f32⟩
  | .local _ .vmem, ⟨16, _⟩ => ⟨S8x128x128, .f32⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x128 : Shape := ⟨3, ![8, 4096, 128]⟩
abbrev S32x8x2x128 : Shape := ⟨4, ![32, 8, 2, 128]⟩
abbrev S_ : Shape := ⟨0, ![]⟩
abbrev S8x128x128 : Shape := ⟨3, ![8, 128, 128]⟩
abbrev S8x32x2x64x2x64 : Shape := ⟨6, ![8, 32, 2, 64, 2, 64]⟩
abbrev S8x32x1x64x1x64 : Shape := ⟨6, ![8, 32, 1, 64, 1, 64]⟩
abbrev S8x32x64x64 : Shape := ⟨4, ![8, 32, 64, 64]⟩
abbrev S8x32x1x64x64 : Shape := ⟨5, ![8, 32, 1, 64, 64]⟩
abbrev S8x32x2x64x64 : Shape := ⟨5, ![8, 32, 2, 64, 64]⟩
abbrev S8x64x64x64 : Shape := ⟨4, ![8, 64, 64, 64]⟩
abbrev S64x8x64x64 : Shape := ⟨4, ![64, 8, 64, 64]⟩
abbrev S8x64x64x128 : Shape := ⟨4, ![8, 64, 64, 128]⟩
abbrev S64x8x64x128 : Shape := ⟨4, ![64, 8, 64, 128]⟩
abbrev S32x2x8x128 : Shape := ⟨4, ![32, 2, 8, 128]⟩
abbrev S64x8x128 : Shape := ⟨3, ![64, 8, 128]⟩
abbrev S64x8x128x128 : Shape := ⟨4, ![64, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x128 : Shape := ⟨3, ![1, 8, 128]⟩
abbrev S8x128 : Shape := ⟨2, ![8, 128]⟩
abbrev S8x1x128 : Shape := ⟨3, ![8, 1, 128]⟩
abbrev S1x8x128x128 : Shape := ⟨4, ![1, 8, 128, 128]⟩
abbrev S32x2x8x128x128 : Shape := ⟨5, ![32, 2, 8, 128, 128]⟩

abbrev nBuf : Space → Nat
  | .hbm => 103
  | .vmem => 0
  | .smem => 0
  | _ => 0

abbrev bufTy : (tb : Table) → Fin (tcTables nBuf tb) → BufTy
  | .hbm, ⟨0, _⟩ => ⟨S8x4096x128, .bf16⟩
  | .hbm, ⟨1, _⟩ => ⟨S8x4096x128, .bf16⟩
  | .hbm, ⟨2, _⟩ => ⟨S8x4096x128, .f32⟩
  | .hbm, ⟨3, _⟩ => ⟨S8x4096x128, .bf16⟩
  | .hbm, ⟨4, _⟩ => ⟨S8x4096x128, .bf16⟩
  | .hbm, ⟨5, _⟩ => ⟨S32x8x2x128, .f32⟩
  | .hbm, ⟨6, _⟩ => ⟨S_, .f32⟩
  | .hbm, ⟨7, _⟩ => ⟨S8x128x128, .f32⟩
  | .hbm, ⟨8, _⟩ => ⟨S8x4096x128, .f32⟩
  | .hbm, ⟨9, _⟩ => ⟨S8x4096x128, .f32⟩
  | .hbm, ⟨10, _⟩ => ⟨S8x4096x128, .f32⟩
  | .hbm, ⟨11, _⟩ => ⟨S8x4096x128, .f32⟩
  | .hbm, ⟨12, _⟩ => ⟨S8x32x2x64x2x64, .f32⟩
  | .hbm, ⟨13, _⟩ => ⟨S8x32x1x64x1x64, .f32⟩
  | .hbm, ⟨14, _⟩ => ⟨S8x32x64x64, .f32⟩
  | .hbm, ⟨15, _⟩ => ⟨S8x32x1x64x1x64, .f32⟩
  | .hbm, ⟨16, _⟩ => ⟨S8x32x64x64, .f32⟩
  | .hbm, ⟨17, _⟩ => ⟨S8x32x1x64x64, .f32⟩
  | .hbm, ⟨18, _⟩ => ⟨S8x32x1x64x64, .f32⟩
  | .hbm, ⟨19, _⟩ => ⟨S8x32x2x64x64, .f32⟩
  | .hbm, ⟨20, _⟩ => ⟨S8x64x64x64, .f32⟩
  | .hbm, ⟨21, _⟩ => ⟨S64x8x64x64, .f32⟩
  | .hbm, ⟨22, _⟩ => ⟨S8x64x64x128, .f32⟩
  | .hbm, ⟨23, _⟩ => ⟨S64x8x64x128, .f32⟩
  | .hbm, ⟨24, _⟩ => ⟨S8x64x64x128, .f32⟩
  | .hbm, ⟨25, _⟩ => ⟨S64x8x64x128, .f32⟩
  | .hbm, ⟨26, _⟩ => ⟨S8x64x64x128, .f32⟩
  | .hbm, ⟨27, _⟩ => ⟨S64x8x64x128, .f32⟩
  | .hbm, ⟨28, _⟩ => ⟨S8x64x64x128, .f32⟩
  | .hbm, ⟨29, _⟩ => ⟨S64x8x64x128, .f32⟩
  | .hbm, ⟨30, _⟩ => ⟨S32x2x8x128, .f32⟩
  | .hbm, ⟨31, _⟩ => ⟨S64x8x128, .f32⟩
  | .hbm, ⟨32, _⟩ => ⟨S_, .f32⟩
  | .hbm, ⟨33, _⟩ => ⟨S64x8x64x128, .f32⟩
  | .hbm, ⟨34, _⟩ => ⟨S_, .f32⟩
  | .hbm, ⟨35, _⟩ => ⟨S64x8x128x128, .f32⟩
  | .hbm, ⟨36, _⟩ => ⟨S_, .i32⟩
  | .hbm, ⟨37, _⟩ => ⟨S64x8x64x128, .f32⟩
  | .hbm, ⟨38, _⟩ => ⟨S64x8x64x128, .f32⟩
  | .hbm, ⟨39, _⟩ => ⟨S64x8x64x128, .f32⟩
  | .hbm, ⟨40, _⟩ => ⟨S64x8x64x128, .f32⟩
  | .hbm, ⟨41, _⟩ => ⟨S64x8x64x64, .f32⟩
  | .hbm, ⟨42, _⟩ => ⟨S64x8x128, .f32⟩
  | .hbm, ⟨43, _⟩ => ⟨S_, .i32⟩
  | .hbm, ⟨44, _⟩ => ⟨S8x128x128, .f32⟩
  | .hbm, ⟨45, _⟩ => ⟨S64x8x64x128, .f32⟩
  | .hbm, ⟨46, _⟩ => ⟨S64x8x128x128, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x8x64x128, .f32⟩
  | .hbm, ⟨53, _⟩ => ⟨S8x64x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x8x64x128, .f32⟩
  | .hbm, ⟨58, _⟩ => ⟨S8x64x128, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x8x64x128, .f32⟩
  | .hbm, ⟨63, _⟩ => ⟨S8x64x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x8x64x128, .f32⟩
  | .hbm, ⟨68, _⟩ => ⟨S8x64x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x8x64x64, .f32⟩
  | .hbm, ⟨73, _⟩ => ⟨S8x64x64, .f32⟩
  | .hbm, ⟨74, _⟩ => ⟨S_, .i32⟩
  | .hbm, ⟨75, _⟩ => ⟨S_, .i32⟩
  | .hbm, ⟨76, _⟩ => ⟨S1x8x128, .f32⟩
  | .hbm, ⟨77, _⟩ => ⟨S8x128, .f32⟩
  | .hbm, ⟨78, _⟩ => ⟨S8x64x128, .f32⟩
  | .hbm, ⟨79, _⟩ => ⟨S8x64x128, .f32⟩
  | .hbm, ⟨80, _⟩ => ⟨S8x64x128, .f32⟩
  | .hbm, ⟨81, _⟩ => ⟨S8x64x128, .f32⟩
  | .hbm, ⟨82, _⟩ => ⟨S8x64x128, .f32⟩
  | .hbm, ⟨83, _⟩ => ⟨S8x1x128, .f32⟩
  | .hbm, ⟨84, _⟩ => ⟨S8x128x128, .f32⟩
  | .hbm, ⟨85, _⟩ => ⟨S8x128x128, .f32⟩
  | .hbm, ⟨86, _⟩ => ⟨S8x128x128, .f32⟩
  | .hbm, ⟨87, _⟩ => ⟨S8x128x128, .f32⟩
  | .hbm, ⟨88, _⟩ => ⟨S1x8x64x128, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S64x8x64x128, .f32⟩
  | .hbm, ⟨93, _⟩ => ⟨S1x8x128x128, .f32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S64x8x128x128, .f32⟩
  | .hbm, ⟨98, _⟩ => ⟨S_, .i32⟩
  | .hbm, ⟨99, _⟩ => ⟨S_, .i32⟩
  | .hbm, ⟨100, _⟩ => ⟨S8x64x64x128, .f32⟩
  | .hbm, ⟨101, _⟩ => ⟨S8x4096x128, .f32⟩
  | .hbm, ⟨102, _⟩ => ⟨S32x2x8x128x128, .f32⟩
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_c : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev main_v27_4 : Ref sig .tc := ⟨.hbm, 41, rfl⟩
abbrev main_v27_5 : Ref sig .tc := ⟨.hbm, 42, rfl⟩
abbrev main_v27_6 : Ref sig .tc := ⟨.hbm, 43, rfl⟩
abbrev main_v27_7 : Ref sig .tc := ⟨.hbm, 44, rfl⟩
abbrev main_v27_8 : Ref sig .tc := ⟨.hbm, 45, rfl⟩
abbrev main_v27_9 : Ref sig .tc := ⟨.hbm, 46, rfl⟩
abbrev main_while0c_c_11 : Ref sig .tc := ⟨.hbm, 47, rfl⟩
abbrev main_while0c_v31 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_v0 : Ref sig .tc := ⟨.hbm, 52, rfl⟩
abbrev main_while0b_v31 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_v0 : Ref sig .tc := ⟨.hbm, 57, rfl⟩
abbrev main_while0b_v32 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_c_1 : Ref sig .tc := ⟨.hbm, 61, rfl⟩
abbrev main_while0b_call2_v0 : Ref sig .tc := ⟨.hbm, 62, rfl⟩
abbrev main_while0b_v33 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_v0 : Ref sig .tc := ⟨.hbm, 67, rfl⟩
abbrev main_while0b_v34 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_c_1 : Ref sig .tc := ⟨.hbm, 71, rfl⟩
abbrev main_while0b_call4_v0 : Ref sig .tc := ⟨.hbm, 72, rfl⟩
abbrev main_while0b_v35 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_call5_v0 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_call6_v0 : Ref sig .tc := ⟨.hbm, 88, rfl⟩
abbrev main_while0b_call6_c : Ref sig .tc := ⟨.hbm, 89, rfl⟩
abbrev main_while0b_call6_c_0 : Ref sig .tc := ⟨.hbm, 90, rfl⟩
abbrev main_while0b_call6_c_1 : Ref sig .tc := ⟨.hbm, 91, rfl⟩
abbrev main_while0b_v47 : Ref sig .tc := ⟨.hbm, 92, rfl⟩
abbrev main_while0b_call7_v0 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_v48 : Ref sig .tc := ⟨.hbm, 97, rfl⟩
abbrev main_while0b_c_11 : Ref sig .tc := ⟨.hbm, 98, rfl⟩
abbrev main_while0b_v49 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x128 : Shape := ⟨3, ![8, 4096, 128]⟩
abbrev S32x8x2x128 : Shape := ⟨4, ![32, 8, 2, 128]⟩
abbrev S32x2x8x128x128 : Shape := ⟨5, ![32, 2, 8, 128, 128]⟩
abbrev S8x256x128 : Shape := ⟨3, ![8, 256, 128]⟩
abbrev S2x8x2x128 : Shape := ⟨4, ![2, 8, 2, 128]⟩
abbrev S2x2x8x128x128 : Shape := ⟨5, ![2, 2, 8, 128, 128]⟩
abbrev S8x128x128 : Shape := ⟨3, ![8, 128, 128]⟩
abbrev S1x1x8x128x128 : Shape := ⟨5, ![1, 1, 8, 128, 128]⟩
abbrev S8x64x128 : Shape := ⟨3, ![8, 64, 128]⟩
abbrev S1x8x1x128 : Shape := ⟨4, ![1, 8, 1, 128]⟩
abbrev S8x1x128 : Shape := ⟨3, ![8, 1, 128]⟩
abbrev S8x128 : Shape := ⟨2, ![8, 128]⟩

abbrev nBuf : Space → Nat
  | .hbm => 14
  | .vmem => 29
  | .smem => 0
  | _ => 0

abbrev bufTy : (tb : Table) → Fin (tcTables nBuf tb) → BufTy
  | .hbm, ⟨0, _⟩ => ⟨S8x4096x128, .bf16⟩
  | .hbm, ⟨1, _⟩ => ⟨S8x4096x128, .bf16⟩
  | .hbm, ⟨2, _⟩ => ⟨S8x4096x128, .f32⟩
  | .hbm, ⟨3, _⟩ => ⟨S8x4096x128, .bf16⟩
  | .hbm, ⟨4, _⟩ => ⟨S8x4096x128, .bf16⟩
  | .hbm, ⟨5, _⟩ => ⟨S32x8x2x128, .f32⟩
  | .hbm, ⟨6, _⟩ => ⟨S32x2x8x128x128, .f32⟩
  | .hbm, ⟨7, _⟩ => ⟨S8x4096x128, .f32⟩
  | .hbm, ⟨8, _⟩ => ⟨S8x4096x128, .f32⟩
  | .hbm, ⟨9, _⟩ => ⟨S8x4096x128, .f32⟩
  | .hbm, ⟨10, _⟩ => ⟨S8x4096x128, .bf16⟩
  | .hbm, ⟨11, _⟩ => ⟨S8x4096x128, .bf16⟩
  | .hbm, ⟨12, _⟩ => ⟨S8x4096x128, .f32⟩
  | .hbm, ⟨13, _⟩ => ⟨S32x8x2x128, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S8x256x128, .f32⟩
  | .local _ .vmem, ⟨5, _⟩ => ⟨S8x256x128, .f32⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S2x8x2x128, .f32⟩
  | .local _ .vmem, ⟨11, _⟩ => ⟨S2x8x2x128, .f32⟩
  | .local _ .vmem, ⟨12, _⟩ => ⟨S2x2x8x128x128, .f32⟩
  | .local _ .vmem, ⟨13, _⟩ => ⟨S2x2x8x128x128, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | .local _ .vmem, ⟨17, _⟩ => ⟨S8x256x128, .f32⟩
  | .local _ .vmem, ⟨18, _⟩ => ⟨S8x256x128, .f32⟩
  | .local _ .vmem, ⟨19, _⟩ => ⟨S8x256x128, .f32⟩
  | .local _ .vmem, ⟨20, _⟩ => ⟨S8x256x128, .bf16⟩
  | .local _ .vmem, ⟨21, _⟩ => ⟨S8x256x128, .bf16⟩
  | .local _ .vmem, ⟨22, _⟩ => ⟨S8x256x128, .bf16⟩
  | .local _ .vmem, ⟨23, _⟩ => ⟨S8x256x128, .bf16⟩
  | .local _ .vmem, ⟨24, _⟩ => ⟨S8x256x128, .f32⟩
  | .local _ .vmem, ⟨25, _⟩ => ⟨S8x256x128, .f32⟩
  | .local _ .vmem, ⟨26, _⟩ => ⟨S2x8x2x128, .f32⟩
  | .local _ .vmem, ⟨27, _⟩ => ⟨S2x8x2x128, .f32⟩
  | .local _ .vmem, ⟨28, _⟩ => ⟨S8x128x128, .f32⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 5 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x8x2x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x4096x128 : Shape := ⟨3, ![8, 4096, 128]⟩
abbrev S32x8x2x128 : Shape := ⟨4, ![32, 8, 2, 128]⟩
abbrev S32x2x8x128x128 : Shape := ⟨5, ![32, 2, 8, 128, 128]⟩
abbrev S8x32x2x64x2x64 : Shape := ⟨6, ![8, 32, 2, 64, 2, 64]⟩
abbrev S8x32x1x64x1x64 : Shape := ⟨6, ![8, 32, 1, 64, 1, 64]⟩
abbrev S8x32x64x64 : Shape := ⟨4, ![8, 32, 64, 64]⟩
abbrev S8x32x1x64x64 : Shape := ⟨5, ![8, 32, 1, 64, 64]⟩
abbrev S8x32x2x64x64 : Shape := ⟨5, ![8, 32, 2, 64, 64]⟩
abbrev S8x64x64x64 : Shape := ⟨4, ![8, 64, 64, 64]⟩
abbrev S64x8x64x64 : Shape := ⟨4, ![64, 8, 64, 64]⟩
abbrev S8x64x64x128 : Shape := ⟨4, ![8, 64, 64, 128]⟩
abbrev S64x8x64x128 : Shape := ⟨4, ![64, 8, 64, 128]⟩
abbrev S32x2x8x128 : Shape := ⟨4, ![32, 2, 8, 128]⟩
abbrev S64x8x128 : Shape := ⟨3, ![64, 8, 128]⟩
abbrev S_ : Shape := ⟨0, ![]⟩
abbrev S8x128x128 : Shape := ⟨3, ![8, 128, 128]⟩
abbrev S64x8x128x128 : Shape := ⟨4, ![64, 8, 128, 128]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x128 : Shape := ⟨3, ![1, 8, 128]⟩
abbrev S8x128 : Shape := ⟨2, ![8, 128]⟩
abbrev S8x1x128 : Shape := ⟨3, ![8, 1, 128]⟩
abbrev S8x128x64 : Shape := ⟨3, ![8, 128, 64]⟩

abbrev nBuf : Space → Nat
  | .hbm => 203
  | .vmem => 0
  | .smem => 0
  | _ => 0

abbrev hbmTy0_0 (i : Nat) : BufTy := match i % 128 with
  | 0 => ⟨S8x4096x128, .bf16⟩
  | 1 => ⟨S8x4096x128, .bf16⟩
  | 2 => ⟨S8x4096x128, .f32⟩
  | 3 => ⟨S8x4096x128, .bf16⟩
  | 4 => ⟨S8x4096x128, .bf16⟩
  | 5 => ⟨S32x8x2x128, .f32⟩
  | 6 => ⟨S32x2x8x128x128, .f32⟩
  | 7 => ⟨S8x4096x128, .f32⟩
  | 8 => ⟨S8x4096x128, .f32⟩
  | 9 => ⟨S8x4096x128, .f32⟩
  | 10 => ⟨S8x4096x128, .f32⟩
  | 11 => ⟨S8x4096x128, .f32⟩
  | 12 => ⟨S8x32x2x64x2x64, .f32⟩
  | 13 => ⟨S8x32x1x64x1x64, .f32⟩
  | 14 => ⟨S8x32x64x64, .f32⟩
  | 15 => ⟨S8x32x1x64x1x64, .f32⟩
  | 16 => ⟨S8x32x64x64, .f32⟩
  | 17 => ⟨S8x32x1x64x64, .f32⟩
  | 18 => ⟨S8x32x1x64x64, .f32⟩
  | 19 => ⟨S8x32x2x64x64, .f32⟩
  | 20 => ⟨S8x64x64x64, .f32⟩
  | 21 => ⟨S64x8x64x64, .f32⟩
  | 22 => ⟨S8x64x64x128, .f32⟩
  | 23 => ⟨S64x8x64x128, .f32⟩
  | 24 => ⟨S8x64x64x128, .f32⟩
  | 25 => ⟨S64x8x64x128, .f32⟩
  | 26 => ⟨S8x64x64x128, .f32⟩
  | 27 => ⟨S64x8x64x128, .f32⟩
  | 28 => ⟨S8x64x64x128, .f32⟩
  | 29 => ⟨S64x8x64x128, .f32⟩
  | 30 => ⟨S32x2x8x128, .f32⟩
  | 31 => ⟨S64x8x128, .f32⟩
  | 32 => ⟨S_, .f32⟩
  | 33 => ⟨S8x128x128, .f32⟩
  | 34 => ⟨S64x8x128x128, .f32⟩
  | 35 => ⟨S8x64x64x128, .f32⟩
  | 36 => ⟨S64x8x64x128, .f32⟩
  | 37 => ⟨S_, .f32⟩
  | 38 => ⟨S64x8x64x128, .f32⟩
  | 39 => ⟨S_, .f32⟩
  | 40 => ⟨S64x8x64x128, .f32⟩
  | 41 => ⟨S_, .f32⟩
  | 42 => ⟨S64x8x64x128, .f32⟩
  | 43 => ⟨S_, .f32⟩
  | 44 => ⟨S64x8x64x128, .f32⟩
  | 45 => ⟨S_, .f32⟩
  | 46 => ⟨S64x8x64x64, .f32⟩
  | 47 => ⟨S_, .f32⟩
  | 48 => ⟨S64x8x128, .f32⟩
  | 49 => ⟨S_, .i32⟩
  | 50 => ⟨S64x8x128x128, .f32⟩
  | 51 => ⟨S64x8x64x128, .f32⟩
  | 52 => ⟨S64x8x64x128, .f32⟩
  | 53 => ⟨S64x8x64x128, .f32⟩
  | 54 => ⟨S64x8x64x128, .f32⟩
  | 55 => ⟨S64x8x64x64, .f32⟩
  | 56 => ⟨S64x8x128, .f32⟩
  | 57 => ⟨S64x8x64x128, .f32⟩
  | 58 => ⟨S_, .i32⟩
  | 59 => ⟨S8x128x128, .f32⟩
  | 60 => ⟨S64x8x64x128, .f32⟩
  | 61 => ⟨S64x8x64x128, .f32⟩
  | 62 => ⟨S64x8x64x128, .f32⟩
  | 63 => ⟨S64x8x64x128, .f32⟩
  | 64 => ⟨S64x8x64x64, .f32⟩
  | 65 => ⟨S64x8x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S1x8x128x128, .f32⟩
  | 76 => ⟨S8x128x128, .f32⟩
  | 77 => ⟨S_, .i32⟩
  | 78 => ⟨S_, .i32⟩
  | 79 => ⟨S_, .i32⟩
  | 80 => ⟨S1x8x64x128, .f32⟩
  | 81 => ⟨S8x64x128, .f32⟩
  | 82 => ⟨S_, .i32⟩
  | 83 => ⟨S_, .i32⟩
  | 84 => ⟨S_, .i32⟩
  | 85 => ⟨S1x8x64x128, .f32⟩
  | 86 => ⟨S8x64x128, .f32⟩
  | 87 => ⟨S_, .i32⟩
  | 88 => ⟨S_, .i32⟩
  | 89 => ⟨S_, .i32⟩
  | 90 => ⟨S1x8x64x128, .f32⟩
  | 91 => ⟨S8x64x128, .f32⟩
  | 92 => ⟨S_, .i32⟩
  | 93 => ⟨S_, .i32⟩
  | 94 => ⟨S_, .i32⟩
  | 95 => ⟨S1x8x64x128, .f32⟩
  | 96 => ⟨S8x64x128, .f32⟩
  | 97 => ⟨S_, .i32⟩
  | 98 => ⟨S_, .i32⟩
  | 99 => ⟨S_, .i32⟩
  | 100 => ⟨S1x8x64x64, .f32⟩
  | 101 => ⟨S8x64x64, .f32⟩
  | 102 => ⟨S_, .i32⟩
  | 103 => ⟨S_, .i32⟩
  | 104 => ⟨S1x8x128, .f32⟩
  | 105 => ⟨S8x128, .f32⟩
  | 106 => ⟨S_, .i32⟩
  | 107 => ⟨S_, .i32⟩
  | 108 => ⟨S_, .i32⟩
  | 109 => ⟨S1x8x64x128, .f32⟩
  | 110 => ⟨S8x64x128, .f32⟩
  | 111 => ⟨S8x64x128, .f32⟩
  | 112 => ⟨S8x64x128, .f32⟩
  | 113 => ⟨S8x64x128, .f32⟩
  | 114 => ⟨S8x64x128, .f32⟩
  | 115 => ⟨S8x64x128, .f32⟩
  | 116 => ⟨S8x1x128, .f32⟩
  | 117 => ⟨S8x128x128, .f32⟩
  | 118 => ⟨S8x128x128, .f32⟩
  | 119 => ⟨S8x128x128, .f32⟩
  | 120 => ⟨S8x128x128, .f32⟩
  | 121 => ⟨S8x128x64, .f32⟩
  | 122 => ⟨S8x64x128, .f32⟩
  | 123 => ⟨S8x128x64, .f32⟩
  | 124 => ⟨S8x64x128, .f32⟩
  | 125 => ⟨S8x128x128, .f32⟩
  | 126 => ⟨S_, .f32⟩
  | 127 => ⟨S8x128, .f32⟩
  | _ => ⟨S8x4096x128, .bf16⟩

abbrev hbmTy0_1 (i : Nat) : BufTy := match i % 128 with
  | 0 => ⟨S8x1x128, .f32⟩
  | 1 => ⟨S8x128x128, .f32⟩
  | 2 => ⟨S8x128x128, .f32⟩
  | 3 => ⟨S_, .f32⟩
  | 4 => ⟨S8x128, .f32⟩
  | 5 => ⟨S8x128x64, .f32⟩
  | 6 => ⟨S8x64x128, .f32⟩
  | 7 => ⟨S8x64x128, .f32⟩
  | 8 => ⟨S8x64x64, .f32⟩
  | 9 => ⟨S8x128x128, .f32⟩
  | 10 => ⟨S8x128x128, .f32⟩
  | 11 => ⟨S8x128x128, .f32⟩
  | 12 => ⟨S8x64x128, .f32⟩
  | 13 => ⟨S8x64x128, .f32⟩
  | 14 => ⟨S8x128x128, .f32⟩
  | 15 => ⟨S8x128x128, .f32⟩
  | 16 => ⟨S8x128x128, .f32⟩
  | 17 => ⟨S8x64x128, .f32⟩
  | 18 => ⟨S1x8x64x128, .f32⟩
  | 19 => ⟨S_, .i32⟩
  | 20 => ⟨S_, .i32⟩
  | 21 => ⟨S_, .i32⟩
  | 22 => ⟨S64x8x64x128, .f32⟩
  | 23 => ⟨S1x8x64x128, .f32⟩
  | 24 => ⟨S_, .i32⟩
  | 25 => ⟨S_, .i32⟩
  | 26 => ⟨S_, .i32⟩
  | 27 => ⟨S64x8x64x128, .f32⟩
  | 28 => ⟨S1x8x64x128, .f32⟩
  | 29 => ⟨S_, .i32⟩
  | 30 => ⟨S_, .i32⟩
  | 31 => ⟨S_, .i32⟩
  | 32 => ⟨S64x8x64x128, .f32⟩
  | 33 => ⟨S1x8x64x128, .f32⟩
  | 34 => ⟨S_, .i32⟩
  | 35 => ⟨S_, .i32⟩
  | 36 => ⟨S_, .i32⟩
  | 37 => ⟨S64x8x64x128, .f32⟩
  | 38 => ⟨S1x8x64x64, .f32⟩
  | 39 => ⟨S_, .i32⟩
  | 40 => ⟨S_, .i32⟩
  | 41 => ⟨S_, .i32⟩
  | 42 => ⟨S64x8x64x64, .f32⟩
  | 43 => ⟨S1x8x128, .f32⟩
  | 44 => ⟨S_, .i32⟩
  | 45 => ⟨S_, .i32⟩
  | 46 => ⟨S64x8x128, .f32⟩
  | 47 => ⟨S_, .i32⟩
  | 48 => ⟨S_, .i32⟩
  | 49 => ⟨S32x2x8x128, .f32⟩
  | 50 => ⟨S32x8x2x128, .f32⟩
  | 51 => ⟨S8x64x64x128, .f32⟩
  | 52 => ⟨S8x4096x128, .f32⟩
  | 53 => ⟨S8x64x64x128, .f32⟩
  | 54 => ⟨S8x4096x128, .f32⟩
  | 55 => ⟨S8x64x64x128, .f32⟩
  | 56 => ⟨S8x4096x128, .f32⟩
  | 57 => ⟨S8x64x64x128, .f32⟩
  | 58 => ⟨S8x4096x128, .f32⟩
  | 59 => ⟨S8x64x64x64, .f32⟩
  | 60 => ⟨S8x32x2x64x64, .f32⟩
  | 61 => ⟨S8x32x1x64x64, .f32⟩
  | 62 => ⟨S8x32x64x64, .f32⟩
  | 63 => ⟨S8x32x1x64x64, .f32⟩
  | 64 => ⟨S8x32x64x64, .f32⟩
  | 65 => ⟨S8x32x1x64x1x64, .f32⟩
  | 66 => ⟨S_, .f32⟩
  | 67 => ⟨S8x32x2x64x2x64, .f32⟩
  | 68 => ⟨S8x32x1x64x1x64, .f32⟩
  | 69 => ⟨S_, .f32⟩
  | 70 => ⟨S8x32x2x64x2x64, .f32⟩
  | 71 => ⟨S8x32x2x64x2x64, .f32⟩
  | 72 => ⟨S8x4096x128, .f32⟩
  | 73 => ⟨S8x4096x128, .bf16⟩
  | 74 => ⟨S8x4096x128, .bf16⟩
  | _ => ⟨S8x4096x128, .bf16⟩

abbrev hbmTy (i : Nat) : BufTy := match i / 128 with
  | 0 => hbmTy0_0 i
  | 1 => hbmTy0_1 i
  | _ => ⟨S8x4096x128, .bf16⟩

abbrev bufTy : (tb : Table) → Fin (tcTables nBuf tb) → BufTy
  | .hbm, ⟨i, _⟩ => hbmTy i
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_c : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev main_v34_4 : Ref sig .tc := ⟨.hbm, 54, rfl⟩
abbrev main_v34_5 : Ref sig .tc := ⟨.hbm, 55, rfl⟩
abbrev main_v34_6 : Ref sig .tc := ⟨.hbm, 56, rfl⟩
abbrev main_v34_7 : Ref sig .tc := ⟨.hbm, 57, rfl⟩
abbrev main_v34_8 : Ref sig .tc := ⟨.hbm, 58, rfl⟩
abbrev main_v34_9 : Ref sig .tc := ⟨.hbm, 59, rfl⟩
abbrev main_v34_10 : Ref sig .tc := ⟨.hbm, 60, rfl⟩
abbrev main_v34_11 : Ref sig .tc := ⟨.hbm, 61, rfl⟩
abbrev main_v34_12 : Ref sig .tc := ⟨.hbm, 62, rfl⟩
abbrev main_v34_13 : Ref sig .tc := ⟨.hbm, 63, rfl⟩
abbrev main_v34_14 : Ref sig .tc := ⟨.hbm, 64, rfl⟩
abbrev main_v34_15 : Ref sig .tc := ⟨.hbm, 65, rfl⟩
abbrev main_while0c_c_23 : Ref sig .tc := ⟨.hbm, 66, rfl⟩
abbrev main_while0c_v59 : Ref sig .tc := ⟨.hbm, 67, rfl⟩
abbrev main_while0b_c_23 : Ref sig .tc := ⟨.hbm, 68, rfl⟩
abbrev main_while0b_v59 : Ref sig .tc := ⟨.hbm, 69, rfl⟩
abbrev main_while0b_c_24 : Ref sig .tc := ⟨.hbm, 70, rfl⟩
abbrev main_while0b_v60 : Ref sig .tc := ⟨.hbm, 71, rfl⟩
abbrev main_while0b_call0_c : Ref sig .tc := ⟨.hbm, 72, rfl⟩
abbrev main_while0b_call0_c_0 : Ref sig .tc := ⟨.hbm, 73, rfl⟩
abbrev main_while0b_call0_c_1 : Ref sig .tc := ⟨.hbm, 74, rfl⟩
abbrev main_while0b_call0_v0 : Ref sig .tc := ⟨.hbm, 75, rfl⟩
abbrev main_while0b_v61 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_v0 : Ref sig .tc := ⟨.hbm, 80, rfl⟩
abbrev main_while0b_v62 : Ref sig .tc := ⟨.hbm, 81, rfl⟩
abbrev main_while0b_call2_c : Ref sig .tc := ⟨.hbm, 82, rfl⟩
abbrev main_while0b_call2_c_0 : Ref sig .tc := ⟨.hbm, 83, rfl⟩
abbrev main_while0b_call2_c_1 : Ref sig .tc := ⟨.hbm, 84, rfl⟩
abbrev main_while0b_call2_v0 : Ref sig .tc := ⟨.hbm, 85, rfl⟩
abbrev main_while0b_v63 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_call3_c_1 : Ref sig .tc := ⟨.hbm, 89, rfl⟩
abbrev main_while0b_call3_v0 : Ref sig .tc := ⟨.hbm, 90, rfl⟩
abbrev main_while0b_v64 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_v0 : Ref sig .tc := ⟨.hbm, 95, rfl⟩
abbrev main_while0b_v65 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_v0 : Ref sig .tc := ⟨.hbm, 100, rfl⟩
abbrev main_while0b_v66 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_v0 : Ref sig .tc := ⟨.hbm, 104, rfl⟩
abbrev main_while0b_v67 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_call7_v0 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_cst_25 : Ref sig .tc := ⟨.hbm, 126, rfl⟩
abbrev main_while0b_v84 : Ref sig .tc := ⟨.hbm, 127, rfl⟩
abbrev main_while0b_v85 : Ref sig .tc := ⟨.hbm, 128, rfl⟩
abbrev main_while0b_v86 : Ref sig .tc := ⟨.hbm, 129, rfl⟩
abbrev main_while0b_v87 : Ref sig .tc := ⟨.hbm, 130, rfl⟩
abbrev main_while0b_cst_26 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_v91 : Ref sig .tc := ⟨.hbm, 135, rfl⟩
abbrev main_while0b_v92 : Ref sig .tc := ⟨.hbm, 136, rfl⟩
abbrev main_while0b_v93 : Ref sig .tc := ⟨.hbm, 137, rfl⟩
abbrev main_while0b_v94 : Ref sig .tc := ⟨.hbm, 138, rfl⟩
abbrev main_while0b_v95 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_call8_v0 : Ref sig .tc := ⟨.hbm, 146, rfl⟩
abbrev main_while0b_call8_c : Ref sig .tc := ⟨.hbm, 147, rfl⟩
abbrev main_while0b_call8_c_0 : Ref sig .tc := ⟨.hbm, 148, rfl⟩
abbrev main_while0b_call8_c_1 : Ref sig .tc := ⟨.hbm, 149, rfl⟩
abbrev main_while0b_v102 : Ref sig .tc := ⟨.hbm, 150, rfl⟩
abbrev main_while0b_call9_v0 : Ref sig .tc := ⟨.hbm, 151, rfl⟩
abbrev main_while0b_call9_c : Ref sig .tc := ⟨.hbm, 152, rfl⟩
abbrev main_while0b_call9_c_0 : Ref sig .tc := ⟨.hbm, 153, rfl⟩
abbrev main_while0b_call9_c_1 : Ref sig .tc := ⟨.hbm, 154, rfl⟩
abbrev main_while0b_v103 : Ref sig .tc := ⟨.hbm, 155, rfl⟩
abbrev main_while0b_call10_v0 : Ref sig .tc := ⟨.hbm, 156, rfl⟩
abbrev main_while0b_call10_c : Ref sig .tc := ⟨.hbm, 157, rfl⟩
abbrev main_while0b_call10_c_0 : Ref sig .tc := ⟨.hbm, 158, rfl⟩
abbrev main_while0b_call10_c_1 : Ref sig .tc := ⟨.hbm, 159, rfl⟩
abbrev main_while0b_v104 : Ref sig .tc := ⟨.hbm, 160, rfl⟩
abbrev main_while0b_call11_v0 : Ref sig .tc := ⟨.hbm, 161, rfl⟩
abbrev main_while0b_call11_c : Ref sig .tc := ⟨.hbm, 162, rfl⟩
abbrev main_while0b_call11_c_0 : Ref sig .tc := ⟨.hbm, 163, rfl⟩
abbrev main_while0b_call11_c_1 : Ref sig .tc := ⟨.hbm, 164, rfl⟩
abbrev main_while0b_v105 : Ref sig .tc := ⟨.hbm, 165, rfl⟩
abbrev main_while0b_call12_v0 : Ref sig .tc := ⟨.hbm, 166, rfl⟩
abbrev main_while0b_call12_c : Ref sig .tc := ⟨.hbm, 167, rfl⟩
abbrev main_while0b_call12_c_0 : Ref sig .tc := ⟨.hbm, 168, rfl⟩
abbrev main_while0b_call12_c_1 : Ref sig .tc := ⟨.hbm, 169, rfl⟩
abbrev main_while0b_v106 : Ref sig .tc := ⟨.hbm, 170, rfl⟩
abbrev main_while0b_call13_v0 : Ref sig .tc := ⟨.hbm, 171, rfl⟩
abbrev main_while0b_call13_c : Ref sig .tc := ⟨.hbm, 172, rfl⟩
abbrev main_while0b_call13_c_0 : Ref sig .tc := ⟨.hbm, 173, rfl⟩
abbrev main_while0b_v107 : Ref sig .tc := ⟨.hbm, 174, rfl⟩
abbrev main_while0b_c_27 : Ref sig .tc := ⟨.hbm, 175, rfl⟩
abbrev main_while0b_v108 : Ref sig .tc := ⟨.hbm, 176, rfl⟩
abbrev main_v35 : Ref sig .tc := ⟨.hbm, 177, rfl⟩
abbrev main_v36 : Ref sig .tc := ⟨.hbm, 178, rfl⟩
abbrev main_v37 : Ref sig .tc := ⟨.hbm, 179, rfl⟩
abbrev main_v38 : Ref sig .tc := ⟨.hbm, 180, rfl⟩
abbrev main_v39 : Ref sig .tc := ⟨.hbm, 181, rfl⟩
abbrev main_v40 : Ref sig .tc := ⟨.hbm, 182, rfl⟩
abbrev main_v41 : Ref sig .tc := ⟨.hbm, 183, rfl⟩
abbrev main_v42 : Ref sig .tc := ⟨.hbm, 184, rfl⟩
abbrev main_v43 : Ref sig .tc := ⟨.hbm, 185, rfl⟩
abbrev main_v44 : Ref sig .tc := ⟨.hbm, 186, rfl⟩
abbrev main_v45 : Ref sig .tc := ⟨.hbm, 187, rfl⟩
abbrev main_v46 : Ref sig .tc := ⟨.hbm, 188, rfl⟩
abbrev main_v47 : Ref sig .tc := ⟨.hbm, 189, rfl⟩
abbrev main_v48 : Ref sig .tc := ⟨.hbm, 190, rfl⟩
abbrev main_v49 : Ref sig .tc := ⟨.hbm, 191, rfl⟩
abbrev main_v50 : Ref sig .tc := ⟨.hbm, 192, rfl⟩
abbrev main_v51 : Ref sig .tc := ⟨.hbm, 193, rfl⟩
abbrev main_cst_6 : Ref sig .tc := ⟨.hbm, 194, rfl⟩
abbrev main_v52 : Ref sig .tc := ⟨.hbm, 195, rfl⟩
abbrev main_v53 : Ref sig .tc := ⟨.hbm, 196, rfl⟩
abbrev main_cst_7 : Ref sig .tc := ⟨.hbm, 197, rfl⟩
abbrev main_v54 : Ref sig .tc := ⟨.hbm, 198, rfl⟩
abbrev main_v55 : Ref sig .tc := ⟨.hbm, 199, rfl⟩
abbrev main_v56 : Ref sig .tc := ⟨.hbm, 200, rfl⟩
abbrev main_v57 : Ref sig .tc := ⟨.hbm, 201, rfl⟩
abbrev main_v58 : Ref sig .tc := ⟨.hbm, 202, rfl⟩

abbrev nD : Nat := 1
abbrev τ : Topo := Topo.v7x

variable {F : FTy → Type} [FloatOps F]

abbrev main_while0_count : Scf.Loop 32 := ⟨0#32, 64#32, 1#32⟩
-- ==== Kernel3.lean ====
abbrev S4096x7424 : Shape := ⟨2, ![4096, 7424]⟩
abbrev S2048x7424 : Shape := ⟨2, ![2048, 7424]⟩
abbrev S4096x2048 : Shape := ⟨2, ![4096, 2048]⟩
abbrev S256x7424 : Shape := ⟨2, ![256, 7424]⟩
abbrev S1024x7424 : Shape := ⟨2, ![1024, 7424]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x7424, .bf16⟩
  | .hbm, ⟨1, _⟩ => ⟨S2048x7424, .bf16⟩
  | .hbm, ⟨2, _⟩ => ⟨S4096x2048, .f32⟩
  | .local _ .vmem, ⟨0, _⟩ => ⟨S256x7424, .bf16⟩
  | .local _ .vmem, ⟨1, _⟩ => ⟨S256x7424, .bf16⟩
  | .local _ .vmem, ⟨2, _⟩ => ⟨S1024x7424, .bf16⟩
  | .local _ .vmem, ⟨3, _⟩ => ⟨S1024x7424, .bf16⟩
  | .local _ .vmem, ⟨4, _⟩ => ⟨S256x1024, .f32⟩
  | .local _ .vmem, ⟨5, _⟩ => ⟨S256x1024, .f32⟩
  | _, _ => ⟨S4096x7424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x7424 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x7424 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x7424 : Shape := ⟨2, ![4096, 7424]⟩
abbrev S2048x7424 : Shape := ⟨2, ![2048, 7424]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x7424, .bf16⟩
  | .hbm, ⟨1, _⟩ => ⟨S2048x7424, .bf16⟩
  | .hbm, ⟨2, _⟩ => ⟨S2048x7424, .f32⟩
  | .hbm, ⟨3, _⟩ => ⟨S_, .f32⟩
  | .hbm, ⟨4, _⟩ => ⟨S4096x2048, .f32⟩
  | .hbm, ⟨5, _⟩ => ⟨S4096x7424, .f32⟩
  | .hbm, ⟨6, _⟩ => ⟨S4096x7424, .f32⟩
  | .hbm, ⟨7, _⟩ => ⟨S4096x2048, .f32⟩
  | _, _ => ⟨S4096x7424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x2048 : Shape := ⟨2, ![4096, 2048]⟩
abbrev S2048x2048 : Shape := ⟨2, ![2048, 2048]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .bf16⟩
  | .hbm, ⟨3, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S1024x4096 : Shape := ⟨2, ![1024, 4096]⟩
abbrev S4096x2048 : Shape := ⟨2, ![4096, 2048]⟩
abbrev S2048x2048 : Shape := ⟨2, ![2048, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S4096x2048, .bf16⟩
  | .hbm, ⟨3, _⟩ => ⟨S2048x2048, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .bf16⟩
  | .local _ .vmem, ⟨7, _⟩ => ⟨S512x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S1024x4096 : Shape := ⟨2, ![1024, 4096]⟩
abbrev S4096x2048 : Shape := ⟨2, ![4096, 2048]⟩
abbrev S4096x1024 : Shape := ⟨2, ![4096, 1024]⟩
abbrev S_ : Shape := ⟨0, ![]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S4096x2048, .bf16⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S_, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S4096x2048 : Shape := ⟨2, ![4096, 2048]⟩
abbrev S2048x7424 : Shape := ⟨2, ![2048, 7424]⟩
abbrev S4096x7168 : Shape := ⟨2, ![4096, 7168]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x7424, .bf16⟩
  | .hbm, ⟨2, _⟩ => ⟨S4096x7168, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x7424 : Shape := ⟨2, ![2048, 7424]⟩
abbrev S2048x7168 : Shape := ⟨2, ![2048, 7168]⟩
abbrev S4096x7168 : Shape := ⟨2, ![4096, 7168]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7424, .bf16⟩
  | .hbm, ⟨2, _⟩ => ⟨S2048x7168, .bf16⟩
  | .hbm, ⟨3, _⟩ => ⟨S4096x2048, .f32⟩
  | .hbm, ⟨4, _⟩ => ⟨S2048x7168, .f32⟩
  | .hbm, ⟨5, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x1024 : Shape := ⟨2, ![4096, 1024]⟩
abbrev S2048x2048 : Shape := ⟨2, ![2048, 2048]⟩
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x1024 : Shape := ⟨2, ![256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x2048, .bf16⟩
  | .hbm, ⟨3, _⟩ => ⟨S4096x2048, .f32⟩
  | .hbm, ⟨4, _⟩ => ⟨S4096x2048, .f32⟩
  | .hbm, ⟨5, _⟩ => ⟨S2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S1x128, .f32⟩
  | .hbm, ⟨10, _⟩ => ⟨S1x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x128, .f32⟩
  | .local _ .vmem, ⟨15, _⟩ => ⟨S1x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_34 : BitVec 32 := 0#32
  let v82 : BitVec 1 := Scalar.cmpi .ne v81 c0_i32_34
  v82

def k0_cond2 (i : grid0.Coords) : BitVec 1 :=
  let arg0 : BitVec 32 := BitVec.ofNat 32 (i 0).val
  let c0_i32_35 : BitVec 32 := 0#32
  let v83 : BitVec 1 := Scalar.cmpi .sgt arg0 c0_i32_35
  let v84 : BitVec 32 := Scalar.extui v83
  let c0_i32_36 : BitVec 32 := 0#32
  let v85 : BitVec 1 := Scalar.cmpi .ne v84 c0_i32_36
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S4096x1024 : Shape := ⟨2, ![4096, 1024]⟩
abbrev S2048x2048 : Shape := ⟨2, ![2048, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x2048, .bf16⟩
  | .hbm, ⟨3, _⟩ => ⟨S4096x2048, .f32⟩
  | .hbm, ⟨4, _⟩ => ⟨S4096x2048, .f32⟩
  | .hbm, ⟨5, _⟩ => ⟨S2048, .f32⟩
  | .hbm, ⟨6, _⟩ => ⟨S4096x1024, .f32⟩
  | .hbm, ⟨7, _⟩ => ⟨S4096x1024, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S4096x2048, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x2048, .f32⟩
  | .hbm, ⟨68, _⟩ => ⟨S4096x2048, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .bf16⟩
  | .hbm, ⟨81, _⟩ => ⟨S1x128, .f32⟩
  | .hbm, ⟨82, _⟩ => ⟨S1x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel9.lean ====
abbrev S2048x4096 : Shape := ⟨2, ![2048, 4096]⟩
abbrev S4096x7424 : Shape := ⟨2, ![4096, 7424]⟩
abbrev S32 : Shape := ⟨1, ![32]⟩
abbrev S4x2048x2048 : Shape := ⟨3, ![4, 2048, 2048]⟩
abbrev S4096x256 : Shape := ⟨2, ![4096, 256]⟩
abbrev S1 : Shape := ⟨1, ![1]⟩
abbrev S1x2048x256 : Shape := ⟨3, ![1, 2048, 256]⟩
abbrev S2048x256 : Shape := ⟨2, ![2048, 256]⟩

abbrev nBuf : Space → Nat
  | .hbm => 3
  | .vmem => 5
  | .smem => 1
  | _ => 0

abbrev bufTy : (tb : Table) → Fin (tcTables nBuf tb) → BufTy
  | .hbm, ⟨0, _⟩ => ⟨S2048x4096, .bf16⟩
  | .hbm, ⟨1, _⟩ => ⟨S4096x7424, .bf16⟩
  | .hbm, ⟨2, _⟩ => ⟨S4x2048x2048, .bf16⟩
  | .local _ .vmem, ⟨0, _⟩ => ⟨S2048x4096, .bf16⟩
  | .local _ .vmem, ⟨1, _⟩ => ⟨S4096x256, .bf16⟩
  | .local _ .vmem, ⟨2, _⟩ => ⟨S4096x256, .bf16⟩
  | .local _ .vmem, ⟨3, _⟩ => ⟨S1x2048x256, .bf16⟩
  | .local _ .vmem, ⟨4, _⟩ => ⟨S1x2048x256, .bf16⟩
  | .local _ .smem, ⟨0, _⟩ => ⟨S32, .i32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 8], ![false, false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg2 : BitVec 32 := BitVec.ofNat 32 (i 2).val
  let v1 : BitVec 32 := Scalar.addi v0 arg2
  let v2 : Index := Scalar.indexCast v1
  ![v2.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let v2 : Index := Scalar.indexCast v1
  let v3 : BitVec 32 := pf.at 0 (Rect.unit (s := S32) ![v2.toNat] S1.size (k0_off1_inb i)) numel1_S1
  let c0_i32 : BitVec 32 := 0#32
  let c0_i32_0 : BitVec 32 := 0#32
  ![c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference9Ideal.lean ====
abbrev S2048x4096 : Shape := ⟨2, ![2048, 4096]⟩
abbrev S4096x7424 : Shape := ⟨2, ![4096, 7424]⟩
abbrev S4096x2048 : Shape := ⟨2, ![4096, 2048]⟩
abbrev S_ : Shape := ⟨0, ![]⟩
abbrev S2048x7424 : Shape := ⟨2, ![2048, 7424]⟩
abbrev S7424x2048 : Shape := ⟨2, ![7424, 2048]⟩
abbrev S2048x256 : Shape := ⟨2, ![2048, 256]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x7424, .bf16⟩
  | .hbm, ⟨2, _⟩ => ⟨S4096x2048, .bf16⟩
  | .hbm, ⟨3, _⟩ => ⟨S4096x2048, .f32⟩
  | .hbm, ⟨4, _⟩ => ⟨S_, .f32⟩
  | .hbm, ⟨5, _⟩ => ⟨S2048x7424, .f32⟩
  | .hbm, ⟨6, _⟩ => ⟨S4096x7424, .f32⟩
  | .hbm, ⟨7, _⟩ => ⟨S4096x7424, .f32⟩
  | .hbm, ⟨8, _⟩ => ⟨S7424x2048, .f32⟩
  | .hbm, ⟨9, _⟩ => ⟨S2048x7424, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S2048x2048, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x2048, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x2048, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S2048x2048, .f32⟩
  | .hbm, ⟨46, _⟩ => ⟨S1x2048x2048, .f32⟩
  | .hbm, ⟨47, _⟩ => ⟨S1x2048x2048, .f32⟩
  | .hbm, ⟨48, _⟩ => ⟨S1x2048x2048, .f32⟩
  | .hbm, ⟨49, _⟩ => ⟨S1x2048x2048, .f32⟩
  | .hbm, ⟨50, _⟩ => ⟨S4x2048x2048, .f32⟩
  | .hbm, ⟨51, _⟩ => ⟨S4x2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩

abbrev nD : Nat := 1
abbrev τ : Topo := Topo.v7x

variable {F : FTy → Type} [FloatOps F]
-- ==== Kernel10.lean ====
abbrev S4096x7168 : Shape := ⟨2, ![4096, 7168]⟩
abbrev S4096x3072 : Shape := ⟨2, ![4096, 3072]⟩
abbrev S4x3072 : Shape := ⟨2, ![4, 3072]⟩
abbrev S4096x7424 : Shape := ⟨2, ![4096, 7424]⟩
abbrev S8x3072 : Shape := ⟨2, ![8, 3072]⟩
abbrev S256x3072 : Shape := ⟨2, ![256, 3072]⟩
abbrev S264x3072 : Shape := ⟨2, ![264, 3072]⟩
abbrev S1x3072 : Shape := ⟨2, ![1, 3072]⟩
abbrev S3072 : Shape := ⟨1, ![3072]⟩

abbrev nBuf : Space → Nat
  | .hbm => 6
  | .vmem => 12
  | .smem => 0
  | _ => 0

abbrev bufTy : (tb : Table) → Fin (tcTables nBuf tb) → BufTy
  | .hbm, ⟨0, _⟩ => ⟨S4096x7168, .f32⟩
  | .hbm, ⟨1, _⟩ => ⟨S4096x3072, .f32⟩
  | .hbm, ⟨2, _⟩ => ⟨S4x3072, .f32⟩
  | .hbm, ⟨3, _⟩ => ⟨S4096x7424, .bf16⟩
  | .hbm, ⟨4, _⟩ => ⟨S4096x7424, .bf16⟩
  | .hbm, ⟨5, _⟩ => ⟨S8x3072, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S256x3072, .f32⟩
  | .local _ .vmem, ⟨5, _⟩ => ⟨S256x3072, .f32⟩
  | .local _ .vmem, ⟨6, _⟩ => ⟨S8x3072, .f32⟩
  | .local _ .vmem, ⟨7, _⟩ => ⟨S8x3072, .f32⟩
  | .local _ .vmem, ⟨8, _⟩ => ⟨S4x3072, .f32⟩
  | .local _ .vmem, ⟨9, _⟩ => ⟨S256x3072, .bf16⟩
  | .local _ .vmem, ⟨10, _⟩ => ⟨S256x3072, .bf16⟩
  | .local _ .vmem, ⟨11, _⟩ => ⟨S8x3072, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_17 : BitVec 32 := 0#32
  let v58 : BitVec 1 := Scalar.cmpi .eq arg0 c0_i32_17
  let v59 : BitVec 32 := Scalar.extui v58
  let c0_i32_18 : BitVec 32 := 0#32
  let v60 : BitVec 1 := Scalar.cmpi .ne v59 c0_i32_18
  v60

def k0_cond2 (i : grid0.Coords) : BitVec 1 :=
  let arg0 : BitVec 32 := BitVec.ofNat 32 (i 0).val
  let c0_i32_19 : BitVec 32 := 0#32
  let v61 : BitVec 1 := Scalar.cmpi .sgt arg0 c0_i32_19
  let v62 : BitVec 32 := Scalar.extui v61
  let c0_i32_20 : BitVec 32 := 0#32
  let v63 : BitVec 1 := Scalar.cmpi .ne v62 c0_i32_20
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x7168 : Shape := ⟨2, ![4096, 7168]⟩
abbrev S4096x3072 : Shape := ⟨2, ![4096, 3072]⟩
abbrev S4x3072 : Shape := ⟨2, ![4, 3072]⟩
abbrev S4096x7424 : Shape := ⟨2, ![4096, 7424]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x4352 : Shape := ⟨2, ![4096, 4352]⟩
abbrev S8x3072 : Shape := ⟨2, ![8, 3072]⟩

abbrev nBuf : Space → Nat
  | .hbm => 105
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x3072, .f32⟩
  | .hbm, ⟨2, _⟩ => ⟨S4x3072, .f32⟩
  | .hbm, ⟨3, _⟩ => ⟨S4096x7424, .bf16⟩
  | .hbm, ⟨4, _⟩ => ⟨S4096x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S_, .f32⟩
  | .hbm, ⟨9, _⟩ => ⟨S3x3072, .f32⟩
  | .hbm, ⟨10, _⟩ => ⟨S1x3072, .f32⟩
  | .hbm, ⟨11, _⟩ => ⟨S3072, .f32⟩
  | .hbm, ⟨12, _⟩ => ⟨S4096x3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S1x3072, .f32⟩
  | .hbm, ⟨17, _⟩ => ⟨S3072, .f32⟩
  | .hbm, ⟨18, _⟩ => ⟨S4096x3072, .f32⟩
  | .hbm, ⟨19, _⟩ => ⟨S1x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S4096x3072, .f32⟩
  | .hbm, ⟨25, _⟩ => ⟨S1x3072, .f32⟩
  | .hbm, ⟨26, _⟩ => ⟨S4096x3072, .f32⟩
  | .hbm, ⟨27, _⟩ => ⟨S4096x3072, .f32⟩
  | .hbm, ⟨28, _⟩ => ⟨S1x3072, .f32⟩
  | .hbm, ⟨29, _⟩ => ⟨S3072, .f32⟩
  | .hbm, ⟨30, _⟩ => ⟨S4096x3072, .f32⟩
  | .hbm, ⟨31, _⟩ => ⟨S1x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S3072, .f32⟩
  | .hbm, ⟨44, _⟩ => ⟨S1x3072, .f32⟩
  | .hbm, ⟨45, _⟩ => ⟨S_, .f32⟩
  | .hbm, ⟨46, _⟩ => ⟨S3072, .f32⟩
  | .hbm, ⟨47, _⟩ => ⟨S_, .f32⟩
  | .hbm, ⟨48, _⟩ => ⟨S4099x3072, .f32⟩
  | .hbm, ⟨49, _⟩ => ⟨S1x3072, .f32⟩
  | .hbm, ⟨50, _⟩ => ⟨S_, .f32⟩
  | .hbm, ⟨51, _⟩ => ⟨S4x3072, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S_, .f32⟩
  | .hbm, ⟨56, _⟩ => ⟨S3072, .f32⟩
  | .hbm, ⟨57, _⟩ => ⟨S1x3072, .f32⟩
  | .hbm, ⟨58, _⟩ => ⟨S_, .f32⟩
  | .hbm, ⟨59, _⟩ => ⟨S3072, .f32⟩
  | .hbm, ⟨60, _⟩ => ⟨S_, .f32⟩
  | .hbm, ⟨61, _⟩ => ⟨S4099x3072, .f32⟩
  | .hbm, ⟨62, _⟩ => ⟨S4099x3072, .f32⟩
  | .hbm, ⟨63, _⟩ => ⟨S1x3072, .f32⟩
  | .hbm, ⟨64, _⟩ => ⟨S_, .f32⟩
  | .hbm, ⟨65, _⟩ => ⟨S4x3072, .f32⟩
  | .hbm, ⟨66, _⟩ => ⟨S4x3072, .f32⟩
  | .hbm, ⟨67, _⟩ => ⟨S4096x3072, .f32⟩
  | .hbm, ⟨68, _⟩ => ⟨S4096x3072, .f32⟩
  | .hbm, ⟨69, _⟩ => ⟨S4096x3072, .f32⟩
  | .hbm, ⟨70, _⟩ => ⟨S_, .f32⟩
  | .hbm, ⟨71, _⟩ => ⟨S3072, .f32⟩
  | .hbm, ⟨72, _⟩ => ⟨S1x3072, .f32⟩
  | .hbm, ⟨73, _⟩ => ⟨S_, .f32⟩
  | .hbm, ⟨74, _⟩ => ⟨S3072, .f32⟩
  | .hbm, ⟨75, _⟩ => ⟨S_, .f32⟩
  | .hbm, ⟨76, _⟩ => ⟨S4099x3072, .f32⟩
  | .hbm, ⟨77, _⟩ => ⟨S4099x3072, .f32⟩
  | .hbm, ⟨78, _⟩ => ⟨S1x3072, .f32⟩
  | .hbm, ⟨79, _⟩ => ⟨S_, .f32⟩
  | .hbm, ⟨80, _⟩ => ⟨S4x3072, .f32⟩
  | .hbm, ⟨81, _⟩ => ⟨S4x3072, .f32⟩
  | .hbm, ⟨82, _⟩ => ⟨S4096x3072, .f32⟩
  | .hbm, ⟨83, _⟩ => ⟨S4096x3072, .f32⟩
  | .hbm, ⟨84, _⟩ => ⟨S4096x3072, .f32⟩
  | .hbm, ⟨85, _⟩ => ⟨S_, .f32⟩
  | .hbm, ⟨86, _⟩ => ⟨S3072, .f32⟩
  | .hbm, ⟨87, _⟩ => ⟨S1x3072, .f32⟩
  | .hbm, ⟨88, _⟩ => ⟨S_, .f32⟩
  | .hbm, ⟨89, _⟩ => ⟨S3072, .f32⟩
  | .hbm, ⟨90, _⟩ => ⟨S_, .f32⟩
  | .hbm, ⟨91, _⟩ => ⟨S4099x3072, .f32⟩
  | .hbm, ⟨92, _⟩ => ⟨S4099x3072, .f32⟩
  | .hbm, ⟨93, _⟩ => ⟨S1x3072, .f32⟩
  | .hbm, ⟨94, _⟩ => ⟨S_, .f32⟩
  | .hbm, ⟨95, _⟩ => ⟨S4x3072, .f32⟩
  | .hbm, ⟨96, _⟩ => ⟨S4x3072, .f32⟩
  | .hbm, ⟨97, _⟩ => ⟨S3x3072, .f32⟩
  | .hbm, ⟨98, _⟩ => ⟨S4096x3072, .f32⟩
  | .hbm, ⟨99, _⟩ => ⟨S4096x3072, .bf16⟩
  | .hbm, ⟨100, _⟩ => ⟨S4096x4352, .bf16⟩
  | .hbm, ⟨101, _⟩ => ⟨S4096x7424, .bf16⟩
  | .hbm, ⟨102, _⟩ => ⟨S_, .i32⟩
  | .hbm, ⟨103, _⟩ => ⟨S_, .f32⟩
  | .hbm, ⟨104, _⟩ => ⟨S8x3072, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c : Ref sig .tc := ⟨.hbm, 102, rfl⟩
abbrev main_call0_v0 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Kernel11.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S28736x128 : Shape := ⟨2, ![28736, 128]⟩
abbrev S3592x128 : Shape := ⟨2, ![3592, 128]⟩

abbrev nBuf : Space → Nat
  | .hbm => 7
  | .vmem => 14
  | .smem => 0
  | _ => 0

abbrev bufTy : (tb : Table) → Fin (tcTables nBuf tb) → BufTy
  | .hbm, ⟨0, _⟩ => ⟨S28736x128, .f32⟩
  | .hbm, ⟨1, _⟩ => ⟨S28736x128, .f32⟩
  | .hbm, ⟨2, _⟩ => ⟨S28736x128, .f32⟩
  | .hbm, ⟨3, _⟩ => ⟨S28736x128, .f32⟩
  | .hbm, ⟨4, _⟩ => ⟨S28736x128, .f32⟩
  | .hbm, ⟨5, _⟩ => ⟨S28736x128, .f32⟩
  | .hbm, ⟨6, _⟩ => ⟨S28736x128, .f32⟩
  | .local _ .vmem, ⟨0, _⟩ => ⟨S3592x128, .f32⟩
  | .local _ .vmem, ⟨1, _⟩ => ⟨S3592x128, .f32⟩
  | .local _ .vmem, ⟨2, _⟩ => ⟨S3592x128, .f32⟩
  | .local _ .vmem, ⟨3, _⟩ => ⟨S3592x128, .f32⟩
  | .local _ .vmem, ⟨4, _⟩ => ⟨S3592x128, .f32⟩
  | .local _ .vmem, ⟨5, _⟩ => ⟨S3592x128, .f32⟩
  | .local _ .vmem, ⟨6, _⟩ => ⟨S3592x128, .f32⟩
  | .local _ .vmem, ⟨7, _⟩ => ⟨S3592x128, .f32⟩
  | .local _ .vmem, ⟨8, _⟩ => ⟨S3592x128, .f32⟩
  | .local _ .vmem, ⟨9, _⟩ => ⟨S3592x128, .f32⟩
  | .local _ .vmem, ⟨10, _⟩ => ⟨S3592x128, .f32⟩
  | .local _ .vmem, ⟨11, _⟩ => ⟨S3592x128, .f32⟩
  | .local _ .vmem, ⟨12, _⟩ => ⟨S3592x128, .f32⟩
  | .local _ .vmem, ⟨13, _⟩ => ⟨S3592x128, .f32⟩
  | _, _ => ⟨S28736x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3592x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3592x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3592x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3592x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3592x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3592x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3592x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S28736x128 : Shape := ⟨2, ![28736, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S28736x128, .f32⟩
  | .hbm, ⟨1, _⟩ => ⟨S28736x128, .f32⟩
  | .hbm, ⟨2, _⟩ => ⟨S28736x128, .f32⟩
  | .hbm, ⟨3, _⟩ => ⟨S28736x128, .f32⟩
  | .hbm, ⟨4, _⟩ => ⟨S_, .f32⟩
  | .hbm, ⟨5, _⟩ => ⟨S28736x128, .f32⟩
  | .hbm, ⟨6, _⟩ => ⟨S28736x128, .f32⟩
  | .hbm, ⟨7, _⟩ => ⟨S_, .f32⟩
  | .hbm, ⟨8, _⟩ => ⟨S28736x128, .f32⟩
  | .hbm, ⟨9, _⟩ => ⟨S28736x128, .f32⟩
  | .hbm, ⟨10, _⟩ => ⟨S28736x128, .f32⟩
  | .hbm, ⟨11, _⟩ => ⟨S_, .f32⟩
  | .hbm, ⟨12, _⟩ => ⟨S28736x128, .f32⟩
  | .hbm, ⟨13, _⟩ => ⟨S28736x128, .f32⟩
  | .hbm, ⟨14, _⟩ => ⟨S28736x128, .f32⟩
  | .hbm, ⟨15, _⟩ => ⟨S_, .f32⟩
  | .hbm, ⟨16, _⟩ => ⟨S28736x128, .f32⟩
  | .hbm, ⟨17, _⟩ => ⟨S28736x128, .f32⟩
  | .hbm, ⟨18, _⟩ => ⟨S28736x128, .f32⟩
  | .hbm, ⟨19, _⟩ => ⟨S_, .f32⟩
  | .hbm, ⟨20, _⟩ => ⟨S28736x128, .f32⟩
  | .hbm, ⟨21, _⟩ => ⟨S28736x128, .f32⟩
  | .hbm, ⟨22, _⟩ => ⟨S_, .f32⟩
  | .hbm, ⟨23, _⟩ => ⟨S28736x128, .f32⟩
  | .hbm, ⟨24, _⟩ => ⟨S28736x128, .f32⟩
  | .hbm, ⟨25, _⟩ => ⟨S28736x128, .f32⟩
  | .hbm, ⟨26, _⟩ => ⟨S_, .f32⟩
  | .hbm, ⟨27, _⟩ => ⟨S28736x128, .f32⟩
  | .hbm, ⟨28, _⟩ => ⟨S28736x128, .f32⟩
  | .hbm, ⟨29, _⟩ => ⟨S28736x128, .f32⟩
  | .hbm, ⟨30, _⟩ => ⟨S_, .f32⟩
  | .hbm, ⟨31, _⟩ => ⟨S28736x128, .f32⟩
  | .hbm, ⟨32, _⟩ => ⟨S28736x128, .f32⟩
  | .hbm, ⟨33, _⟩ => ⟨S28736x128, .f32⟩
  | .hbm, ⟨34, _⟩ => ⟨S_, .f32⟩
  | .hbm, ⟨35, _⟩ => ⟨S28736x128, .f32⟩
  | .hbm, ⟨36, _⟩ => ⟨S28736x128, .f32⟩
  | _, _ => ⟨S28736x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4096x2048 : Shape := ⟨2, ![4096, 2048]⟩
abbrev S1x2048 : Shape := ⟨2, ![1, 2048]⟩
abbrev S2048x4096 : Shape := ⟨2, ![2048, 4096]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel14.lean ====
abbrev S1128x128 : Shape := ⟨2, ![1128, 128]⟩

abbrev nBuf : Space → Nat
  | .hbm => 7
  | .vmem => 7
  | .smem => 0
  | _ => 0

abbrev bufTy : (tb : Table) → Fin (tcTables nBuf tb) → BufTy
  | .hbm, ⟨0, _⟩ => ⟨S1128x128, .f32⟩
  | .hbm, ⟨1, _⟩ => ⟨S1128x128, .f32⟩
  | .hbm, ⟨2, _⟩ => ⟨S1128x128, .f32⟩
  | .hbm, ⟨3, _⟩ => ⟨S1128x128, .f32⟩
  | .hbm, ⟨4, _⟩ => ⟨S1128x128, .f32⟩
  | .hbm, ⟨5, _⟩ => ⟨S1128x128, .f32⟩
  | .hbm, ⟨6, _⟩ => ⟨S1128x128, .f32⟩
  | .local _ .vmem, ⟨0, _⟩ => ⟨S1128x128, .f32⟩
  | .local _ .vmem, ⟨1, _⟩ => ⟨S1128x128, .f32⟩
  | .local _ .vmem, ⟨2, _⟩ => ⟨S1128x128, .f32⟩
  | .local _ .vmem, ⟨3, _⟩ => ⟨S1128x128, .f32⟩
  | .local _ .vmem, ⟨4, _⟩ => ⟨S1128x128, .f32⟩
  | .local _ .vmem, ⟨5, _⟩ => ⟨S1128x128, .f32⟩
  | .local _ .vmem, ⟨6, _⟩ => ⟨S1128x128, .f32⟩
  | _, _ => ⟨S1128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S1128x128 : Shape := ⟨2, ![1128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1128x128, .f32⟩
  | .hbm, ⟨1, _⟩ => ⟨S1128x128, .f32⟩
  | .hbm, ⟨2, _⟩ => ⟨S1128x128, .f32⟩
  | .hbm, ⟨3, _⟩ => ⟨S1128x128, .f32⟩
  | .hbm, ⟨4, _⟩ => ⟨S_, .f32⟩
  | .hbm, ⟨5, _⟩ => ⟨S1128x128, .f32⟩
  | .hbm, ⟨6, _⟩ => ⟨S1128x128, .f32⟩
  | .hbm, ⟨7, _⟩ => ⟨S_, .f32⟩
  | .hbm, ⟨8, _⟩ => ⟨S1128x128, .f32⟩
  | .hbm, ⟨9, _⟩ => ⟨S1128x128, .f32⟩
  | .hbm, ⟨10, _⟩ => ⟨S1128x128, .f32⟩
  | .hbm, ⟨11, _⟩ => ⟨S_, .f32⟩
  | .hbm, ⟨12, _⟩ => ⟨S1128x128, .f32⟩
  | .hbm, ⟨13, _⟩ => ⟨S1128x128, .f32⟩
  | .hbm, ⟨14, _⟩ => ⟨S1128x128, .f32⟩
  | .hbm, ⟨15, _⟩ => ⟨S_, .f32⟩
  | .hbm, ⟨16, _⟩ => ⟨S1128x128, .f32⟩
  | .hbm, ⟨17, _⟩ => ⟨S1128x128, .f32⟩
  | .hbm, ⟨18, _⟩ => ⟨S1128x128, .f32⟩
  | .hbm, ⟨19, _⟩ => ⟨S_, .f32⟩
  | .hbm, ⟨20, _⟩ => ⟨S1128x128, .f32⟩
  | .hbm, ⟨21, _⟩ => ⟨S1128x128, .f32⟩
  | .hbm, ⟨22, _⟩ => ⟨S_, .f32⟩
  | .hbm, ⟨23, _⟩ => ⟨S1128x128, .f32⟩
  | .hbm, ⟨24, _⟩ => ⟨S1128x128, .f32⟩
  | .hbm, ⟨25, _⟩ => ⟨S1128x128, .f32⟩
  | .hbm, ⟨26, _⟩ => ⟨S_, .f32⟩
  | .hbm, ⟨27, _⟩ => ⟨S1128x128, .f32⟩
  | .hbm, ⟨28, _⟩ => ⟨S1128x128, .f32⟩
  | .hbm, ⟨29, _⟩ => ⟨S1128x128, .f32⟩
  | .hbm, ⟨30, _⟩ => ⟨S_, .f32⟩
  | .hbm, ⟨31, _⟩ => ⟨S1128x128, .f32⟩
  | .hbm, ⟨32, _⟩ => ⟨S1128x128, .f32⟩
  | .hbm, ⟨33, _⟩ => ⟨S1128x128, .f32⟩
  | .hbm, ⟨34, _⟩ => ⟨S_, .f32⟩
  | .hbm, ⟨35, _⟩ => ⟨S1128x128, .f32⟩
  | .hbm, ⟨36, _⟩ => ⟨S1128x128, .f32⟩
  | _, _ => ⟨S1128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S8x4096x128 : Shape := ⟨3, ![8, 4096, 128]⟩
abbrev S4096x7168 : Shape := ⟨2, ![4096, 7168]⟩
abbrev S1x128 : Shape := ⟨2, ![1, 128]⟩
abbrev S4096x1024 : Shape := ⟨2, ![4096, 1024]⟩
abbrev S1024x4096 : Shape := ⟨2, ![1024, 4096]⟩
abbrev S8x512x128 : Shape := ⟨3, ![8, 512, 128]⟩
abbrev S512x1024 : Shape := ⟨2, ![512, 1024]⟩
abbrev S1024x512 : Shape := ⟨2, ![1024, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x4096x128, .f32⟩
  | .hbm, ⟨1, _⟩ => ⟨S4096x7168, .f32⟩
  | .hbm, ⟨2, _⟩ => ⟨S1x128, .f32⟩
  | .hbm, ⟨3, _⟩ => ⟨S4096x1024, .bf16⟩
  | .hbm, ⟨4, _⟩ => ⟨S1024x4096, .bf16⟩
  | .local _ .vmem, ⟨0, _⟩ => ⟨S8x512x128, .f32⟩
  | .local _ .vmem, ⟨1, _⟩ => ⟨S8x512x128, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S1024x512, .bf16⟩
  | .local _ .vmem, ⟨8, _⟩ => ⟨S1024x512, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S8x4096x128 : Shape := ⟨3, ![8, 4096, 128]⟩
abbrev S4096x7168 : Shape := ⟨2, ![4096, 7168]⟩
abbrev S1x128 : Shape := ⟨2, ![1, 128]⟩
abbrev S4096x1024 : Shape := ⟨2, ![4096, 1024]⟩
abbrev S4096x8x128 : Shape := ⟨3, ![4096, 8, 128]⟩
abbrev S128 : Shape := ⟨1, ![128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1024x4096 : Shape := ⟨2, ![1024, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S4096x7168, .f32⟩
  | .hbm, ⟨2, _⟩ => ⟨S1x128, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S128, .f32⟩
  | .hbm, ⟨7, _⟩ => ⟨S4096x8x128, .f32⟩
  | .hbm, ⟨8, _⟩ => ⟨S_, .f32⟩
  | .hbm, ⟨9, _⟩ => ⟨S4096x8, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S_, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S4096x8x128, .f32⟩
  | .hbm, ⟨19, _⟩ => ⟨S4096x8x128, .f32⟩
  | .hbm, ⟨20, _⟩ => ⟨S1x1x128, .f32⟩
  | .hbm, ⟨21, _⟩ => ⟨S4096x8x128, .f32⟩
  | .hbm, ⟨22, _⟩ => ⟨S4096x8x128, .f32⟩
  | .hbm, ⟨23, _⟩ => ⟨S4096x8x128, .f32⟩
  | .hbm, ⟨24, _⟩ => ⟨S4096x8x128, .f32⟩
  | .hbm, ⟨25, _⟩ => ⟨S_, .f32⟩
  | .hbm, ⟨26, _⟩ => ⟨S4096x8x128, .f32⟩
  | .hbm, ⟨27, _⟩ => ⟨S4096x8x128, .f32⟩
  | .hbm, ⟨28, _⟩ => ⟨S_, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S4096x8x128, .f32⟩
  | .hbm, ⟨33, _⟩ => ⟨S4096x1024, .f32⟩
  | .hbm, ⟨34, _⟩ => ⟨S4096x1024, .bf16⟩
  | .hbm, ⟨35, _⟩ => ⟨S1024x4096, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel16.lean ====
abbrev S4096x7168 : Shape := ⟨2, ![4096, 7168]⟩
abbrev S1x1024 : Shape := ⟨2, ![1, 1024]⟩
abbrev S8x128x128 : Shape := ⟨3, ![8, 128, 128]⟩
abbrev S8x128 : Shape := ⟨2, ![8, 128]⟩
abbrev S8x128x1 : Shape := ⟨3, ![8, 128, 1]⟩
abbrev S4096x1024 : Shape := ⟨2, ![4096, 1024]⟩
abbrev S1024x4096 : Shape := ⟨2, ![1024, 4096]⟩
abbrev S256x1024 : Shape := ⟨2, ![256, 1024]⟩
abbrev S1024x256 : Shape := ⟨2, ![1024, 256]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S256x128 : Shape := ⟨2, ![256, 128]⟩

abbrev nBuf : Space → Nat
  | .hbm => 9
  | .vmem => 14
  | .smem => 0
  | _ => 0

abbrev bufTy : (tb : Table) → Fin (tcTables nBuf tb) → BufTy
  | .hbm, ⟨0, _⟩ => ⟨S4096x7168, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S8x128x1, .f32⟩
  | .hbm, ⟨6, _⟩ => ⟨S8x128x128, .f32⟩
  | .hbm, ⟨7, _⟩ => ⟨S4096x1024, .bf16⟩
  | .hbm, ⟨8, _⟩ => ⟨S1024x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S256x1024, .bf16⟩
  | .local _ .vmem, ⟨11, _⟩ => ⟨S256x1024, .bf16⟩
  | .local _ .vmem, ⟨12, _⟩ => ⟨S1024x256, .bf16⟩
  | .local _ .vmem, ⟨13, _⟩ => ⟨S1024x256, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S4096x7168 : Shape := ⟨2, ![4096, 7168]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S1024x4096 : Shape := ⟨2, ![1024, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S32x128x8x128, .f32⟩
  | .hbm, ⟨40, _⟩ => ⟨S_, .i1⟩
  | .hbm, ⟨41, _⟩ => ⟨S128x128, .i1⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S_, .i1⟩
  | .hbm, ⟨49, _⟩ => ⟨S128x128, .i1⟩
  | .hbm, ⟨50, _⟩ => ⟨S128x128, .i1⟩
  | .hbm, ⟨51, _⟩ => ⟨S1x128x128, .i1⟩
  | .hbm, ⟨52, _⟩ => ⟨S_, .f32⟩
  | .hbm, ⟨53, _⟩ => ⟨S_, .f32⟩
  | .hbm, ⟨54, _⟩ => ⟨S8x128x128, .i1⟩
  | .hbm, ⟨55, _⟩ => ⟨S8x128x128, .f32⟩
  | .hbm, ⟨56, _⟩ => ⟨S8x128x128, .f32⟩
  | .hbm, ⟨57, _⟩ => ⟨S8x32x128x128, .f32⟩
  | .hbm, ⟨58, _⟩ => ⟨S32x128x8x128, .f32⟩
  | .hbm, ⟨59, _⟩ => ⟨S128x8, .f32⟩
  | .hbm, ⟨60, _⟩ => ⟨S1x128x8x1, .f32⟩
  | .hbm, ⟨61, _⟩ => ⟨S32x128x8x128, .f32⟩
  | .hbm, ⟨62, _⟩ => ⟨S32x128x8x128, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S1024x4096, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_0 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== Proof.Spec.lean ====
/- The chunked gated delta rule of one head, over the extended reals: what one block of 64 rows computes (forward and
   backward), and the states a whole run of blocks passes through. Nothing here names a program. -/
module

public import Idealize.ShloMosaic.Lib.Pointwise

@[expose] public section

noncomputable section

namespace Cert.Delta

/-- A head's state: key axis by value axis. -/
abbrev Mat := Fin 128 → Fin 128 → EReal
/-- A block of one head: 64 rows of 128 lanes. -/
abbrev Blk := Fin 64 → Fin 128 → EReal
/-- A block's 64 by 64 attention scores. -/
abbrev Att := Fin 64 → Fin 64 → EReal

/-- The block's corrected values: `u - w S`. -/
def corr (U W : Blk) (S : Mat) : Blk := fun c e => U c e - ∑ d, W c d * S d e

/-- The block's output: `q S + a v`. -/
def outp (Q : Blk) (A : Att) (S : Mat) (V : Blk) : Blk := fun c e => (∑ d, Q c d * S d e) + ∑ j, A c j * V j e

/-- The state after the block: `S g + kᵀ v`. -/
def next (K : Blk) (g : Fin 128 → EReal) (S : Mat) (V : Blk) : Mat := fun d e => S d e * g e + ∑ c, K c d * V c e

/-- Row `c` of block `n` in an array of 4096 rows. -/
def row (n : ℕ) (c : Fin 64) : Fin 4096 := ⟨(64 * n + c) % 4096, Nat.mod_lt _ (by decide)⟩

/-- Block `n` of a head's rows. -/
def blk (X : Fin 4096 → Fin 128 → EReal) (n : ℕ) : Blk := fun c d => X (row n c) d

/-- The 64 by 64 scores of block `n`: its own columns of the 128 the array keeps per row. -/
def dia (X : Fin 4096 → Fin 128 → EReal) (n : ℕ) : Att := fun c j => X (row n c) ⟨64 * (n % 2) + j, by omega⟩

/-- The decay of block `n`. -/
def gat (G : Fin 32 → Fin 2 → Fin 128 → EReal) (n : ℕ) : Fin 128 → EReal :=
  fun e => G ⟨n / 2 % 32, Nat.mod_lt _ (by decide)⟩ ⟨n % 2, Nat.mod_lt _ (by decide)⟩ e

/-- The state before block `n`, from zero. -/
def state (K U W : Fin 4096 → Fin 128 → EReal) (G : Fin 32 → Fin 2 → Fin 128 → EReal) : ℕ → Mat
  | 0 => fun _ _ => 0
  | n + 1 => next (blk K n) (gat G n) (state K U W G n) (corr (blk U n) (blk W n) (state K U W G n))

/-- The corrected values of block `n`. -/
def vals (K U W : Fin 4096 → Fin 128 → EReal) (G : Fin 32 → Fin 2 → Fin 128 → EReal) (n : ℕ) : Blk :=
  corr (blk U n) (blk W n) (state K U W G n)

/-- The output of block `n`. -/
def outs (Q K U W A : Fin 4096 → Fin 128 → EReal) (G : Fin 32 → Fin 2 → Fin 128 → EReal) (n : ℕ) : Blk :=
  outp (blk Q n) (dia A n) (state K U W G n) (vals K U W G n)

theorem state_succ (K U W : Fin 4096 → Fin 128 → EReal) (G : Fin 32 → Fin 2 → Fin 128 → EReal) (n : ℕ) :
    state K U W G (n + 1) = next (blk K n) (gat G n) (state K U W G n) (vals K U W G n) := rfl

/-! The gradient of one block, with `S` the state before it, `V` its corrected values, `Y` the gradient of its output and
    `D` the gradient of the state after it. -/

/-- The gradient of the corrected values: `k D + aᵀ Y`. -/
def dcorr (K : Blk) (A : Att) (Y : Blk) (D : Mat) : Blk := fun c e => (∑ d, K c d * D d e) + ∑ i, A i c * Y i e

/-- The gradient of the queries: `Y Sᵀ`. -/
def dq (S : Mat) (Y : Blk) : Blk := fun c d => ∑ e, Y c e * S d e

/-- The gradient of the keys: `v Dᵀ`. -/
def dk (V : Blk) (D : Mat) : Blk := fun c d => ∑ e, V c e * D d e

/-- The gradient of `w`: `-(dv) Sᵀ`. -/
def dw (S : Mat) (E : Blk) : Blk := fun c d => ∑ e, -E c e * S d e

/-- The gradient of the scores: `Y vᵀ`. -/
def da (V Y : Blk) : Att := fun c j => ∑ e, Y c e * V j e

/-- Scores of block `n` put at its own 64 of a row's 128 columns, zero elsewhere. -/
def spread (n : ℕ) (a : Att) : Blk := fun c k => if k.val / 64 = n % 2 then a c ⟨k % 64, Nat.mod_lt _ (by decide)⟩ else 0

/-- A row's products against values whose first 64 rows are zero, and against values whose last 64 are. -/
theorem sum_last (y : Fin 128 → EReal) (v : Fin 64 → Fin 128 → EReal) (k : Fin 128) :
    (∑ x, y x * if h : k.val < 64 then 0 else v ⟨k - 64, by omega⟩ x)
      = if k.val / 64 = 1 then ∑ x, y x * v ⟨k % 64, Nat.mod_lt _ (by decide)⟩ x else 0 := by
  by_cases hk : k.val < 64
  · rw [if_neg (by omega)]; exact Finset.sum_eq_zero fun x _ => by rw [dif_pos hk, mul_zero]
  · rw [if_pos (by omega)]
    refine Finset.sum_congr rfl fun x _ => ?_
    rw [dif_neg hk]
    exact congrArg (fun j => y x * v j x) (Fin.ext (by dsimp only; omega))

theorem sum_first (y : Fin 128 → EReal) (v : Fin 64 → Fin 128 → EReal) (k : Fin 128) :
    (∑ x, y x * if h : k.val < 64 then v ⟨k, h⟩ x else 0)
      = if k.val / 64 = 0 then ∑ x, y x * v ⟨k % 64, Nat.mod_lt _ (by decide)⟩ x else 0 := by
  by_cases hk : k.val < 64
  · rw [if_pos (by omega)]
    refine Finset.sum_congr rfl fun x _ => ?_
    rw [dif_pos hk]
    exact congrArg (fun j => y x * v j x) (Fin.ext (by dsimp only; omega))
  · rw [if_neg (by omega)]; exact Finset.sum_eq_zero fun x _ => by rw [dif_neg hk, mul_zero]

/-- The gradient of the decay: the sum over the key axis of `S D`. -/
def dg (S D : Mat) : Fin 128 → EReal := fun e => ∑ d, S d e * D d e

/-- The gradient of the state before the block: `D g + qᵀ Y + wᵀ (-dv)`. -/
def dstate (Q W : Blk) (g : Fin 128 → EReal) (D : Mat) (Y E : Blk) : Mat :=
  fun d e => D d e * g e + (∑ c, Q c d * Y c e) + ∑ c, W c d * -E c e

/-- The gradient of the state after block `63 - n`, going backward from zero after the last block. -/
def dstates (Q K W A Y : Fin 4096 → Fin 128 → EReal) (G : Fin 32 → Fin 2 → Fin 128 → EReal) : ℕ → Mat
  | 0 => fun _ _ => 0
  | n + 1 => dstate (blk Q (63 - n)) (blk W (63 - n)) (gat G (63 - n)) (dstates Q K W A Y G n) (blk Y (63 - n))
      (dcorr (blk K (63 - n)) (dia A (63 - n)) (blk Y (63 - n)) (dstates Q K W A Y G n))

/-! The gradients of block `63 - n`, the block that trip `n` of the backward pass treats, from the saved states `S` and the
    gradient `Y` of the outputs. -/

/-- The saved state before block `n`. -/
def sav (S : Fin 32 → Fin 2 → Mat) (n : ℕ) : Mat := S ⟨n / 2 % 32, Nat.mod_lt _ (by decide)⟩ ⟨n % 2, Nat.mod_lt _ (by decide)⟩

section grads
variable (Q K U W A Y : Fin 4096 → Fin 128 → EReal) (G : Fin 32 → Fin 2 → Fin 128 → EReal) (S : Fin 32 → Fin 2 → Mat) (n : ℕ)

/-- The block's corrected values, from the saved state. -/
def gV : Blk := corr (blk U (63 - n)) (blk W (63 - n)) (sav S (63 - n))
/-- The gradients of its corrected values (which is that of `u`), queries, keys, `w`, scores and decay. -/
def gE : Blk := dcorr (blk K (63 - n)) (dia A (63 - n)) (blk Y (63 - n)) (dstates Q K W A Y G n)
def gQ : Blk := dq (sav S (63 - n)) (blk Y (63 - n))
def gK : Blk := dk (gV U W S n) (dstates Q K W A Y G n)
def gW : Blk := dw (sav S (63 - n)) (gE Q K W A Y G n)
def gA : Blk := spread (63 - n) (da (gV U W S n) (blk Y (63 - n)))
def gG : Fin 128 → EReal := dg (sav S (63 - n)) (dstates Q K W A Y G n)

theorem dstates_succ : dstates Q K W A Y G (n + 1) = dstate (blk Q (63 - n)) (blk W (63 - n)) (gat G (63 - n)) (dstates Q K W A Y G n)
    (blk Y (63 - n)) (gE Q K W A Y G n) := rfl

theorem spread_of (i : ℕ) (h : n % 2 = i % 2) (a : Att) : spread n a = spread i a := by unfold spread; rw [h]

end grads

end Cert.Delta

end
-- ==== Proof.Block.lean ====
/- What one block of 64 rows computes in the forward kernel: each stored or carried tensor, read one head at a time, is
   the gated delta rule's own expression (`Cert.Delta`). -/
module

public import proofs.«01_k».proof.Proof.Spec
public import proofs.«01_k».proof.Proof.Gen.KernelIdeal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.Delta

/-- One head of a tensor of states. -/
def hM (v : S8x128x128.Idx → EReal) (h : Fin 8) : Mat := fun d e => v (ix3 h d e)
/-- One head of a tensor of blocks. -/
def hB (v : S8x64x128.Idx → EReal) (h : Fin 8) : Blk := fun c d => v (ix3 h c d)
/-- The first 64 columns of one head's scores. -/
def hL (v : S8x64x128.Idx → EReal) (h : Fin 8) : Att := fun c j => v (ix3 h c ⟨j, by omega⟩)
/-- The last 64 columns of one head's scores. -/
def hR (v : S8x64x128.Idx → EReal) (h : Fin 8) : Att := fun c j => v (ix3 h c ⟨64 + j, by omega⟩)
/-- One head's decay. -/
def hG (v : S8x1x128.Idx → EReal) (h : Fin 8) : Fin 128 → EReal := fun e => v (ix3 h 0 e)

theorem hM_apply (v : S8x128x128.Idx → EReal) (h : Fin 8) (d e : Fin 128) : v (ix3 h d e) = hM v h d e := rfl
theorem hB_apply (v : S8x64x128.Idx → EReal) (h : Fin 8) (c : Fin 64) (d : Fin 128) : v (ix3 h c d) = hB v h c d := rfl

variable (s : FVec Ideal S8x128x128 .f32) (k q w a : Vec Ideal S8x64x128 .bf16) (u : Vec Ideal S8x64x128 .f32)
  (g : FVec Ideal S8x1x128 .f32) (v : FVec Ideal S8x64x128 .f32) (h : Fin 8) (d e : Fin 128) (c : Fin 64)

/-- The corrected values of a block. -/
theorem corr_at : hB (k0_pay5 (F := Ideal) s u w) h = corr (hB u h) (hB w h) (hM s h) := by
  funext c e; show k0_pay5 (F := Ideal) s u w (ix3 h c e) = _; unfold corr hB hM; pointwise [hM, hB, hL, hR, hG, k0_pay5]

/-- The state after a block. -/
theorem next_at : hM (k0_pay7 (F := Ideal) s k g v) h = next (hB k h) (hG g h) (hM s h) (hB v h) := by
  funext d e; show k0_pay7 (F := Ideal) s k g v (ix3 h d e) = _; unfold next hB hG hM; pointwise [hM, hB, hL, hR, hG, k0_pay7]

/-- The output of a chunk's first block: the scores' first 64 columns meet its values. -/
theorem outp_first : hB (k0_pay6 (F := Ideal) s q u w a) h = outp (hB q h) (hL a h) (hM s h) (hB (k0_pay5 (F := Ideal) s u w) h) := by
  funext c e; show k0_pay6 (F := Ideal) s q u w a (ix3 h c e) = _; unfold outp hB hM; pointwise [hM, hB, hL, hR, hG, k0_pay6]
  simp only [mul_zero, Finset.sum_const_zero, add_zero]

/-- The second block's corrected values are read at the state after the first. -/
theorem corr_second : k0_pay10 (F := Ideal) s k g v u w = k0_pay5 (F := Ideal) (k0_pay7 (F := Ideal) s k g v) u w := rfl

/-- The output of a chunk's second block: the scores' last 64 columns meet its values. -/
theorem outp_second : hB (k0_pay11 (F := Ideal) s k g v q u w a) h = outp (hB q h) (hR a h) (hM (k0_pay7 (F := Ideal) s k g v) h)
    (hB (k0_pay5 (F := Ideal) (k0_pay7 (F := Ideal) s k g v) u w) h) := by
  rw [← corr_second]
  funext c e; show k0_pay11 (F := Ideal) s k g v q u w a (ix3 h c e) = _; unfold outp hB hM; pointwise [hM, hB, hL, hR, hG, k0_pay11]
  simp only [mul_zero, Finset.sum_const_zero, zero_add]

/-! The later blocks repeat the first two. -/

theorem next_12 : k0_pay12 (F := Ideal) s k g v = k0_pay7 (F := Ideal) s k g v := rfl
theorem next_17 : k0_pay17 (F := Ideal) s k g v = k0_pay7 (F := Ideal) s k g v := rfl
theorem next_1 : k0_pay1 (F := Ideal) s k g v = k0_pay7 (F := Ideal) s k g v := by
  unfold k0_pay1; dsimp only; rw [shapeCast_self]; rfl
theorem corr_15 : k0_pay15 (F := Ideal) s k g v u w = k0_pay5 (F := Ideal) (k0_pay7 (F := Ideal) s k g v) u w := rfl
theorem corr_20 : k0_pay20 (F := Ideal) s k g v u w = k0_pay5 (F := Ideal) (k0_pay7 (F := Ideal) s k g v) u w := rfl
theorem outp_16 : k0_pay16 (F := Ideal) s k g v q u w a = k0_pay6 (F := Ideal) (k0_pay7 (F := Ideal) s k g v) q u w a := rfl
theorem outp_21 : k0_pay21 (F := Ideal) s k g v q u w a = k0_pay11 (F := Ideal) s k g v q u w a := rfl

/-- A saved state is the state. -/
theorem saved_3 (h : Fin 8) (d e : Fin 128) : k0_pay3 (F := Ideal) s (ix5 0 0 h d e) = hM s h d e := by pointwise [hM, hB, hL, hR, hG, k0_pay3]
theorem saved_8 : k0_pay8 (F := Ideal) s k g v = k0_pay3 (F := Ideal) (k0_pay7 (F := Ideal) s k g v) := rfl
theorem saved_13 : k0_pay13 (F := Ideal) s k g v = k0_pay3 (F := Ideal) (k0_pay7 (F := Ideal) s k g v) := rfl
theorem saved_18 : k0_pay18 (F := Ideal) s k g v = k0_pay3 (F := Ideal) (k0_pay7 (F := Ideal) s k g v) := rfl

/-- The state the launch begins with is zero. -/
theorem zero_at : hM (k0_pay2 (F := Ideal)) h = fun _ _ => 0 := by
  funext d e; show k0_pay2 (F := Ideal) (ix3 h d e) = _; pointwise [hM, hB, hL, hR, hG, k0_pay2]

/-- The decay, read off its block. -/
theorem decay_at (x : Vec Ideal S1x8x1x128 .f32) : hG (k0_pay4 (F := Ideal) x) h = fun e => x (ix4 0 h 0 e) := by
  funext e; show k0_pay4 (F := Ideal) x (ix3 h 0 e) = _; pointwise [hM, hB, hL, hR, hG, k0_pay4]
theorem decay_9 (x : Vec Ideal S1x8x1x128 .f32) : k0_pay9 (F := Ideal) x = k0_pay4 (F := Ideal) x := rfl
theorem decay_14 (x : Vec Ideal S1x8x1x128 .f32) : k0_pay14 (F := Ideal) x = k0_pay4 (F := Ideal) x := rfl
theorem decay_19 (x : Vec Ideal S1x8x1x128 .f32) : k0_pay19 (F := Ideal) x = k0_pay4 (F := Ideal) x := rfl

end Cert.KernelIdeal.Chain

end
-- ==== Proof.Chain.lean ====
/- The forward kernel's arrays: after grid point `t` the carried state is the state before block `4 t + 4`, and the point's
   four blocks of outputs and of saved states are the recurrence's. -/
module

public import proofs.«01_k».proof.Proof.Block
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.Delta

variable (m : (ℓ : Loc nD τ sig) → Buf (Elt Ideal) ℓ)

/-! One head of each argument array. -/
abbrev aQ (c : Dev nD) (h : Fin 8) : Fin 4096 → Fin 128 → EReal := fun r d => m ((c : Thread nD τ).loc main_arg0) (ix3 h r d)
abbrev aK (c : Dev nD) (h : Fin 8) : Fin 4096 → Fin 128 → EReal := fun r d => m ((c : Thread nD τ).loc main_arg1) (ix3 h r d)
abbrev aU (c : Dev nD) (h : Fin 8) : Fin 4096 → Fin 128 → EReal := fun r d => m ((c : Thread nD τ).loc main_arg2) (ix3 h r d)
abbrev aW (c : Dev nD) (h : Fin 8) : Fin 4096 → Fin 128 → EReal := fun r d => m ((c : Thread nD τ).loc main_arg3) (ix3 h r d)
abbrev aA (c : Dev nD) (h : Fin 8) : Fin 4096 → Fin 128 → EReal := fun r d => m ((c : Thread nD τ).loc main_arg4) (ix3 h r d)
abbrev aG (c : Dev nD) (h : Fin 8) : Fin 32 → Fin 2 → Fin 128 → EReal := fun n i e => m ((c : Thread nD τ).loc main_arg5) (ix4 n h i e)

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![t.val, 0, 0, 0]
    ∧ win0_6.index t = ![0, t.val, 0] ∧ win0_7.index t = ![t.val, 0, 0, 0, 0] :=
  (by decide +kernel : ∀ t : Fin grid0.N, _)

/-- The states, values and outputs of one head, from the argument arrays. -/
abbrev st (c : Dev nD) (h : Fin 8) (n : ℕ) : Mat := state (aK m c h) (aU m c h) (aW m c h) (aG m c h) n
abbrev vl (c : Dev nD) (h : Fin 8) (n : ℕ) : Blk := vals (aK m c h) (aU m c h) (aW m c h) (aG m c h) n
abbrev ot (c : Dev nD) (h : Fin 8) (n : ℕ) : Blk := outs (aQ m c h) (aK m c h) (aU m c h) (aW m c h) (aA m c h) (aG m c h) n

section loads
variable (c : Dev nD) (t : Fin cfg0.N) (h : Fin 8)

/-! The blocks a point loads: the 64 rows of its window from `o` on are block `4 t + o / 64` of the array. -/

theorem row_eq (o : ℕ) (ho : o % 64 = 0) (hb : o + 64 ≤ 256) (r : Fin 64) :
    row (4 * t.val + o / 64) r = ⟨256 * t.val + o + r, by have ht : t.val < 16 := lt_of_lt_of_eq t.isLt N_0; omega⟩ := by
  have ht : t.val < 16 := lt_of_lt_of_eq t.isLt N_0
  unfold row; apply Fin.ext; dsimp only; omega

/-- A load of 64 rows from `o` on, at an index. -/
theorem rows_at (X : S8x256x128.Idx → EReal) (o : ℕ) (hin : ∀ a, (![0, o, 0] : Fin 3 → ℕ) a + (![8, 64, 128] : Fin 3 → ℕ) a ≤ S8x256x128.size a)
    (r : Fin 64) (d : Fin 128) :
    View.ld (Val := fun _ => EReal) (e' := .f32) X (Rect.unit (s := S8x256x128) ![0, o, 0] ![8, 64, 128] hin) (ix3 h r d)
      = X (ix3 h ⟨o + r, by have := hin 1; change o + 64 ≤ 256 at this; omega⟩ d) := by
  show X ((Rect.unit (s := S8x256x128) ![0, o, 0] ![8, 64, 128] hin).idx (ix3 h r d)) = _
  refine congrArg X (funext fun a => Fin.ext ((Rect.idx_unit_val (s := S8x256x128) ![0, o, 0] ![8, 64, 128] hin (ix3 h r d) a).trans ?_))
  fin_cases a <;> simp [ix3]

theorem ldQ (o : ℕ) (hin : ∀ a, (![0, o, 0] : Fin 3 → ℕ) a + (![8, 64, 128] : Fin 3 → ℕ) a ≤ S8x256x128.size a) (ho : o % 64 = 0) :
    hB (View.ld (iblk m c 0 t) (Rect.unit ![0, o, 0] ![8, 64, 128] hin)) h = blk (aQ m c h) (4 * t.val + o / 64) := by
  have hb : o + 64 ≤ 256 := hin 1
  have ht : t.val < 16 := lt_of_lt_of_eq t.isLt N_0
  funext r d; unfold blk; rw [row_eq t o ho hb]
  refine (rows_at h _ o hin r d).trans ?_
  blk_ext [iblk, V, idx t]
theorem ldK (o : ℕ) (hin : ∀ a, (![0, o, 0] : Fin 3 → ℕ) a + (![8, 64, 128] : Fin 3 → ℕ) a ≤ S8x256x128.size a) (ho : o % 64 = 0) :
    hB (View.ld (iblk m c 1 t) (Rect.unit ![0, o, 0] ![8, 64, 128] hin)) h = blk (aK m c h) (4 * t.val + o / 64) := by
  have hb : o + 64 ≤ 256 := hin 1
  have ht : t.val < 16 := lt_of_lt_of_eq t.isLt N_0
  funext r d; unfold blk; rw [row_eq t o ho hb]
  refine (rows_at h _ o hin r d).trans ?_
  blk_ext [iblk, V, idx t]
theorem ldU (o : ℕ) (hin : ∀ a, (![0, o, 0] : Fin 3 → ℕ) a + (![8, 64, 128] : Fin 3 → ℕ) a ≤ S8x256x128.size a) (ho : o % 64 = 0) :
    hB (View.ld (iblk m c 2 t) (Rect.unit ![0, o, 0] ![8, 64, 128] hin)) h = blk (aU m c h) (4 * t.val + o / 64) := by
  have hb : o + 64 ≤ 256 := hin 1
  have ht : t.val < 16 := lt_of_lt_of_eq t.isLt N_0
  funext r d; unfold blk; rw [row_eq t o ho hb]
  refine (rows_at h _ o hin r d).trans ?_
  blk_ext [iblk, V, idx t]
theorem ldW (o : ℕ) (hin : ∀ a, (![0, o, 0] : Fin 3 → ℕ) a + (![8, 64, 128] : Fin 3 → ℕ) a ≤ S8x256x128.size a) (ho : o % 64 = 0) :
    hB (View.ld (iblk m c 3 t) (Rect.unit ![0, o, 0] ![8, 64, 128] hin)) h = blk (aW m c h) (4 * t.val + o / 64) := by
  have hb : o + 64 ≤ 256 := hin 1
  have ht : t.val < 16 := lt_of_lt_of_eq t.isLt N_0
  funext r d; unfold blk; rw [row_eq t o ho hb]
  refine (rows_at h _ o hin r d).trans ?_
  blk_ext [iblk, V, idx t]
theorem ldL (o : ℕ) (hin : ∀ a, (![0, o, 0] : Fin 3 → ℕ) a + (![8, 64, 128] : Fin 3 → ℕ) a ≤ S8x256x128.size a) (ho : o % 128 = 0) :
    hL (View.ld (iblk m c 4 t) (Rect.unit ![0, o, 0] ![8, 64, 128] hin)) h = dia (aA m c h) (4 * t.val + o / 64) := by
  have hb : o + 64 ≤ 256 := hin 1
  have ht : t.val < 16 := lt_of_lt_of_eq t.isLt N_0
  funext r d; unfold dia; rw [row_eq t o (by omega) hb]
  refine (rows_at h _ o hin r ⟨d, by omega⟩).trans ?_
  blk_ext [iblk, V, idx t]

theorem ldR (o : ℕ) (hin : ∀ a, (![0, o, 0] : Fin 3 → ℕ) a + (![8, 64, 128] : Fin 3 → ℕ) a ≤ S8x256x128.size a) (ho : o % 128 = 64) :
    hR (View.ld (iblk m c 4 t) (Rect.unit ![0, o, 0] ![8, 64, 128] hin)) h = dia (aA m c h) (4 * t.val + o / 64) := by
  have hb : o + 64 ≤ 256 := hin 1
  have ht : t.val < 16 := lt_of_lt_of_eq t.isLt N_0
  funext r d; unfold dia; rw [row_eq t o (by omega) hb]
  refine (rows_at h _ o hin r ⟨64 + d, by omega⟩).trans ?_
  blk_ext [iblk, V, idx t]

/-- The decay a point loads for its chunk `a`, block `i` of the chunk. -/
theorem ldG (a i : ℕ) (hin : ∀ k, (![a, 0, i, 0] : Fin 4 → ℕ) k + (![1, 8, 1, 128] : Fin 4 → ℕ) k ≤ S2x8x2x128.size k) :
    hG (k0_pay4 (F := Ideal) (View.ld (iblk m c 5 t) (Rect.unit ![a, 0, i, 0] ![1, 8, 1, 128] hin))) h = gat (aG m c h) (4 * t.val + (2 * a + i)) := by
  have ha : a + 1 ≤ 2 := hin 0
  have hi : i + 1 ≤ 2 := hin 2
  have ht : t.val < 16 := lt_of_lt_of_eq t.isLt N_0
  rw [decay_at]
  funext e; unfold gat
  have e1 : (4 * t.val + (2 * a + i)) / 2 % 32 = 2 * t.val + a := by omega
  have e2 : (4 * t.val + (2 * a + i)) % 2 = i := by omega
  simp only [e1, e2]
  show iblk m c 5 t ((Rect.unit (s := S2x8x2x128) ![a, 0, i, 0] ![1, 8, 1, 128] hin).idx (ix4 0 h 0 e)) = _
  refine (congrArg (iblk m c 5 t) (a₂ := ix4 ⟨a, by omega⟩ h ⟨i, by omega⟩ e) (funext fun k => Fin.ext ((Rect.idx_unit_val (s := S2x8x2x128) ![a, 0, i, 0] ![1, 8, 1, 128] hin (ix4 0 h 0 e) k).trans ?_))).trans ?_
  · fin_cases k <;> simp [ix4]
  · blk_ext [iblk, V, idx t]

end loads

/-! The first point. -/

theorem state_A (c : Dev nD) (t : Fin cfg0.N) (h0 : t.val % 16 = 0)  (h : Fin 8) :
    hM (outsAt0 m c t.val t.isLt).2.2 h = st m c h (4 * t.val + 4) := by
  have hs : ∀ h, hM (k0_pay2 (F := Ideal)) h = st m c h (4 * t.val) := fun h => by
    have ht : t.val < 16 := lt_of_lt_of_eq t.isLt N_0
    rw [zero_at, show t.val = 0 by omega]; rfl
  rw [outsAt0_A m c t h0]
  frame_out
  simp only [next_12, next_17, next_1, corr_second, corr_15, corr_20, outp_16, outp_21, decay_9, decay_14, decay_19, saved_8, saved_13, saved_18, next_at, corr_at, outp_first, outp_second, saved_3, ldQ, ldK, ldU, ldW, ldG, ldL, ldR, hs]
  rfl

theorem out_A (c : Dev nD) (t : Fin cfg0.N) (h0 : t.val % 16 = 0)  (h : Fin 8) (r : Fin 256) (e : Fin 128) :
    (outsAt0 m c t.val t.isLt).1 (ix3 h r e) = ot m c h (4 * t.val + r.val / 64) ⟨r.val % 64, by omega⟩ e := by
  have hs : ∀ h, hM (k0_pay2 (F := Ideal)) h = st m c h (4 * t.val) := fun h => by
    have ht : t.val < 16 := lt_of_lt_of_eq t.isLt N_0
    rw [zero_at, show t.val = 0 by omega]; rfl
  rw [outsAt0_A m c t h0]
  frame_out
  canon_tiles x hh
  all_goals
    idx_vars x
    obtain rfl := Fin.ext hh0
    obtain rfl := Fin.ext hh2
    refine Eq.trans (hB_apply _ h x1 e) ?_
    simp only [next_12, next_17, next_1, corr_second, corr_15, corr_20, outp_16, outp_21, decay_9, decay_14, decay_19, saved_8, saved_13, saved_18, next_at, corr_at, outp_first, outp_second, saved_3, ldQ, ldK, ldU, ldW, ldG, ldL, ldR, hs]
    rw [show (⟨r.val % 64, by omega⟩ : Fin 64) = x1 from Fin.ext (by dsimp only; omega)]
    first
      | rw [show r.val / 64 = 3 by omega]
      | rw [show r.val / 64 = 2 by omega]
      | rw [show r.val / 64 = 1 by omega]
      | rw [show r.val / 64 = 0 by omega]
    rfl

theorem saved_A (c : Dev nD) (t : Fin cfg0.N) (h0 : t.val % 16 = 0)  (a b : Fin 2) (h : Fin 8) (d e : Fin 128) :
    (outsAt0 m c t.val t.isLt).2.1 (ix5 a b h d e) = st m c h (4 * t.val + (2 * a.val + b.val)) d e := by
  have hs : ∀ h, hM (k0_pay2 (F := Ideal)) h = st m c h (4 * t.val) := fun h => by
    have ht : t.val < 16 := lt_of_lt_of_eq t.isLt N_0
    rw [zero_at, show t.val = 0 by omega]; rfl
  rw [outsAt0_A m c t h0]
  frame_out
  canon_tiles x hh
  all_goals
    idx_vars x
    obtain rfl := Fin.ext hh2
    obtain rfl := Fin.ext hh3
    obtain rfl := Fin.ext hh4
    obtain rfl : x0 = 0 := Subsingleton.elim _ _
    obtain rfl : x1 = 0 := Subsingleton.elim _ _
    simp only [next_12, next_17, next_1, corr_second, corr_15, corr_20, outp_16, outp_21, decay_9, decay_14, decay_19, saved_8, saved_13, saved_18, next_at, corr_at, outp_first, outp_second, saved_3, ldQ, ldK, ldU, ldW, ldG, ldL, ldR, hs]
    first
      | rw [show 2 * a.val + b.val = 3 by simp at hh0 hh1; omega]
      | rw [show 2 * a.val + b.val = 2 by simp at hh0 hh1; omega]
      | rw [show 2 * a.val + b.val = 1 by simp at hh0 hh1; omega]
      | rw [show 2 * a.val + b.val = 0 by simp at hh0 hh1; omega]
    rfl

/-! A later point, from the state the point before left. -/

theorem state_B (c : Dev nD) (t : Fin cfg0.N) (h0 : ¬ t.val % 16 = 0) (hs : ∀ h, hM (outsAt0 m c (t.val - 1) (by have := t.isLt; omega)).2.2 h = st m c h (4 * t.val)) (h : Fin 8) :
    hM (outsAt0 m c t.val t.isLt).2.2 h = st m c h (4 * t.val + 4) := by
  rw [outsAt0_B m c t h0]
  frame_out
  generalize he : View.read _ _ _ = s
  replace hs : ∀ h, hM s h = st m c h (4 * t.val) := fun h => (congrArg (fun v => hM v h) (he.symm.trans (Memref.IsWhole.read_unread _ _))).trans (hs h)
  simp only [next_12, next_17, next_1, corr_second, corr_15, corr_20, outp_16, outp_21, decay_9, decay_14, decay_19, saved_8, saved_13, saved_18, next_at, corr_at, outp_first, outp_second, saved_3, ldQ, ldK, ldU, ldW, ldG, ldL, ldR, hs]
  rfl

theorem out_B (c : Dev nD) (t : Fin cfg0.N) (h0 : ¬ t.val % 16 = 0) (hs : ∀ h, hM (outsAt0 m c (t.val - 1) (by have := t.isLt; omega)).2.2 h = st m c h (4 * t.val)) (h : Fin 8) (r : Fin 256) (e : Fin 128) :
    (outsAt0 m c t.val t.isLt).1 (ix3 h r e) = ot m c h (4 * t.val + r.val / 64) ⟨r.val % 64, by omega⟩ e := by
  rw [outsAt0_B m c t h0]
  frame_out
  generalize he : View.read _ _ _ = s
  replace hs : ∀ h, hM s h = st m c h (4 * t.val) := fun h => (congrArg (fun v => hM v h) (he.symm.trans (Memref.IsWhole.read_unread _ _))).trans (hs h)
  canon_tiles x hh
  all_goals
    idx_vars x
    obtain rfl := Fin.ext hh0
    obtain rfl := Fin.ext hh2
    refine Eq.trans (hB_apply _ h x1 e) ?_
    simp only [next_12, next_17, next_1, corr_second, corr_15, corr_20, outp_16, outp_21, decay_9, decay_14, decay_19, saved_8, saved_13, saved_18, next_at, corr_at, outp_first, outp_second, saved_3, ldQ, ldK, ldU, ldW, ldG, ldL, ldR, hs]
    rw [show (⟨r.val % 64, by omega⟩ : Fin 64) = x1 from Fin.ext (by dsimp only; omega)]
    first
      | rw [show r.val / 64 = 3 by omega]
      | rw [show r.val / 64 = 2 by omega]
      | rw [show r.val / 64 = 1 by omega]
      | rw [show r.val / 64 = 0 by omega]
    rfl

theorem saved_B (c : Dev nD) (t : Fin cfg0.N) (h0 : ¬ t.val % 16 = 0) (hs : ∀ h, hM (outsAt0 m c (t.val - 1) (by have := t.isLt; omega)).2.2 h = st m c h (4 * t.val)) (a b : Fin 2) (h : Fin 8) (d e : Fin 128) :
    (outsAt0 m c t.val t.isLt).2.1 (ix5 a b h d e) = st m c h (4 * t.val + (2 * a.val + b.val)) d e := by
  rw [outsAt0_B m c t h0]
  frame_out
  generalize he : View.read _ _ _ = s
  replace hs : ∀ h, hM s h = st m c h (4 * t.val) := fun h => (congrArg (fun v => hM v h) (he.symm.trans (Memref.IsWhole.read_unread _ _))).trans (hs h)
  canon_tiles x hh
  all_goals
    idx_vars x
    obtain rfl := Fin.ext hh2
    obtain rfl := Fin.ext hh3
    obtain rfl := Fin.ext hh4
    obtain rfl : x0 = 0 := Subsingleton.elim _ _
    obtain rfl : x1 = 0 := Subsingleton.elim _ _
    simp only [next_12, next_17, next_1, corr_second, corr_15, corr_20, outp_16, outp_21, decay_9, decay_14, decay_19, saved_8, saved_13, saved_18, next_at, corr_at, outp_first, outp_second, saved_3, ldQ, ldK, ldU, ldW, ldG, ldL, ldR, hs]
    first
      | rw [show 2 * a.val + b.val = 3 by simp at hh0 hh1; omega]
      | rw [show 2 * a.val + b.val = 2 by simp at hh0 hh1; omega]
      | rw [show 2 * a.val + b.val = 1 by simp at hh0 hh1; omega]
      | rw [show 2 * a.val + b.val = 0 by simp at hh0 hh1; omega]
    rfl

/-! All points, by induction: the state carried into point `n` is the state before block `4 n`. -/

theorem state_all (c : Dev nD) : ∀ (n : ℕ) (hn : n < cfg0.N) (h : Fin 8), hM (outsAt0 m c n hn).2.2 h = st m c h (4 * n + 4)
  | 0, hn, h => state_A m c ⟨0, hn⟩ rfl h
  | n + 1, hn, h => by
    have hN : n + 1 < 16 := lt_of_lt_of_eq hn N_0
    exact state_B m c ⟨n + 1, hn⟩ (by dsimp only; omega) (fun h => (state_all c n (by omega) h).trans (by dsimp only [st]; rw [Nat.mul_succ])) h

theorem carried (c : Dev nD) (t : Fin cfg0.N) (h0 : ¬ t.val % 16 = 0) (h : Fin 8) :
    hM (outsAt0 m c (t.val - 1) (by have := t.isLt; omega)).2.2 h = st m c h (4 * t.val) := by
  rw [state_all, show 4 * (t.val - 1) + 4 = 4 * t.val by omega]

theorem out_all (c : Dev nD) (t : Fin cfg0.N) (h : Fin 8) (r : Fin 256) (e : Fin 128) :
    (outsAt0 m c t.val t.isLt).1 (ix3 h r e) = ot m c h (4 * t.val + r.val / 64) ⟨r.val % 64, by omega⟩ e := by
  by_cases h0 : t.val % 16 = 0
  · exact out_A m c t h0 h r e
  · exact out_B m c t h0 (carried m c t h0) h r e

theorem saved_all (c : Dev nD) (t : Fin cfg0.N) (a b : Fin 2) (h : Fin 8) (d e : Fin 128) :
    (outsAt0 m c t.val t.isLt).2.1 (ix5 a b h d e) = st m c h (4 * t.val + (2 * a.val + b.val)) d e := by
  by_cases h0 : t.val % 16 = 0
  · exact saved_A m c t h0 a b h d e
  · exact saved_B m c t h0 (carried m c t h0) a b h d e

/-! The two result arrays. -/

/-- The outputs, row by row. -/
abbrev outArr (c : Dev nD) : S8x4096x128.Idx → EReal := fun i =>
  ot m c (i 0) ((i 1 : Fin 4096).val / 64) ⟨(i 1 : Fin 4096).val % 64, Nat.mod_lt _ (by decide)⟩ (i 2)

/-- The saved states, block by block. -/
abbrev savedArr (c : Dev nD) : S32x2x8x128x128.Idx → EReal := fun i =>
  st m c (i 2) (2 * (i 0 : Fin 32).val + (i 1 : Fin 2).val) (i 3) (i 4)

theorem final_out (c : Dev nD) : (dats m 0 c).arrAt 6 cfg0.N = outArr m c := by
  refine (dats m 0 c).arrAt_eq_of_covers 6 _ (by decide +kernel) fun t hf y => ?_
  blk_simp
  rw [after0_6]
  have ht : t.val < 16 := lt_of_lt_of_eq t.isLt N_0
  idx_vars y
  refine (out_all m c t y0 y1 y2).trans ?_
  have e : (win0_6.blk t).view.emb (ix3 y0 y1 y2) = ix3 y0 (⟨256 * t.val + y1.val, by omega⟩ : Fin 4096) y2 := by
    blk_ext [idx t]
  rw [e]
  show _ = ot m c y0 ((256 * t.val + y1.val) / 64) ⟨(256 * t.val + y1.val) % 64, _⟩ y2
  congr 1
  · congr 1; omega
  · apply Fin.ext; dsimp only; omega

theorem final_saved (c : Dev nD) : (dats m 0 c).arrAt 7 cfg0.N = savedArr m c := by
  refine (dats m 0 c).arrAt_eq_of_covers 7 _ (by decide +kernel) fun t hf y => ?_
  blk_simp
  rw [after0_7]
  have ht : t.val < 16 := lt_of_lt_of_eq t.isLt N_0
  idx_vars y
  refine (saved_all m c t y0 y1 y2 y3 y4).trans ?_
  have e : (win0_7.blk t).view.emb (ix5 y0 y1 y2 y3 y4) = ix5 (⟨2 * t.val + y0.val, by omega⟩ : Fin 32) y1 y2 y3 y4 := by
    blk_ext [idx t]
  rw [e]
  show _ = st m c y2 (2 * (2 * t.val + y0.val) + y1.val) y3 y4
  rw [show 2 * (2 * t.val + y0.val) + y1.val = 4 * t.val + (2 * y0.val + y1.val) by omega]

end Cert.KernelIdeal.Chain

end
-- ==== Proof.Scan.lean ====
/- The reference's loop, trip by trip: before trip `n` the carried state is the recurrence's state before block `n`, and the
   stacked outputs and states hold the first `n` blocks. -/
module

public import proofs.«01_k».proof.Proof.Spec
public import proofs.«01_k».proof.Proof.Gen.ReferenceIdeal.Step
public import Idealize.ShloMosaic.Lib.Pointwise
public import Idealize.ShloMosaic.Lib.DynamicIndex
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Scan

open Cert.ReferenceIdeal Cert.ReferenceIdeal.Step Cert.Delta

abbrev St := State Ideal

/-- The starts of a trip's slices of a rank-4 stack, read signed. -/
theorem starts4 (j : ℕ) (hj : j < 64) (p : 0 < S_.numel) (a : Fin 4) :
    BitVec.toInt ((![constantI S_ 32 (BitVec.ofNat 32 j), constantI S_ 32 0#32, constantI S_ 32 0#32, constantI S_ 32 0#32] : Fin 4 → S_.Idx → BitVec 32) a
      (Shape.Idx.first p)) = ((![j, 0, 0, 0] : Fin 4 → ℕ) a : ℤ) := by
  fin_cases a
  · exact toInt_ofNat_of_lt (by omega)
  all_goals rfl

/-- The starts of a trip's slices of a rank-3 stack, read signed. -/
theorem starts3 (j : ℕ) (hj : j < 64) (p : 0 < S_.numel) (a : Fin 3) :
    BitVec.toInt ((![constantI S_ 32 (BitVec.ofNat 32 j), constantI S_ 32 0#32, constantI S_ 32 0#32] : Fin 3 → S_.Idx → BitVec 32) a
      (Shape.Idx.first p)) = ((![j, 0, 0] : Fin 3 → ℕ) a : ℤ) := by
  fin_cases a
  · exact toInt_ofNat_of_lt (by omega)
  all_goals rfl

section trip
variable (j : ℕ) (hj : j < 64) (s : St) (h : Fin 8) (c : Fin 64) (d e : Fin 128)
include hj

theorem fits_rows : S64x8x64x128.Slices ![j, 0, 0, 0] S1x8x64x128 := ⟨rfl, fun a => by fin_cases a <;> simp <;> omega⟩
theorem fits_att : S64x8x64x64.Slices ![j, 0, 0, 0] S1x8x64x64 := ⟨rfl, fun a => by fin_cases a <;> simp <;> omega⟩
theorem fits_state : S64x8x128x128.Slices ![j, 0, 0, 0] S1x8x128x128 := ⟨rfl, fun a => by fin_cases a <;> simp <;> omega⟩
theorem fits_gate : S64x8x128.Slices ![j, 0, 0] S1x8x128 := ⟨rfl, fun a => by fin_cases a <;> simp <;> omega⟩

/-! What one trip reads of the stacked blocks. -/
theorem q_slice : b3 j s = extractStridedSlice S1x8x64x128 ![j, 0, 0, 0] s.main_v27_0 (fits_rows j hj) :=
  Host.dynamicSlice_eq_extractStridedSlice _ _ _ _ _ _ (starts4 j hj _)
theorem k_slice : b8 j s = extractStridedSlice S1x8x64x128 ![j, 0, 0, 0] s.main_v27_1 (fits_rows j hj) :=
  Host.dynamicSlice_eq_extractStridedSlice _ _ _ _ _ _ (starts4 j hj _)
theorem u_slice : b13 j s = extractStridedSlice S1x8x64x128 ![j, 0, 0, 0] s.main_v27_2 (fits_rows j hj) :=
  Host.dynamicSlice_eq_extractStridedSlice _ _ _ _ _ _ (starts4 j hj _)
theorem w_slice : b18 j s = extractStridedSlice S1x8x64x128 ![j, 0, 0, 0] s.main_v27_3 (fits_rows j hj) :=
  Host.dynamicSlice_eq_extractStridedSlice _ _ _ _ _ _ (starts4 j hj _)
theorem a_slice : b23 j s = extractStridedSlice S1x8x64x64 ![j, 0, 0, 0] s.main_v27_4 (fits_att j hj) :=
  Host.dynamicSlice_eq_extractStridedSlice _ _ _ _ _ _ (starts4 j hj _)
theorem g_slice : b27 j s = extractStridedSlice S1x8x128 ![j, 0, 0] s.main_v27_5 (fits_gate j hj) :=
  Host.dynamicSlice_eq_extractStridedSlice _ _ _ _ _ _ (starts3 j hj _)

theorem q_at : b4 j s (ix3 h c d) = s.main_v27_0 (ix4 ⟨j, hj⟩ h c d) := by unfold b4; rw [q_slice j hj]; pointwise []
theorem k_at : b9 j s (ix3 h c d) = s.main_v27_1 (ix4 ⟨j, hj⟩ h c d) := by unfold b9; rw [k_slice j hj]; pointwise []
theorem u_at : b14 j s (ix3 h c d) = s.main_v27_2 (ix4 ⟨j, hj⟩ h c d) := by unfold b14; rw [u_slice j hj]; pointwise []
theorem w_at : b19 j s (ix3 h c d) = s.main_v27_3 (ix4 ⟨j, hj⟩ h c d) := by unfold b19; rw [w_slice j hj]; pointwise []
theorem a_at (i : Fin 64) : b24 j s (ix3 h c i) = s.main_v27_4 (ix4 ⟨j, hj⟩ h c i) := by unfold b24; rw [a_slice j hj]; pointwise []
theorem g_at : b28 j s (ix2 h e) = s.main_v27_5 (ix3 ⟨j, hj⟩ h e) := by unfold b28; rw [g_slice j hj]; pointwise []

/-! What one trip computes, one head at a time. -/

/-- One head of the stacked blocks, of the scores, of the decays, and of the state. -/
abbrev sB (X : S64x8x64x128.Idx → EReal) : Blk := fun c d => X (ix4 ⟨j, hj⟩ h c d)
abbrev sA (X : S64x8x64x64.Idx → EReal) : Att := fun c i => X (ix4 ⟨j, hj⟩ h c i)
abbrev sG (X : S64x8x128.Idx → EReal) : Fin 128 → EReal := fun e => X (ix3 ⟨j, hj⟩ h e)
omit hj in
abbrev sM (X : S8x128x128.Idx → EReal) : Mat := fun d e => X (ix3 h d e)

theorem corr_at : b30 j s (ix3 h c e) = corr (sB j hj h s.main_v27_2) (sB j hj h s.main_v27_3) (sM h s.main_v27_7) c e := by
  unfold corr
  pointwise [b30, b29]
  simp only [u_at j hj, w_at j hj]

theorem outp_at : b33 j s (ix3 h c e) = outp (sB j hj h s.main_v27_0) (sA j hj h s.main_v27_4) (sM h s.main_v27_7)
    (corr (sB j hj h s.main_v27_2) (sB j hj h s.main_v27_3) (sM h s.main_v27_7)) c e := by
  unfold outp
  pointwise [b33, b32, b31]
  simp only [q_at j hj, a_at j hj, corr_at j hj]

theorem next_at : b38 j s (ix3 h d e) = next (sB j hj h s.main_v27_1) (sG j hj h s.main_v27_5) (sM h s.main_v27_7)
    (corr (sB j hj h s.main_v27_2) (sB j hj h s.main_v27_3) (sM h s.main_v27_7)) d e := by
  unfold next
  pointwise [b38, b37, b36, b35, b34]
  simp only [k_at j hj, g_at j hj, corr_at j hj]

/-! A trip puts its output and its state at its own place of the stacks and keeps the rest. -/

theorem outs_update : b43 j s = updateSlice s.main_v27_8 (b39 j s) ![j, 0, 0, 0] (fits_rows j hj) :=
  WordCmp.dynamicUpdateSlice_eq_update _ _ _ _ _ _ (starts4 j hj _)
theorem saved_update : b48 j s = updateSlice s.main_v27_9 (b44 j s) ![j, 0, 0, 0] (fits_state j hj) :=
  WordCmp.dynamicUpdateSlice_eq_update _ _ _ _ _ _ (starts4 j hj _)

theorem outs_step (b : Fin 64) : b43 j s (ix4 b h c e) = if b.val = j then b33 j s (ix3 h c e) else s.main_v27_8 (ix4 b h c e) := by
  rw [outs_update j hj]
  pointwise [b39]
  by_cases hb : b.val = j
  · rw [dif_pos (by omega), if_pos hb]
  · rw [dif_neg (by omega), if_neg hb]
theorem saved_step (b : Fin 64) : b48 j s (ix4 b h d e) = if b.val = j then s.main_v27_7 (ix3 h d e) else s.main_v27_9 (ix4 b h d e) := by
  rw [saved_update j hj]
  pointwise [b44]
  by_cases hb : b.val = j
  · rw [dif_pos (by omega), if_pos hb]
  · rw [dif_neg (by omega), if_neg hb]

end trip

/-! The arrays the loop begins with, read off the arguments. -/
section arrays
variable (x0 x1 : S8x4096x128.Idx → EReal) (x2 : S8x4096x128.Idx → EReal) (x3 x4 : S8x4096x128.Idx → EReal) (x5 : S32x8x2x128.Idx → EReal)
  (h : Fin 8)

/-- One head of an array of rows, and of the decays. -/
abbrev hd (X : S8x4096x128.Idx → EReal) : Fin 4096 → Fin 128 → EReal := fun r d => X (ix3 h r d)
abbrev hg (X : S32x8x2x128.Idx → EReal) : Fin 32 → Fin 2 → Fin 128 → EReal := fun n i e => X (ix4 n h i e)

theorem row_of (n : ℕ) (hn : n < 64) (c : Fin 64) : row n c = ⟨64 * n + c, by omega⟩ := by
  unfold row; apply Fin.ext; dsimp only; omega

theorem q_init (n : ℕ) (hn : n < 64) : sB n hn h (A_main_v16 (F := Ideal) x0 x1 x2 x3 x4 x5) = blk (hd h x0) n := by
  funext c d; unfold blk; rw [row_of n hn]; pointwise [A_main_v16, A_main_v15, A_main_v1]
  exact congrArg (fun r => x0 (ix3 h r d)) (Fin.ext (by dsimp only; omega))
theorem k_init (n : ℕ) (hn : n < 64) : sB n hn h (A_main_v18 (F := Ideal) x0 x1 x2 x3 x4 x5) = blk (hd h x1) n := by
  funext c d; unfold blk; rw [row_of n hn]; pointwise [A_main_v18, A_main_v17, A_main_v2]
  exact congrArg (fun r => x1 (ix3 h r d)) (Fin.ext (by dsimp only; omega))
theorem u_init (n : ℕ) (hn : n < 64) : sB n hn h (A_main_v20 (F := Ideal) x0 x1 x2 x3 x4 x5) = blk (hd h x2) n := by
  funext c d; unfold blk; rw [row_of n hn]; pointwise [A_main_v20, A_main_v19]
  exact congrArg (fun r => x2 (ix3 h r d)) (Fin.ext (by dsimp only; omega))
theorem w_init (n : ℕ) (hn : n < 64) : sB n hn h (A_main_v22 (F := Ideal) x0 x1 x2 x3 x4 x5) = blk (hd h x3) n := by
  funext c d; unfold blk; rw [row_of n hn]; pointwise [A_main_v22, A_main_v21, A_main_v3]
  exact congrArg (fun r => x3 (ix3 h r d)) (Fin.ext (by dsimp only; omega))
theorem g_init (n : ℕ) (hn : n < 64) : sG n hn h (A_main_v24 (F := Ideal) x0 x1 x2 x3 x4 x5) = gat (hg h x5) n := by
  funext e; unfold gat; pointwise [A_main_v24, A_main_v23]
  exact congrArg (fun r => x5 (ix4 r h ⟨n % 2, by omega⟩ e)) (Fin.ext (by dsimp only; omega))
theorem a_init (n : ℕ) (hn : n < 64) : sA n hn h (A_main_v14 (F := Ideal) x0 x1 x2 x3 x4 x5) = dia (hd h x4) n := by
  funext c i; unfold dia; rw [row_of n hn]
  pointwise [A_main_v14, A_main_v13, A_main_v12, A_main_v11, A_main_v10, A_main_v9, A_main_v8, A_main_v7, A_main_v6, A_main_v5, A_main_v4]
  split
  · exact congrArg₂ (fun r k => x4 (ix3 h r k)) (Fin.ext (by dsimp only; omega)) (Fin.ext (by dsimp only; omega))
  · exact congrArg₂ (fun r k => x4 (ix3 h r k)) (Fin.ext (by dsimp only; omega)) (Fin.ext (by dsimp only; omega))

theorem s_init : sM h (K_main_v0 (F := Ideal)) = fun _ _ => 0 := by funext d e; pointwise [K_main_v0, K_main_cst]

/-! The loop's state after `n` trips. -/

/-- The loop's state after `n` trips, from the arguments. -/
def it : ℕ → St
  | 0 => init (F := Ideal) x0 x1 x2 x3 x4 x5
  | n + 1 => step n (it n)

/-- The trips leave the blocks they read as they were. -/
theorem it_const (n : ℕ) : (it x0 x1 x2 x3 x4 x5 n).main_v27_0 = A_main_v16 (F := Ideal) x0 x1 x2 x3 x4 x5
    ∧ (it x0 x1 x2 x3 x4 x5 n).main_v27_1 = A_main_v18 (F := Ideal) x0 x1 x2 x3 x4 x5
    ∧ (it x0 x1 x2 x3 x4 x5 n).main_v27_2 = A_main_v20 (F := Ideal) x0 x1 x2 x3 x4 x5
    ∧ (it x0 x1 x2 x3 x4 x5 n).main_v27_3 = A_main_v22 (F := Ideal) x0 x1 x2 x3 x4 x5
    ∧ (it x0 x1 x2 x3 x4 x5 n).main_v27_4 = A_main_v14 (F := Ideal) x0 x1 x2 x3 x4 x5
    ∧ (it x0 x1 x2 x3 x4 x5 n).main_v27_5 = A_main_v24 (F := Ideal) x0 x1 x2 x3 x4 x5 := by
  induction n with
  | zero => exact ⟨rfl, rfl, rfl, rfl, rfl, rfl⟩
  | succ n ih => exact ih

/-- Before trip `n` the carried state is the recurrence's. -/
theorem it_state (n : ℕ) (hn : n ≤ 64) (h : Fin 8) :
    sM h (it x0 x1 x2 x3 x4 x5 n).main_v27_7 = state (hd h x1) (hd h x2) (hd h x3) (hg h x5) n := by
  induction n with
  | zero => exact s_init h
  | succ n ih =>
    obtain ⟨-, e1, e2, e3, -, e5⟩ := it_const x0 x1 x2 x3 x4 x5 n
    have hn' : n < 64 := by omega
    funext d e
    refine (next_at n hn' (it x0 x1 x2 x3 x4 x5 n) h d e).trans ?_
    rw [ih (by omega), e1, e2, e3, e5, k_init, u_init, w_init, g_init]
    rfl

/-- Before trip `n` the stacked outputs hold the blocks before `n`. -/
theorem it_outs (n : ℕ) (hn : n ≤ 64) (h : Fin 8) (b c : Fin 64) (e : Fin 128) (hb : b.val < n) :
    (it x0 x1 x2 x3 x4 x5 n).main_v27_8 (ix4 b h c e) = outs (hd h x0) (hd h x1) (hd h x2) (hd h x3) (hd h x4) (hg h x5) b c e := by
  induction n with
  | zero => omega
  | succ n ih =>
    obtain ⟨e0, e1, e2, e3, e4, e5⟩ := it_const x0 x1 x2 x3 x4 x5 n
    have hn' : n < 64 := by omega
    refine (outs_step n hn' (it x0 x1 x2 x3 x4 x5 n) h c e b).trans ?_
    by_cases h' : b.val = n
    · rw [if_pos h', outp_at n hn', it_state x0 x1 x2 x3 x4 x5 n (by omega), e0, e2, e3, e4, q_init, u_init, w_init, a_init, h']
      rfl
    · rw [if_neg h', ih (by omega) (by omega)]

/-- Before trip `n` the stacked states hold the states before the blocks before `n`. -/
theorem it_saved (n : ℕ) (hn : n ≤ 64) (h : Fin 8) (b : Fin 64) (d e : Fin 128) (hb : b.val < n) :
    (it x0 x1 x2 x3 x4 x5 n).main_v27_9 (ix4 b h d e) = state (hd h x1) (hd h x2) (hd h x3) (hg h x5) b d e := by
  induction n with
  | zero => omega
  | succ n ih =>
    have hn' : n < 64 := by omega
    refine (saved_step n hn' (it x0 x1 x2 x3 x4 x5 n) h d e b).trans ?_
    by_cases h' : b.val = n
    · rw [if_pos h', h']
      exact congrFun (congrFun (it_state x0 x1 x2 x3 x4 x5 n (by omega) h) d) e
    · rw [if_neg h', ih (by omega) (by omega)]

/-- The reference's outputs: row `r` is row `r % 64` of block `r / 64`. -/
theorem outs_result (r : Fin 4096) (e : Fin 128) : R_main_v29 (it x0 x1 x2 x3 x4 x5 64) (ix3 h r e)
    = outs (hd h x0) (hd h x1) (hd h x2) (hd h x3) (hd h x4) (hg h x5) (r.val / 64) ⟨r.val % 64, by omega⟩ e := by
  refine Eq.trans ?_ (it_outs x0 x1 x2 x3 x4 x5 64 le_rfl h ⟨r.val / 64, by omega⟩ ⟨r.val % 64, by omega⟩ e (by dsimp only; omega))
  pointwise [R_main_v29]

/-- The reference's saved states: chunk `a`'s block `i` is block `2 a + i`. -/
theorem saved_result (a : Fin 32) (i : Fin 2) (d e : Fin 128) : R_main_v30 (it x0 x1 x2 x3 x4 x5 64) (ix5 a i h d e)
    = state (hd h x1) (hd h x2) (hd h x3) (hg h x5) (2 * a.val + i.val) d e := by
  refine Eq.trans ?_ (it_saved x0 x1 x2 x3 x4 x5 64 le_rfl h ⟨2 * a.val + i.val, by omega⟩ d e (by dsimp only; omega))
  pointwise [R_main_v30]
  exact congrArg (fun k => (it x0 x1 x2 x3 x4 x5 64).main_v27_9 (ix4 k h d e)) (Fin.ext (by dsimp only; omega))

end arrays

end Cert.ReferenceIdeal.Scan

end
-- ==== Proof.LoopRun.lean ====
/- The reference's loop, run trip by trip: at a valuation that holds a state, every value of one trip is that state's, so one
   application of the run's step keeps holding with `step` applied; what comes before the loop holds `init`; and the results
   are the fields of `step` iterated from `init`. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v27_7) = s.main_v27_7
  f_8 : V0 (Proc.devRef .tc main_v27_8) = s.main_v27_8
  f_9 : V0 (Proc.devRef .tc main_v27_9) = s.main_v27_9
  f_0 : V0 (Proc.devRef .tc main_v27_0) = s.main_v27_0
  f_1 : V0 (Proc.devRef .tc main_v27_1) = s.main_v27_1
  f_2 : V0 (Proc.devRef .tc main_v27_2) = s.main_v27_2
  f_3 : V0 (Proc.devRef .tc main_v27_3) = s.main_v27_3
  f_4 : V0 (Proc.devRef .tc main_v27_4) = s.main_v27_4
  f_5 : V0 (Proc.devRef .tc main_v27_5) = s.main_v27_5
  n_6 : V0 (Proc.devRef .tc main_v27_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x8x64x128 (V0 (Proc.devRef .tc main_v27_0)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S8x64x128 (Host.dynamicSlice S1x8x64x128 (V0 (Proc.devRef .tc main_v27_0)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128 : (Proc.devRef .tc main_while0b_v31 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x8x64x128 (V0 (Proc.devRef .tc main_v27_1)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (shapeCast S8x64x128 (Host.dynamicSlice S1x8x64x128 (V0 (Proc.devRef .tc main_v27_1)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128 : (Proc.devRef .tc main_while0b_v32 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x8x64x128 (V0 (Proc.devRef .tc main_v27_2)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S8x64x128 (Host.dynamicSlice S1x8x64x128 (V0 (Proc.devRef .tc main_v27_2)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128 : (Proc.devRef .tc main_while0b_v33 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x8x64x128 (V0 (Proc.devRef .tc main_v27_3)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S8x64x128 (Host.dynamicSlice S1x8x64x128 (V0 (Proc.devRef .tc main_v27_3)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128 : (Proc.devRef .tc main_while0b_v34 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call4_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x8x64x64 (V0 (Proc.devRef .tc main_v27_4)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x64_S1x8x64x64 : (Proc.devRef .tc main_while0b_call4_v0 : DevRef τ sig).ty.Contents (Elt F)) = Cert.ReferenceIdeal.Step.b23 j s := by
  unfold Cert.ReferenceIdeal.Step.b23
  rw [← al_20 h, ← al_21 h, ← al_22 h, h.f_4, h.n_6]
  try rfl
set_option maxRecDepth 8192 in
theorem al_24 (h : Holds V0 s j) : (shapeCast S8x64x64 (Host.dynamicSlice S1x8x64x64 (V0 (Proc.devRef .tc main_v27_4)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x64_S1x8x64x64) shapeCasts_S1x8x64x64_S8x64x64 : (Proc.devRef .tc main_while0b_v35 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (constantI S_ 32 0#32 : (Proc.devRef .tc main_while0b_call5_c : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call5_c_0 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x8x128 (V0 (Proc.devRef .tc main_v27_5)) (fun k => (((![V0 (Proc.devRef .tc main_v27_6), constantI S_ 32 0#32, constantI S_ 32 0#32] : Fin 3 → (⟨S_, .i32⟩ : BufTy).Contents (Elt F))) k (Shape.Idx.first h_S_)).toInt) sliceFits_S64x8x128_S1x8x128 : (Proc.devRef .tc main_while0b_call5_v0 : DevRef τ sig).ty.Contents (Elt F)) = Cert.ReferenceIdeal.Step.b27 j s := by
  unfold Cert.ReferenceIdeal.Step.b27
  rw [← al_25 h, ← al_26 h, h.f_5, h.n_6]
  try rfl
set_option maxRecDepth 8192 in
theorem al_28 (h : Holds V0 s j) : (shapeCast S8x128 (Host.dynamicSlice S1x8x128 (V0 (Proc.devRef .tc main_v27_5)) (fun k => (((![V0 (Proc.devRef .tc main_v27_6), constantI S_ 32 0#32, constantI S_ 32 0#32] : Fin 3 → (⟨S_, .i32⟩ : BufTy).Contents (Elt F))) k (Shape.Idx.first h_S_)).toInt) sliceFits_S64x8x128_S1x8x128) shapeCasts_S1x8x128_S8x128 : (Proc.devRef .tc main_while0b_v36 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (Host.dotGeneral dot_S8x64x128_S8x128x128_S8x64x128_2_1_1_2_0_0 none (shapeCast S8x64x128 (Host.dynamicSlice S1x8x64x128 (V0 (Proc.devRef .tc main_v27_3)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (V0 (Proc.devRef .tc main_v27_7)) : (Proc.devRef .tc main_while0b_v37 : DevRef τ sig).ty.Contents (Elt F)) = Cert.ReferenceIdeal.Step.b29 j s := by
  unfold Cert.ReferenceIdeal.Step.b29
  rw [← al_19 h, h.f_7]
  try rfl
set_option maxRecDepth 8192 in
theorem al_30 (h : Holds V0 s j) : (res_main_while0b_v38 V0 : (Proc.devRef .tc main_while0b_v38 : DevRef τ sig).ty.Contents (Elt F)) = Cert.ReferenceIdeal.Step.b30 j s := by
  unfold res_main_while0b_v38 Cert.ReferenceIdeal.Step.b30
  rw [← al_14 h, ← al_29 h]
  try rfl
set_option maxRecDepth 8192 in
theorem al_31 (h : Holds V0 s j) : (Host.dotGeneral dot_S8x64x128_S8x128x128_S8x64x128_2_1_1_2_0_0 none (shapeCast S8x64x128 (Host.dynamicSlice S1x8x64x128 (V0 (Proc.devRef .tc main_v27_0)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (V0 (Proc.devRef .tc main_v27_7)) : (Proc.devRef .tc main_while0b_v39 : DevRef τ sig).ty.Contents (Elt F)) = Cert.ReferenceIdeal.Step.b31 j s := by
  unfold Cert.ReferenceIdeal.Step.b31
  rw [← al_4 h, h.f_7]
  try rfl
set_option maxRecDepth 8192 in
theorem al_32 (h : Holds V0 s j) : (Host.dotGeneral dot_S8x64x64_S8x64x128_S8x64x128_2_1_1_2_0_0 none (shapeCast S8x64x64 (Host.dynamicSlice S1x8x64x64 (V0 (Proc.devRef .tc main_v27_4)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x64_S1x8x64x64) shapeCasts_S1x8x64x64_S8x64x64) (res_main_while0b_v38 V0) : (Proc.devRef .tc main_while0b_v40 : DevRef τ sig).ty.Contents (Elt F)) = Cert.ReferenceIdeal.Step.b32 j s := by
  unfold Cert.ReferenceIdeal.Step.b32
  rw [← al_24 h, ← al_30 h]
  try rfl
set_option maxRecDepth 8192 in
theorem al_33 (h : Holds V0 s j) : (addf (Host.dotGeneral dot_S8x64x128_S8x128x128_S8x64x128_2_1_1_2_0_0 none (shapeCast S8x64x128 (Host.dynamicSlice S1x8x64x128 (V0 (Proc.devRef .tc main_v27_0)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (V0 (Proc.devRef .tc main_v27_7))) (Host.dotGeneral dot_S8x64x64_S8x64x128_S8x64x128_2_1_1_2_0_0 none (shapeCast S8x64x64 (Host.dynamicSlice S1x8x64x64 (V0 (Proc.devRef .tc main_v27_4)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x64_S1x8x64x64) shapeCasts_S1x8x64x64_S8x64x64) (res_main_while0b_v38 V0)) : (Proc.devRef .tc main_while0b_v41 : DevRef τ sig).ty.Contents (Elt F)) = Cert.ReferenceIdeal.Step.b33 j s := by
  unfold Cert.ReferenceIdeal.Step.b33
  rw [← al_31 h, ← al_32 h]
  try rfl
set_option maxRecDepth 8192 in
theorem al_34 (h : Holds V0 s j) : (broadcastInDim S8x1x128 ![0, 2] bcast_S8x128_S8x1x128_0_2 (shapeCast S8x128 (Host.dynamicSlice S1x8x128 (V0 (Proc.devRef .tc main_v27_5)) (fun k => (((![V0 (Proc.devRef .tc main_v27_6), constantI S_ 32 0#32, constantI S_ 32 0#32] : Fin 3 → (⟨S_, .i32⟩ : BufTy).Contents (Elt F))) k (Shape.Idx.first h_S_)).toInt) sliceFits_S64x8x128_S1x8x128) shapeCasts_S1x8x128_S8x128) : (Proc.devRef .tc main_while0b_v42 : DevRef τ sig).ty.Contents (Elt F)) = Cert.ReferenceIdeal.Step.b34 j s := by
  unfold Cert.ReferenceIdeal.Step.b34
  rw [← al_28 h]
  try rfl
set_option maxRecDepth 8192 in
theorem al_35 (h : Holds V0 s j) : (broadcastInDim S8x128x128 ![0, 1, 2] bcast_S8x1x128_S8x128x128_0_1_2 (broadcastInDim S8x1x128 ![0, 2] bcast_S8x128_S8x1x128_0_2 (shapeCast S8x128 (Host.dynamicSlice S1x8x128 (V0 (Proc.devRef .tc main_v27_5)) (fun k => (((![V0 (Proc.devRef .tc main_v27_6), constantI S_ 32 0#32, constantI S_ 32 0#32] : Fin 3 → (⟨S_, .i32⟩ : BufTy).Contents (Elt F))) k (Shape.Idx.first h_S_)).toInt) sliceFits_S64x8x128_S1x8x128) shapeCasts_S1x8x128_S8x128)) : (Proc.devRef .tc main_while0b_v43 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (mulf (V0 (Proc.devRef .tc main_v27_7)) (broadcastInDim S8x128x128 ![0, 1, 2] bcast_S8x1x128_S8x128x128_0_1_2 (broadcastInDim S8x1x128 ![0, 2] bcast_S8x128_S8x1x128_0_2 (shapeCast S8x128 (Host.dynamicSlice S1x8x128 (V0 (Proc.devRef .tc main_v27_5)) (fun k => (((![V0 (Proc.devRef .tc main_v27_6), constantI S_ 32 0#32, constantI S_ 32 0#32] : Fin 3 → (⟨S_, .i32⟩ : BufTy).Contents (Elt F))) k (Shape.Idx.first h_S_)).toInt) sliceFits_S64x8x128_S1x8x128) shapeCasts_S1x8x128_S8x128))) : (Proc.devRef .tc main_while0b_v44 : DevRef τ sig).ty.Contents (Elt F)) = Cert.ReferenceIdeal.Step.b36 j s := by
  unfold Cert.ReferenceIdeal.Step.b36
  rw [← al_35 h, h.f_7]
  try rfl
set_option maxRecDepth 8192 in
theorem al_37 (h : Holds V0 s j) : (Host.dotGeneral dot_S8x64x128_S8x64x128_S8x128x128_1_1_2_2_0_0 none (shapeCast S8x64x128 (Host.dynamicSlice S1x8x64x128 (V0 (Proc.devRef .tc main_v27_1)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (res_main_while0b_v38 V0) : (Proc.devRef .tc main_while0b_v45 : DevRef τ sig).ty.Contents (Elt F)) = Cert.ReferenceIdeal.Step.b37 j s := by
  unfold Cert.ReferenceIdeal.Step.b37
  rw [← al_9 h, ← al_30 h]
  try rfl
set_option maxRecDepth 8192 in
theorem al_38 (h : Holds V0 s j) : (addf (mulf (V0 (Proc.devRef .tc main_v27_7)) (broadcastInDim S8x128x128 ![0, 1, 2] bcast_S8x1x128_S8x128x128_0_1_2 (broadcastInDim S8x1x128 ![0, 2] bcast_S8x128_S8x1x128_0_2 (shapeCast S8x128 (Host.dynamicSlice S1x8x128 (V0 (Proc.devRef .tc main_v27_5)) (fun k => (((![V0 (Proc.devRef .tc main_v27_6), constantI S_ 32 0#32, constantI S_ 32 0#32] : Fin 3 → (⟨S_, .i32⟩ : BufTy).Contents (Elt F))) k (Shape.Idx.first h_S_)).toInt) sliceFits_S64x8x128_S1x8x128) shapeCasts_S1x8x128_S8x128)))) (Host.dotGeneral dot_S8x64x128_S8x64x128_S8x128x128_1_1_2_2_0_0 none (shapeCast S8x64x128 (Host.dynamicSlice S1x8x64x128 (V0 (Proc.devRef .tc main_v27_1)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (res_main_while0b_v38 V0)) : (Proc.devRef .tc main_while0b_v46 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v27_0)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (V0 (Proc.devRef .tc main_v27_7))) (Host.dotGeneral dot_S8x64x64_S8x64x128_S8x64x128_2_1_1_2_0_0 none (shapeCast S8x64x64 (Host.dynamicSlice S1x8x64x64 (V0 (Proc.devRef .tc main_v27_4)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x64_S1x8x64x64) shapeCasts_S1x8x64x64_S8x64x64) (res_main_while0b_v38 V0))) : (Proc.devRef .tc main_while0b_call6_v0 : DevRef τ sig).ty.Contents (Elt F)) = Cert.ReferenceIdeal.Step.b39 j s := by
  unfold Cert.ReferenceIdeal.Step.b39
  rw [← al_33 h]
  try rfl
set_option maxRecDepth 8192 in
theorem al_40 (h : Holds V0 s j) : (constantI S_ 32 0#32 : (Proc.devRef .tc main_while0b_call6_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call6_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call6_c_1 : DevRef τ sig).ty.Contents (Elt F)) = Cert.ReferenceIdeal.Step.b42 j s := by
  unfold Cert.ReferenceIdeal.Step.b42
  rfl
set_option maxRecDepth 8192 in
theorem al_43 (h : Holds V0 s j) : (Host.dynamicUpdateSlice (V0 (Proc.devRef .tc main_v27_8)) (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v27_0)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (V0 (Proc.devRef .tc main_v27_7))) (Host.dotGeneral dot_S8x64x64_S8x64x128_S8x64x128_2_1_1_2_0_0 none (shapeCast S8x64x64 (Host.dynamicSlice S1x8x64x64 (V0 (Proc.devRef .tc main_v27_4)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x64_S1x8x64x64) shapeCasts_S1x8x64x64_S8x64x64) (res_main_while0b_v38 V0)))) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v47 : DevRef τ sig).ty.Contents (Elt F)) = Cert.ReferenceIdeal.Step.b43 j s := by
  unfold Cert.ReferenceIdeal.Step.b43
  rw [← al_39 h, ← al_40 h, ← al_41 h, ← al_42 h, h.f_8, h.n_6]
  try rfl
set_option maxRecDepth 8192 in
theorem al_44 (h : Holds V0 s j) : (broadcastInDim S1x8x128x128 ![1, 2, 3] bcast_S8x128x128_S1x8x128x128_1_2_3 (V0 (Proc.devRef .tc main_v27_7)) : (Proc.devRef .tc main_while0b_call7_v0 : DevRef τ sig).ty.Contents (Elt F)) = Cert.ReferenceIdeal.Step.b44 j s := by
  unfold Cert.ReferenceIdeal.Step.b44
  rw [h.f_7]
  try rfl
set_option maxRecDepth 8192 in
theorem al_45 (h : Holds V0 s j) : (constantI S_ 32 0#32 : (Proc.devRef .tc main_while0b_call7_c : DevRef τ sig).ty.Contents (Elt F)) = Cert.ReferenceIdeal.Step.b45 j s := by
  unfold Cert.ReferenceIdeal.Step.b45
  rfl
set_option maxRecDepth 8192 in
theorem al_46 (h : Holds V0 s j) : (constantI S_ 32 0#32 : (Proc.devRef .tc main_while0b_call7_c_0 : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call7_c_1 : DevRef τ sig).ty.Contents (Elt F)) = Cert.ReferenceIdeal.Step.b47 j s := by
  unfold Cert.ReferenceIdeal.Step.b47
  rfl
set_option maxRecDepth 8192 in
theorem al_48 (h : Holds V0 s j) : (Host.dynamicUpdateSlice (V0 (Proc.devRef .tc main_v27_9)) (broadcastInDim S1x8x128x128 ![1, 2, 3] bcast_S8x128x128_S1x8x128x128_1_2_3 (V0 (Proc.devRef .tc main_v27_7))) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) updateFits_S64x8x128x128_S1x8x128x128 : (Proc.devRef .tc main_while0b_v48 : DevRef τ sig).ty.Contents (Elt F)) = Cert.ReferenceIdeal.Step.b48 j s := by
  unfold Cert.ReferenceIdeal.Step.b48
  rw [← al_44 h, ← al_45 h, ← al_46 h, ← al_47 h, h.f_9, h.n_6]
  try rfl

/-! One trip's step of the carried values is `step`, field by field; a counter steps to the next number. -/

theorem step_7 (h : Holds V0 s j) : step_main_v27_7 V0 = (step j s).main_v27_7 := by
  unfold step_main_v27_7 Cert.ReferenceIdeal.Step.step
  show id (addf (mulf (V0 (Proc.devRef .tc main_v27_7)) (broadcastInDim S8x128x128 ![0, 1, 2] bcast_S8x1x128_S8x128x128_0_1_2 (broadcastInDim S8x1x128 ![0, 2] bcast_S8x128_S8x1x128_0_2 (shapeCast S8x128 (Host.dynamicSlice S1x8x128 (V0 (Proc.devRef .tc main_v27_5)) (fun k => (((![V0 (Proc.devRef .tc main_v27_6), constantI S_ 32 0#32, constantI S_ 32 0#32] : Fin 3 → (⟨S_, .i32⟩ : BufTy).Contents (Elt F))) k (Shape.Idx.first h_S_)).toInt) sliceFits_S64x8x128_S1x8x128) shapeCasts_S1x8x128_S8x128)))) (Host.dotGeneral dot_S8x64x128_S8x64x128_S8x128x128_1_1_2_2_0_0 none (shapeCast S8x64x128 (Host.dynamicSlice S1x8x64x128 (V0 (Proc.devRef .tc main_v27_1)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (res_main_while0b_v38 V0))) = _
  exact al_38 h
theorem step_8 (h : Holds V0 s j) : step_main_v27_8 V0 = (step j s).main_v27_8 := by
  unfold step_main_v27_8 Cert.ReferenceIdeal.Step.step
  show id (Host.dynamicUpdateSlice (V0 (Proc.devRef .tc main_v27_8)) (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v27_0)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (V0 (Proc.devRef .tc main_v27_7))) (Host.dotGeneral dot_S8x64x64_S8x64x128_S8x64x128_2_1_1_2_0_0 none (shapeCast S8x64x64 (Host.dynamicSlice S1x8x64x64 (V0 (Proc.devRef .tc main_v27_4)) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) sliceFits_S64x8x64x64_S1x8x64x64) shapeCasts_S1x8x64x64_S8x64x64) (res_main_while0b_v38 V0)))) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_43 h
theorem step_9 (h : Holds V0 s j) : step_main_v27_9 V0 = (step j s).main_v27_9 := by
  unfold step_main_v27_9 Cert.ReferenceIdeal.Step.step
  show id (Host.dynamicUpdateSlice (V0 (Proc.devRef .tc main_v27_9)) (broadcastInDim S1x8x128x128 ![1, 2, 3] bcast_S8x128x128_S1x8x128x128_1_2_3 (V0 (Proc.devRef .tc main_v27_7))) (fun k => (((![V0 (Proc.devRef .tc main_v27_6), constantI S_ 32 0#32, constantI S_ 32 0#32, constantI S_ 32 0#32] : Fin 4 → (⟨S_, .i32⟩ : BufTy).Contents (Elt F))) k (Shape.Idx.first h_S_)).toInt) updateFits_S64x8x128x128_S1x8x128x128) = _
  exact al_48 h
theorem step_6 (h : Holds V0 s j) : step_main_v27_6 V0 = constantI S_ 32 (BitVec.ofNat 32 (j + 1)) := by
  unfold step_main_v27_6
  rw [h.n_6]
  funext i
  show BitVec.ofNat 32 j + 1#32 = BitVec.ofNat 32 (j + 1)
  simp only [BitVec.ofNat_add]

set_option maxRecDepth 8192 in
theorem out_main_v29_holds (h : Holds V0 s j) : out_main_v29 V0 = Cert.ReferenceIdeal.Step.R_main_v29 s := by
  unfold out_main_v29 Cert.ReferenceIdeal.Step.R_main_v29
  rw [h.f_8]
  try rfl

set_option maxRecDepth 8192 in
theorem out_main_v30_holds (h : Holds V0 s j) : out_main_v30 V0 = Cert.ReferenceIdeal.Step.R_main_v30 s := by
  unfold out_main_v30 Cert.ReferenceIdeal.Step.R_main_v30
  rw [h.f_9]
  try rfl

/-- One trip keeps the valuation holding: `step` of the state, the same set-up values, the next number. -/
theorem holds_step (h : Holds V0 s j) : Holds (STEP V0) (step j s) (j + 1) where
  f_7 := (STEP_main_v27_7 V0).trans (step_7 h)
  f_8 := (STEP_main_v27_8 V0).trans (step_8 h)
  f_9 := (STEP_main_v27_9 V0).trans (step_9 h)
  n_6 := (STEP_main_v27_6 V0).trans (step_6 h)
  f_0 := (STEP_main_v27_0 V0).trans h.f_0
  f_1 := (STEP_main_v27_1 V0).trans h.f_1
  f_2 := (STEP_main_v27_2 V0).trans h.f_2
  f_3 := (STEP_main_v27_3 V0).trans h.f_3
  f_4 := (STEP_main_v27_4 V0).trans h.f_4
  f_5 := (STEP_main_v27_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v29) = Cert.ReferenceIdeal.Step.R_main_v29 (it c 64)
      ∧ r.2.mem ((c.tc : Thread nD τ).loc main_v30) = Cert.ReferenceIdeal.Step.R_main_v30 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 64
    ⟨(h c).1.trans (out_main_v29_holds hk), (h c).2.1.trans (out_main_v30_holds hk), (h c).2.2.1, (h c).2.2.2.1, (h c).2.2.2.2.1, (h c).2.2.2.2.2.1, (h c).2.2.2.2.2.2.1, (h c).2.2.2.2.2.2.2⟩) (Value.run m ρ)

end Cert.ReferenceIdeal.StepRun

end
-- ==== Proof.Forward.lean ====
/- The forward call against its reference: both leave the recurrence's outputs and saved states. -/
module

public import proofs.«01_k».proof.Defs
public import proofs.«01_k».proof.Proof.Chain
public import proofs.«01_k».proof.Proof.Scan
public import proofs.«01_k».proof.Proof.LoopRun
public import proofs.«01_k».proof.Proof.Gen.KernelIdeal.Value
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

open Idealize.ShloMosaic Idealize.ShloMosaic.TcCoe Idealize.SL.Sem

namespace Cert.Proof

section equalA
open Cert.ReferenceIdeal Cert.ReferenceIdeal.Step Cert.ReferenceIdeal.Scan

theorem equalA_0 (m : (ℓ : Loc Cert.KernelIdeal.nD Cert.KernelIdeal.τ Cert.KernelIdeal.sig) → Buf (Elt Ideal) ℓ) (c : Dev Cert.KernelIdeal.nD) (x0 : S8x4096x128.Idx → EReal) (x1 : S8x4096x128.Idx → EReal) (x2 : S8x4096x128.Idx → EReal) (x3 : S8x4096x128.Idx → EReal) (x4 : S8x4096x128.Idx → EReal) (x5 : S32x8x2x128.Idx → EReal)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5)) :
    R_main_v29 (it x0 x1 x2 x3 x4 x5 64) = Cert.KernelIdeal.Chain.outArr m c := by
  subst h0 h1 h2 h3 h4 h5
  funext i
  idx_vars i
  exact outs_result _ _ _ _ _ _ i0 i1 i2
theorem equalA_1 (m : (ℓ : Loc Cert.KernelIdeal.nD Cert.KernelIdeal.τ Cert.KernelIdeal.sig) → Buf (Elt Ideal) ℓ) (c : Dev Cert.KernelIdeal.nD) (x0 : S8x4096x128.Idx → EReal) (x1 : S8x4096x128.Idx → EReal) (x2 : S8x4096x128.Idx → EReal) (x3 : S8x4096x128.Idx → EReal) (x4 : S8x4096x128.Idx → EReal) (x5 : S32x8x2x128.Idx → EReal)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5)) :
    R_main_v30 (it x0 x1 x2 x3 x4 x5 64) = Cert.KernelIdeal.Chain.savedArr m c := by
  subst h0 h1 h2 h3 h4 h5
  funext i
  idx_vars i
  exact saved_result _ _ _ _ _ _ i2 i0 i1 i3 i4

end equalA

/-- The reference's loop states, from its memory. -/
def statesA (m' : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal :=
  Cert.ReferenceIdeal.Scan.it (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))

theorem frameA : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem algebraicA : Cert.algebraic_KernelIdeal_ReferenceIdeal (hKernelIdeal := Cert.KernelIdeal.Gen.facts) (hReferenceIdeal := Cert.ReferenceIdeal.Gen.facts) := fun m g m' g' _ hm =>
  ⟨fun c => Cert.KernelIdeal.Chain.outArr m c, fun c => Cert.KernelIdeal.Chain.savedArr m c,
    (θ_run Cert.KernelIdeal.defs _ _).mono (fun _ h c => ⟨(h c).1.trans (Cert.KernelIdeal.Chain.final_out m c), (h c).2.1.trans (Cert.KernelIdeal.Chain.final_saved m c), (h c).2.2⟩) (Cert.KernelIdeal.Value.run_blocks m g),
    (θ_run Cert.ReferenceIdeal.defs _ _).mono (fun _ h c => ⟨(h c).1.trans (equalA_0 m c _ _ _ _ _ _ (hm c).1 (hm c).2.1 (hm c).2.2.1 (hm c).2.2.2.1 (hm c).2.2.2.2.1 (hm c).2.2.2.2.2), (h c).2.1.trans (equalA_1 m c _ _ _ _ _ _ (hm c).1 (hm c).2.1 (hm c).2.2.1 (hm c).2.2.2.1 (hm c).2.2.2.2.1 (hm c).2.2.2.2.2), (h c).2.2⟩) (Cert.ReferenceIdeal.StepRun.run_iter (F := Ideal) m' g' (statesA m') (fun _ => rfl) (fun _ _ => rfl))⟩

end Cert.Proof

end
-- ==== Proof.Block2.lean ====
/- What one block of 64 rows computes in the backward kernel: each stored or carried tensor, read one head at a time, is
   the gradient of one block of the gated delta rule (`Cert.Delta`). -/
module

public import proofs.«01_k».proof.Proof.Spec
public import proofs.«01_k».proof.Proof.Gen.Kernel2Ideal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Chain

open Cert.Kernel2Ideal Cert.Kernel2Ideal.Gen Cert.Delta

/-- One head of a tensor of states. -/
def hM (v : S8x128x128.Idx → EReal) (h : Fin 8) : Mat := fun d e => v (ix3 h d e)
/-- One head of a loaded state. -/
def hS (v : S1x1x8x128x128.Idx → EReal) (h : Fin 8) : Mat := fun d e => v (ix5 0 0 h d e)
/-- One head of a tensor of blocks. -/
def hB (v : S8x64x128.Idx → EReal) (h : Fin 8) : Blk := fun c d => v (ix3 h c d)
/-- The first 64 columns of one head's scores. -/
def hL (v : S8x64x128.Idx → EReal) (h : Fin 8) : Att := fun c j => v (ix3 h c ⟨j, by omega⟩)
/-- The last 64 columns of one head's scores. -/
def hR (v : S8x64x128.Idx → EReal) (h : Fin 8) : Att := fun c j => v (ix3 h c ⟨64 + j, by omega⟩)
/-- One head's decay, and a loaded one's. -/
def hG (v : S8x1x128.Idx → EReal) (h : Fin 8) : Fin 128 → EReal := fun e => v (ix3 h 0 e)
def hD (v : S1x8x1x128.Idx → EReal) (h : Fin 8) : Fin 128 → EReal := fun e => v (ix4 0 h 0 e)

theorem hM_apply (v : S8x128x128.Idx → EReal) (h : Fin 8) (d e : Fin 128) : v (ix3 h d e) = hM v h d e := rfl
theorem hB_apply (v : S8x64x128.Idx → EReal) (h : Fin 8) (c : Fin 64) (d : Fin 128) : v (ix3 h c d) = hB v h c d := rfl
theorem hD_apply (v : S1x8x1x128.Idx → EReal) (h : Fin 8) (e : Fin 128) : v (ix4 0 h 0 e) = hD v h e := rfl

variable (h : Fin 8) (d e : Fin 128) (c : Fin 64)

/-! Casts and loads change nothing. -/

theorem cast_4 (x : Vec Ideal S8x64x128 .bf16) : hB (k0_pay4 (F := Ideal) x) h = hB x h := rfl
theorem cast_5 (x : Vec Ideal S8x64x128 .bf16) : hB (k0_pay5 (F := Ideal) x) h = hB x h := rfl
theorem cast_6 (x : Vec Ideal S8x64x128 .bf16) : hB (k0_pay6 (F := Ideal) x) h = hB x h := rfl
theorem cast_7 (x : Vec Ideal S8x64x128 .bf16) : hB (k0_pay7 (F := Ideal) x) h = hB x h := rfl
theorem cast_27 (x : Vec Ideal S8x64x128 .bf16) : hB (k0_pay27 (F := Ideal) x) h = hB x h := rfl
theorem cast_28 (x : Vec Ideal S8x64x128 .bf16) : hB (k0_pay28 (F := Ideal) x) h = hB x h := rfl
theorem cast_29 (x : Vec Ideal S8x64x128 .bf16) : hB (k0_pay29 (F := Ideal) x) h = hB x h := rfl
theorem cast_30 (x : Vec Ideal S8x64x128 .bf16) : hB (k0_pay30 (F := Ideal) x) h = hB x h := rfl
theorem cast_49 (x : Vec Ideal S8x64x128 .bf16) : hB (k0_pay49 (F := Ideal) x) h = hB x h := rfl
theorem cast_50 (x : Vec Ideal S8x64x128 .bf16) : hB (k0_pay50 (F := Ideal) x) h = hB x h := rfl
theorem cast_51 (x : Vec Ideal S8x64x128 .bf16) : hB (k0_pay51 (F := Ideal) x) h = hB x h := rfl
theorem cast_69 (x : Vec Ideal S8x64x128 .bf16) : hB (k0_pay69 (F := Ideal) x) h = hB x h := rfl
theorem cast_70 (x : Vec Ideal S8x64x128 .bf16) : hB (k0_pay70 (F := Ideal) x) h = hB x h := rfl
theorem cast_15 (x : Vec Ideal S8x64x128 .f32) : hB (k0_pay15 (F := Ideal) x) h = hB x h := by unfold k0_pay15; dsimp only; rw [shapeCast_self]
theorem cast_16 (x : Vec Ideal S8x64x128 .f32) : hB (k0_pay16 (F := Ideal) x) h = hB x h := by unfold k0_pay16; dsimp only; rw [shapeCast_self]
theorem cast_34 (x : Vec Ideal S8x64x128 .f32) : hB (k0_pay34 (F := Ideal) x) h = hB x h := by unfold k0_pay34; dsimp only; rw [shapeCast_self]
theorem cast_35 (x : Vec Ideal S8x64x128 .f32) : hB (k0_pay35 (F := Ideal) x) h = hB x h := by unfold k0_pay35; dsimp only; rw [shapeCast_self]
theorem cast_56 (x : Vec Ideal S8x64x128 .f32) : hB (k0_pay56 (F := Ideal) x) h = hB x h := by unfold k0_pay56; dsimp only; rw [shapeCast_self]
theorem cast_57 (x : Vec Ideal S8x64x128 .f32) : hB (k0_pay57 (F := Ideal) x) h = hB x h := by unfold k0_pay57; dsimp only; rw [shapeCast_self]
theorem cast_76 (x : Vec Ideal S8x64x128 .f32) : hB (k0_pay76 (F := Ideal) x) h = hB x h := by unfold k0_pay76; dsimp only; rw [shapeCast_self]
theorem cast_77 (x : Vec Ideal S8x64x128 .f32) : hB (k0_pay77 (F := Ideal) x) h = hB x h := by unfold k0_pay77; dsimp only; rw [shapeCast_self]
theorem cast_42 (x : FVec Ideal S8x64x128 .f32) : hB (k0_pay42 (F := Ideal) x) h = hB x h := rfl
theorem cast_61 (x : FVec Ideal S8x64x128 .f32) : hB (k0_pay61 (F := Ideal) x) h = hB x h := rfl
theorem cast_79 (x : Vec Ideal S8x64x128 .bf16) : hB (k0_pay79 (F := Ideal) x) h = hB x h := rfl
theorem cast_23 (x : FVec Ideal S8x64x128 .f32) : hB (k0_pay23 (F := Ideal) x) h = hB x h := rfl
theorem cast_24 (x : FVec Ideal S8x64x128 .f32) : hB (k0_pay24 (F := Ideal) x) h = hB x h := rfl
theorem cast_45 (x : FVec Ideal S8x64x128 .f32) : hB (k0_pay45 (F := Ideal) x) h = hB x h := rfl
theorem cast_46 (x : FVec Ideal S8x64x128 .f32) : hB (k0_pay46 (F := Ideal) x) h = hB x h := rfl
theorem cast_65 (x : FVec Ideal S8x64x128 .f32) : hB (k0_pay65 (F := Ideal) x) h = hB x h := rfl
theorem cast_62 (x : Vec Ideal S8x64x128 .f32) : hB (k0_pay62 (F := Ideal) x) h = hB x h := cast_56 h x
theorem cast_80 (x : Vec Ideal S8x64x128 .f32) : hB (k0_pay80 (F := Ideal) x) h = hB x h := cast_77 h x
theorem left_79 (x : Vec Ideal S8x64x128 .bf16) : hL (k0_pay79 (F := Ideal) x) h = hL x h := rfl
theorem left_30 (x : Vec Ideal S8x64x128 .bf16) : hL (k0_pay30 (F := Ideal) x) h = hL x h := rfl
theorem right_7 (x : Vec Ideal S8x64x128 .bf16) : hR (k0_pay7 (F := Ideal) x) h = hR x h := rfl
theorem last_1 (x : FVec Ideal S8x128x128 .f32) : k0_pay1 (F := Ideal) x = x := by unfold k0_pay1; dsimp only; rw [shapeCast_self]
theorem load_3 (x : Vec Ideal S1x1x8x128x128 .f32) : hM ((k0_pay3 (F := Ideal) x)) h = hS x h := by
  funext d e; show (k0_pay3 (F := Ideal) x) (ix3 h d e) = _; simp only [hM, hS, hB, hL, hR, hG, hD]; pointwise [k0_pay3]
theorem load_26 (x : Vec Ideal S1x1x8x128x128 .f32) : hM ((k0_pay26 (F := Ideal) x)) h = hS x h := by
  funext d e; show (k0_pay26 (F := Ideal) x) (ix3 h d e) = _; simp only [hM, hS, hB, hL, hR, hG, hD]; pointwise [k0_pay26]
theorem load_48 (x : Vec Ideal S1x1x8x128x128 .f32) : hM ((k0_pay48 (F := Ideal) x)) h = hS x h := by
  funext d e; show (k0_pay48 (F := Ideal) x) (ix3 h d e) = _; simp only [hM, hS, hB, hL, hR, hG, hD]; pointwise [k0_pay48]
theorem load_68 (x : Vec Ideal S1x1x8x128x128 .f32) : hM ((k0_pay68 (F := Ideal) x)) h = hS x h := by
  funext d e; show (k0_pay68 (F := Ideal) x) (ix3 h d e) = _; simp only [hM, hS, hB, hL, hR, hG, hD]; pointwise [k0_pay68]
theorem gate_8 (x : Vec Ideal S1x8x1x128 .f32) : hG ((k0_pay8 (F := Ideal) x)) h = hD x h := by
  funext e; show (k0_pay8 (F := Ideal) x) (ix3 h 0 e) = _; simp only [hM, hS, hB, hL, hR, hG, hD]; pointwise [k0_pay8]
theorem store_25 (x : FVec Ideal S8x1x128 .f32) : hD (k0_pay25 (F := Ideal) x) h = hG x h := by
  funext e; show k0_pay25 (F := Ideal) x (ix4 0 h 0 e) = _; simp only [hG]; pointwise [k0_pay25]
theorem store_47 (x : FVec Ideal S8x1x128 .f32) : hD (k0_pay47 (F := Ideal) x) h = hG x h := by
  funext e; show k0_pay47 (F := Ideal) x (ix4 0 h 0 e) = _; simp only [hG]; pointwise [k0_pay47]
theorem store_67 (x : FVec Ideal S8x1x128 .f32) : hD (k0_pay67 (F := Ideal) x) h = hG x h := by
  funext e; show k0_pay67 (F := Ideal) x (ix4 0 h 0 e) = _; simp only [hG]; pointwise [k0_pay67]
theorem store_88 (x : FVec Ideal S8x1x128 .f32) : hD (k0_pay88 (F := Ideal) x) h = hG x h := by
  funext e; show k0_pay88 (F := Ideal) x (ix4 0 h 0 e) = _; simp only [hG]; pointwise [k0_pay88]
/-- The gradient the launch begins with is zero. -/
theorem zero_at : hM (k0_pay2 (F := Ideal)) h = fun _ _ => 0 := by
  funext d e; show k0_pay2 (F := Ideal) (ix3 h d e) = _; pointwise [k0_pay2]

/-! The corrected values, from the saved state. -/

theorem corr_9 (s : Vec Ideal S1x1x8x128x128 .f32) (u : Vec Ideal S8x64x128 .f32) (w : Vec Ideal S8x64x128 .bf16) : hB ((k0_pay9 (F := Ideal) s u w)) h = corr (hB u h) (hB w h) (hS s h) := by
  funext c e; show (k0_pay9 (F := Ideal) s u w) (ix3 h c e) = _; unfold corr; simp only [hM, hS, hB, hL, hR, hG, hD]; pointwise [k0_pay9, k0_pay6, k0_pay3]
theorem corr_31 (s : FVec Ideal S8x128x128 .f32) (u : Vec Ideal S8x64x128 .f32) (w : FVec Ideal S8x64x128 .f32) : hB ((k0_pay31 (F := Ideal) s u w)) h = corr (hB u h) (hB w h) (hM s h) := by
  funext c e; show (k0_pay31 (F := Ideal) s u w) (ix3 h c e) = _; unfold corr; simp only [hM, hS, hB, hL, hR, hG, hD]; pointwise [k0_pay31]
theorem corr_52 (s : FVec Ideal S8x128x128 .f32) (u : Vec Ideal S8x64x128 .f32) (w : Vec Ideal S8x64x128 .bf16) : hB ((k0_pay52 (F := Ideal) s u w)) h = corr (hB u h) (hB w h) (hM s h) := by
  funext c e; show (k0_pay52 (F := Ideal) s u w) (ix3 h c e) = _; unfold corr; simp only [hM, hS, hB, hL, hR, hG, hD]; pointwise [k0_pay52, k0_pay51]
theorem corr_71 (s : FVec Ideal S8x128x128 .f32) (u : Vec Ideal S8x64x128 .f32) (w : Vec Ideal S8x64x128 .bf16) : hB ((k0_pay71 (F := Ideal) s u w)) h = corr (hB u h) (hB w h) (hM s h) := by
  funext c e; show (k0_pay71 (F := Ideal) s u w) (ix3 h c e) = _; unfold corr; simp only [hM, hS, hB, hL, hR, hG, hD]; pointwise [k0_pay71, k0_pay70]

/-! The gradient of the keys. -/

theorem dk_13 (D : FVec Ideal S8x128x128 .f32) (v : FVec Ideal S8x64x128 .f32) : hB ((k0_pay13 (F := Ideal) D v)) h = dk (hB v h) (hM D h) := by
  funext c e; show (k0_pay13 (F := Ideal) D v) (ix3 h c e) = _; unfold dk; simp only [hM, hS, hB, hL, hR, hG, hD]; pointwise [k0_pay13, k0_pay12]
theorem dk_32 (D : FVec Ideal S8x128x128 .f32) (s : FVec Ideal S8x128x128 .f32) (u : Vec Ideal S8x64x128 .f32) (w : FVec Ideal S8x64x128 .f32) : hB ((k0_pay32 (F := Ideal) D s u w)) h = dk (hB (k0_pay31 (F := Ideal) s u w) h) (hM D h) := by
  funext c e; show (k0_pay32 (F := Ideal) D s u w) (ix3 h c e) = _; unfold dk; simp only [hM, hS, hB, hL, hR, hG, hD]; pointwise [k0_pay32]
theorem dk_53 (D : FVec Ideal S8x128x128 .f32) (s : FVec Ideal S8x128x128 .f32) (u : Vec Ideal S8x64x128 .f32) (w : Vec Ideal S8x64x128 .bf16) : hB ((k0_pay53 (F := Ideal) D s u w)) h = dk (hB (k0_pay52 (F := Ideal) s u w) h) (hM D h) := by
  funext c e; show (k0_pay53 (F := Ideal) D s u w) (ix3 h c e) = _; unfold dk; simp only [hM, hS, hB, hL, hR, hG, hD]; pointwise [k0_pay53]
theorem dk_72 (D : FVec Ideal S8x128x128 .f32) (s : FVec Ideal S8x128x128 .f32) (u : Vec Ideal S8x64x128 .f32) (w : Vec Ideal S8x64x128 .bf16) : hB ((k0_pay72 (F := Ideal) D s u w)) h = dk (hB (k0_pay71 (F := Ideal) s u w) h) (hM D h) := by
  funext c e; show (k0_pay72 (F := Ideal) D s u w) (ix3 h c e) = _; unfold dk; simp only [hM, hS, hB, hL, hR, hG, hD]; pointwise [k0_pay72]

/-! The gradient of the scores: the columns of the other block of the chunk are zero. -/

theorem da_17 (s : Vec Ideal S1x1x8x128x128 .f32) (u : Vec Ideal S8x64x128 .f32) (w : Vec Ideal S8x64x128 .bf16) (y : Vec Ideal S8x64x128 .f32) : hB (k0_pay17 (F := Ideal) (k0_pay10 (F := Ideal) s u w) y) h = spread 1 (da (hB (k0_pay9 (F := Ideal) s u w) h) (hB y h)) := by
  funext c e; show (k0_pay17 (F := Ideal) (k0_pay10 (F := Ideal) s u w) y : S8x64x128.Idx → EReal) (ix3 h c e) = _; unfold spread da; simp only [hB]; pointwise [k0_pay17, k0_pay16, k0_pay10]
  exact sum_last (fun x => y (ix3 h c x)) (fun j x => k0_pay9 (F := Ideal) s u w (ix3 h j x)) e
theorem da_36 (s : FVec Ideal S8x128x128 .f32) (u : Vec Ideal S8x64x128 .f32) (w : FVec Ideal S8x64x128 .f32) (y : Vec Ideal S8x64x128 .f32) : hB (k0_pay36 (F := Ideal) s u w y) h = spread 0 (da (hB (k0_pay31 (F := Ideal) s u w) h) (hB y h)) := by
  funext c e; show (k0_pay36 (F := Ideal) s u w y : S8x64x128.Idx → EReal) (ix3 h c e) = _; unfold spread da; simp only [hB]; pointwise [k0_pay36, k0_pay35]
  exact sum_first (fun x => y (ix3 h c x)) (fun j x => k0_pay31 (F := Ideal) s u w (ix3 h j x)) e
theorem da_58 (s : FVec Ideal S8x128x128 .f32) (u : Vec Ideal S8x64x128 .f32) (w : Vec Ideal S8x64x128 .bf16) (y : Vec Ideal S8x64x128 .f32) : hB (k0_pay58 (F := Ideal) s u w y) h = spread 1 (da (hB (k0_pay52 (F := Ideal) s u w) h) (hB y h)) := by
  funext c e; show (k0_pay58 (F := Ideal) s u w y : S8x64x128.Idx → EReal) (ix3 h c e) = _; unfold spread da; simp only [hB]; pointwise [k0_pay58, k0_pay57]
  exact sum_last (fun x => y (ix3 h c x)) (fun j x => k0_pay52 (F := Ideal) s u w (ix3 h j x)) e
theorem da_78 (s : FVec Ideal S8x128x128 .f32) (u : Vec Ideal S8x64x128 .f32) (w : Vec Ideal S8x64x128 .bf16) (y : Vec Ideal S8x64x128 .f32) : hB (k0_pay78 (F := Ideal) s u w y) h = spread 0 (da (hB (k0_pay71 (F := Ideal) s u w) h) (hB y h)) := by
  funext c e; show (k0_pay78 (F := Ideal) s u w y : S8x64x128.Idx → EReal) (ix3 h c e) = _; unfold spread da; simp only [hB]; pointwise [k0_pay78, k0_pay77]
  exact sum_first (fun x => y (ix3 h c x)) (fun j x => k0_pay71 (F := Ideal) s u w (ix3 h j x)) e

/-! The gradient of the decay. -/

theorem dg_14 (D : FVec Ideal S8x128x128 .f32) (s : FVec Ideal S8x128x128 .f32) : hG ((k0_pay14 (F := Ideal) D s)) h = dg (hM s h) (hM D h) := by
  funext e; show (k0_pay14 (F := Ideal) D s) (ix3 h 0 e) = _; unfold dg; simp only [hM, hS, hB, hL, hR, hG, hD]; pointwise [k0_pay14, k0_pay11]
theorem dg_33 (D : FVec Ideal S8x128x128 .f32) (s : FVec Ideal S8x128x128 .f32) : hG ((k0_pay33 (F := Ideal) D s)) h = dg (hM s h) (hM D h) := by
  funext e; show (k0_pay33 (F := Ideal) D s) (ix3 h 0 e) = _; unfold dg; simp only [hM, hS, hB, hL, hR, hG, hD]; pointwise [k0_pay33]
theorem dg_54 (D : FVec Ideal S8x128x128 .f32) (s : FVec Ideal S8x128x128 .f32) : hG ((k0_pay54 (F := Ideal) D s)) h = dg (hM s h) (hM D h) := by
  funext e; show (k0_pay54 (F := Ideal) D s) (ix3 h 0 e) = _; unfold dg; simp only [hM, hS, hB, hL, hR, hG, hD]; pointwise [k0_pay54]
theorem dg_74 (D : FVec Ideal S8x128x128 .f32) (s : FVec Ideal S8x128x128 .f32) : hG ((k0_pay74 (F := Ideal) D s)) h = dg (hM s h) (hM D h) := by
  funext e; show (k0_pay74 (F := Ideal) D s) (ix3 h 0 e) = _; unfold dg; simp only [hM, hS, hB, hL, hR, hG, hD]; pointwise [k0_pay74]

/-! The gradient of the corrected values. -/

theorem dcorr_18 (D : FVec Ideal S8x128x128 .f32) (k : FVec Ideal S8x64x128 .f32) (a : FVec Ideal S8x64x128 .f32) (y : Vec Ideal S8x64x128 .f32) : hB ((k0_pay18 (F := Ideal) D k a y)) h = dcorr (hB k h) (hR a h) (hB y h) (hM D h) := by
  funext c e; show (k0_pay18 (F := Ideal) D k a y) (ix3 h c e) = _; unfold dcorr; simp only [hM, hS, hB, hL, hR, hG, hD]; pointwise [k0_pay18, k0_pay12, k0_pay16]
theorem dcorr_37 (D : FVec Ideal S8x128x128 .f32) (k : FVec Ideal S8x64x128 .f32) (a : FVec Ideal S8x64x128 .f32) (y : Vec Ideal S8x64x128 .f32) : hB ((k0_pay37 (F := Ideal) D k a y)) h = dcorr (hB k h) (hL a h) (hB y h) (hM D h) := by
  funext c e; show (k0_pay37 (F := Ideal) D k a y) (ix3 h c e) = _; unfold dcorr; simp only [hM, hS, hB, hL, hR, hG, hD]; pointwise [k0_pay37, k0_pay35]
theorem dcorr_59 (D : FVec Ideal S8x128x128 .f32) (k : FVec Ideal S8x64x128 .f32) (a : Vec Ideal S8x64x128 .bf16) (y : Vec Ideal S8x64x128 .f32) : hB ((k0_pay59 (F := Ideal) D k a y)) h = dcorr (hB k h) (hR a h) (hB y h) (hM D h) := by
  funext c e; show (k0_pay59 (F := Ideal) D k a y) (ix3 h c e) = _; unfold dcorr; simp only [hM, hS, hB, hL, hR, hG, hD]; pointwise [k0_pay59, k0_pay57]
theorem dcorr_82 (D : FVec Ideal S8x128x128 .f32) (k : Vec Ideal S8x64x128 .bf16) (a : FVec Ideal S8x64x128 .bf16) (y : FVec Ideal S8x64x128 .bf16) : hB ((k0_pay82 (F := Ideal) (k0_pay73 (F := Ideal) D k) a y)) h = dcorr (hB k h) (hL a h) (hB y h) (hM D h) := by
  funext c e; show (k0_pay82 (F := Ideal) (k0_pay73 (F := Ideal) D k) a y) (ix3 h c e) = _; unfold dcorr; simp only [hM, hS, hB, hL, hR, hG, hD]; pointwise [k0_pay82, k0_pay81, k0_pay73]

/-! The gradient of the queries. -/

theorem dq_19 (s : FVec Ideal S8x128x128 .f32) (y : Vec Ideal S8x64x128 .f32) : hB ((k0_pay19 (F := Ideal) s y)) h = dq (hM s h) (hB y h) := by
  funext c e; show (k0_pay19 (F := Ideal) s y) (ix3 h c e) = _; unfold dq; simp only [hM, hS, hB, hL, hR, hG, hD]; pointwise [k0_pay19, k0_pay15]
theorem dq_38 (s : FVec Ideal S8x128x128 .f32) (y : Vec Ideal S8x64x128 .f32) : hB ((k0_pay38 (F := Ideal) s y)) h = dq (hM s h) (hB y h) := by
  funext c e; show (k0_pay38 (F := Ideal) s y) (ix3 h c e) = _; unfold dq; simp only [hM, hS, hB, hL, hR, hG, hD]; pointwise [k0_pay38, k0_pay34]
theorem dq_60 (s : FVec Ideal S8x128x128 .f32) (y : Vec Ideal S8x64x128 .f32) : hB ((k0_pay60 (F := Ideal) s y)) h = dq (hM s h) (hB y h) := by
  funext c e; show (k0_pay60 (F := Ideal) s y) (ix3 h c e) = _; unfold dq; simp only [hM, hS, hB, hL, hR, hG, hD]; pointwise [k0_pay60, k0_pay56]
theorem dq_83 (s : FVec Ideal S8x128x128 .f32) (y : FVec Ideal S8x64x128 .f32) : hB ((k0_pay83 (F := Ideal) s y)) h = dq (hM s h) (hB y h) := by
  funext c e; show (k0_pay83 (F := Ideal) s y) (ix3 h c e) = _; unfold dq; simp only [hM, hS, hB, hL, hR, hG, hD]; pointwise [k0_pay83]

/-! The gradient of `w`. -/

theorem dw_21 (D : FVec Ideal S8x128x128 .f32) (s : FVec Ideal S8x128x128 .f32) (k : FVec Ideal S8x64x128 .f32) (a : FVec Ideal S8x64x128 .f32) (y : Vec Ideal S8x64x128 .f32) : hB ((k0_pay21 (F := Ideal) D s k a y)) h = dw (hM s h) (hB (k0_pay18 (F := Ideal) D k a y) h) := by
  funext c e; show (k0_pay21 (F := Ideal) D s k a y) (ix3 h c e) = _; unfold dw; simp only [hM, hS, hB, hL, hR, hG, hD]; pointwise [k0_pay21, k0_pay20]
  simp only [zero_sub]
theorem dw_41 (D : FVec Ideal S8x128x128 .f32) (s : FVec Ideal S8x128x128 .f32) (k : FVec Ideal S8x64x128 .f32) (a : FVec Ideal S8x64x128 .f32) (y : Vec Ideal S8x64x128 .f32) : hB ((k0_pay41 (F := Ideal) D s k a y)) h = dw (hM s h) (hB (k0_pay37 (F := Ideal) D k a y) h) := by
  funext c e; show (k0_pay41 (F := Ideal) D s k a y) (ix3 h c e) = _; unfold dw; simp only [hM, hS, hB, hL, hR, hG, hD]; pointwise [k0_pay41, k0_pay40]
  simp only [zero_sub]
theorem dw_66 (s : FVec Ideal S8x128x128 .f32) (x : FVec Ideal S8x64x128 .f32) : hB ((k0_pay66 (F := Ideal) s x)) h = dw (hM s h) (hB x h) := by
  funext c e; show (k0_pay66 (F := Ideal) s x) (ix3 h c e) = _; unfold dw; simp only [hM, hS, hB, hL, hR, hG, hD]; pointwise [k0_pay66, k0_pay63]
  simp only [zero_sub]
theorem dw_87 (s : FVec Ideal S8x128x128 .f32) (p : FVec Ideal S8x64x128 .f32) (a : FVec Ideal S8x64x128 .bf16) (y : FVec Ideal S8x64x128 .bf16) : hB ((k0_pay87 (F := Ideal) s p a y)) h = dw (hM s h) (hB (k0_pay82 (F := Ideal) p a y) h) := by
  funext c e; show (k0_pay87 (F := Ideal) s p a y) (ix3 h c e) = _; unfold dw; simp only [hM, hS, hB, hL, hR, hG, hD]; pointwise [k0_pay87, k0_pay84]
  simp only [zero_sub]

/-! The gradient of the state before the block. -/

theorem next_22 (D : FVec Ideal S8x128x128 .f32) (q : FVec Ideal S8x64x128 .f32) (k : FVec Ideal S8x64x128 .f32) (w : FVec Ideal S8x64x128 .f32) (a : FVec Ideal S8x64x128 .f32) (g : FVec Ideal S8x1x128 .f32) (y : Vec Ideal S8x64x128 .f32) : hM ((k0_pay22 (F := Ideal) D q k w a g y)) h = dstate (hB q h) (hB w h) (hG g h) (hM D h) (hB y h) (hB (k0_pay18 (F := Ideal) D k a y) h) := by
  funext d e; show (k0_pay22 (F := Ideal) D q k w a g y) (ix3 h d e) = _; unfold dstate; simp only [hM, hS, hB, hL, hR, hG, hD]; pointwise [k0_pay22, k0_pay20, k0_pay15, k0_pay11]
  simp only [zero_sub]
theorem next_44 (D : FVec Ideal S8x128x128 .f32) (q : FVec Ideal S8x64x128 .f32) (k : FVec Ideal S8x64x128 .f32) (w : FVec Ideal S8x64x128 .bf16) (a : FVec Ideal S8x64x128 .f32) (g : Vec Ideal S1x8x1x128 .f32) (y : Vec Ideal S8x64x128 .f32) : hM ((k0_pay44 (F := Ideal) (k0_pay39 (F := Ideal) D q g y) w (k0_pay43 (F := Ideal) D k a y) (constant S8x128x128 .f32 0x00000000#32))) h = dstate (hB q h) (hB w h) (hD g h) (hM D h) (hB y h) (hB (k0_pay37 (F := Ideal) D k a y) h) := by
  funext d e; show (k0_pay44 (F := Ideal) (k0_pay39 (F := Ideal) D q g y) w (k0_pay43 (F := Ideal) D k a y) (constant S8x128x128 .f32 0x00000000#32)) (ix3 h d e) = _; unfold dstate; simp only [hM, hS, hB, hL, hR, hG, hD]; pointwise [k0_pay44, k0_pay43, k0_pay40, k0_pay39, k0_pay34]
  simp only [zero_sub]
theorem next_64 (D : FVec Ideal S8x128x128 .f32) (q : FVec Ideal S8x64x128 .f32) (w : FVec Ideal S8x64x128 .f32) (x : FVec Ideal S8x64x128 .f32) (g : Vec Ideal S1x8x1x128 .f32) (y : Vec Ideal S8x64x128 .f32) : hM ((k0_pay64 (F := Ideal) w (k0_pay55 (F := Ideal) D g) x (k0_pay61 (F := Ideal) q) (k0_pay62 (F := Ideal) y) (constant S8x128x128 .f32 0x00000000#32))) h = dstate (hB q h) (hB w h) (hD g h) (hM D h) (hB y h) (hB x h) := by
  funext d e; show (k0_pay64 (F := Ideal) w (k0_pay55 (F := Ideal) D g) x (k0_pay61 (F := Ideal) q) (k0_pay62 (F := Ideal) y) (constant S8x128x128 .f32 0x00000000#32)) (ix3 h d e) = _; unfold dstate; simp only [hM, hS, hB, hL, hR, hG, hD]; pointwise [k0_pay64, k0_pay63, k0_pay62, k0_pay61, k0_pay56, k0_pay55]
  simp only [zero_sub]
theorem next_85 (D : FVec Ideal S8x128x128 .f32) (q : FVec Ideal S8x64x128 .f32) (w : FVec Ideal S8x64x128 .f32) (p : FVec Ideal S8x64x128 .f32) (g : Vec Ideal S1x8x1x128 .f32) (y : FVec Ideal S8x64x128 .f32) (a : FVec Ideal S8x64x128 .bf16) (z : FVec Ideal S8x64x128 .bf16) : hM ((k0_pay85 (F := Ideal) q w p (k0_pay75 (F := Ideal) D g) y a z)) h = dstate (hB q h) (hB w h) (hD g h) (hM D h) (hB y h) (hB (k0_pay82 (F := Ideal) p a z) h) := by
  funext d e; show (k0_pay85 (F := Ideal) q w p (k0_pay75 (F := Ideal) D g) y a z) (ix3 h d e) = _; unfold dstate; simp only [hM, hS, hB, hL, hR, hG, hD]; pointwise [k0_pay85, k0_pay84, k0_pay75]
  simp only [zero_sub]
/-- The last block's gradient of the corrected values, as it is stored. -/
theorem du_86 (p : FVec Ideal S8x64x128 .f32) (a y : FVec Ideal S8x64x128 .bf16) : hB (k0_pay86 (F := Ideal) p a y) h = hB (k0_pay82 (F := Ideal) p a y) h := rfl

end Cert.Kernel2Ideal.Chain

end
-- ==== Proof.Chain2.lean ====
/- The backward kernel's arrays: grid point `t` treats four blocks, last first, and leaves the gradient of the state after
   `4 t + 4` trips of the backward pass; its stored blocks are that pass's gradients. -/
module

public import proofs.«01_k».proof.Proof.Block2
public import proofs.«01_k».proof.Proof.Gen.Kernel2Ideal.Frame

@[expose] public section

set_option maxRecDepth 16384

noncomputable section

open Idealize.ShloMosaic Idealize.ShloMosaic.TcCoe Idealize.SL.Sem
open Idealize.ShloMosaic.Pipeline (Dat)

namespace Cert.Kernel2Ideal.Chain

open Cert.Kernel2Ideal Cert.Kernel2Ideal.Gen Cert.Delta

variable (m : (ℓ : Loc nD τ sig) → Buf (Elt Ideal) ℓ)

/-! One head of each argument array. -/
abbrev aQ (c : Dev nD) (h : Fin 8) : Fin 4096 → Fin 128 → EReal := fun r d => m ((c : Thread nD τ).loc main_arg0) (ix3 h r d)
abbrev aK (c : Dev nD) (h : Fin 8) : Fin 4096 → Fin 128 → EReal := fun r d => m ((c : Thread nD τ).loc main_arg1) (ix3 h r d)
abbrev aU (c : Dev nD) (h : Fin 8) : Fin 4096 → Fin 128 → EReal := fun r d => m ((c : Thread nD τ).loc main_arg2) (ix3 h r d)
abbrev aW (c : Dev nD) (h : Fin 8) : Fin 4096 → Fin 128 → EReal := fun r d => m ((c : Thread nD τ).loc main_arg3) (ix3 h r d)
abbrev aA (c : Dev nD) (h : Fin 8) : Fin 4096 → Fin 128 → EReal := fun r d => m ((c : Thread nD τ).loc main_arg4) (ix3 h r d)
abbrev aY (c : Dev nD) (h : Fin 8) : Fin 4096 → Fin 128 → EReal := fun r d => m ((c : Thread nD τ).loc main_arg7) (ix3 h r d)
abbrev aG (c : Dev nD) (h : Fin 8) : Fin 32 → Fin 2 → Fin 128 → EReal := fun n i e => m ((c : Thread nD τ).loc main_arg5) (ix4 n h i e)
abbrev aS (c : Dev nD) (h : Fin 8) : Fin 32 → Fin 2 → Mat := fun n i d e => m ((c : Thread nD τ).loc main_arg6) (ix5 n i h d e)

theorem idx : ∀ t : Fin cfg0.N, win0_0.index t = ![0, 15 - t.val, 0] ∧ win0_1.index t = ![0, 15 - t.val, 0] ∧ win0_2.index t = ![0, 15 - t.val, 0]
    ∧ win0_3.index t = ![0, 15 - t.val, 0] ∧ win0_4.index t = ![0, 15 - t.val, 0] ∧ win0_5.index t = ![15 - t.val, 0, 0, 0]
    ∧ win0_6.index t = ![15 - t.val, 0, 0, 0, 0] ∧ win0_7.index t = ![0, 15 - t.val, 0] ∧ win0_8.index t = ![0, 15 - t.val, 0]
    ∧ win0_9.index t = ![0, 15 - t.val, 0] ∧ win0_10.index t = ![0, 15 - t.val, 0] ∧ win0_11.index t = ![0, 15 - t.val, 0]
    ∧ win0_12.index t = ![0, 15 - t.val, 0] ∧ win0_13.index t = ![15 - t.val, 0, 0, 0] :=
  (by decide +kernel : ∀ t : Fin grid0.N, _)

/-- The gradient of the state after `n` trips, of one head. -/
abbrev gs (c : Dev nD) (h : Fin 8) (n : ℕ) : Mat := dstates (aQ m c h) (aK m c h) (aW m c h) (aA m c h) (aY m c h) (aG m c h) n

section loads
variable (c : Dev nD) (t : Fin cfg0.N) (h : Fin 8)

/-! The blocks a point loads: the 64 rows of its window from `o` on are the block of trip `4 t + (3 - o / 64)`. -/

theorem row_eq (o : ℕ) (ho : o % 64 = 0) (hb : o + 64 ≤ 256) (r : Fin 64) :
    row (63 - (4 * t.val + (3 - o / 64))) r = ⟨256 * (15 - t.val) + o + r, by omega⟩ := by
  have ht : t.val < 16 := lt_of_lt_of_eq t.isLt N_0
  unfold row; apply Fin.ext; dsimp only; omega

/-- A load of 64 rows from `o` on, at an index. -/
theorem rows_at (X : S8x256x128.Idx → EReal) (o : ℕ) (hin : ∀ a, (![0, o, 0] : Fin 3 → ℕ) a + (![8, 64, 128] : Fin 3 → ℕ) a ≤ S8x256x128.size a)
    (r : Fin 64) (d : Fin 128) :
    View.ld (Val := fun _ => EReal) (e' := .f32) X (Rect.unit (s := S8x256x128) ![0, o, 0] ![8, 64, 128] hin) (ix3 h r d)
      = X (ix3 h ⟨o + r, by have := hin 1; change o + 64 ≤ 256 at this; omega⟩ d) := by
  show X ((Rect.unit (s := S8x256x128) ![0, o, 0] ![8, 64, 128] hin).idx (ix3 h r d)) = _
  refine congrArg X (funext fun a => Fin.ext ((Rect.idx_unit_val (s := S8x256x128) ![0, o, 0] ![8, 64, 128] hin (ix3 h r d) a).trans ?_))
  fin_cases a <;> simp [ix3]

theorem ldQ (o : ℕ) (hin : ∀ a, (![0, o, 0] : Fin 3 → ℕ) a + (![8, 64, 128] : Fin 3 → ℕ) a ≤ S8x256x128.size a) (ho : o % 64 = 0) :
    hB (View.ld (iblk m c 0 t) (Rect.unit ![0, o, 0] ![8, 64, 128] hin)) h = blk (aQ m c h) (63 - (4 * t.val + (3 - o / 64))) := by
  have hb : o + 64 ≤ 256 := hin 1
  funext r d; unfold blk; rw [row_eq t o ho hb]
  refine (rows_at h _ o hin r d).trans ?_
  blk_ext [iblk, V, idx t]
theorem ldK (o : ℕ) (hin : ∀ a, (![0, o, 0] : Fin 3 → ℕ) a + (![8, 64, 128] : Fin 3 → ℕ) a ≤ S8x256x128.size a) (ho : o % 64 = 0) :
    hB (View.ld (iblk m c 1 t) (Rect.unit ![0, o, 0] ![8, 64, 128] hin)) h = blk (aK m c h) (63 - (4 * t.val + (3 - o / 64))) := by
  have hb : o + 64 ≤ 256 := hin 1
  funext r d; unfold blk; rw [row_eq t o ho hb]
  refine (rows_at h _ o hin r d).trans ?_
  blk_ext [iblk, V, idx t]
theorem ldU (o : ℕ) (hin : ∀ a, (![0, o, 0] : Fin 3 → ℕ) a + (![8, 64, 128] : Fin 3 → ℕ) a ≤ S8x256x128.size a) (ho : o % 64 = 0) :
    hB (View.ld (iblk m c 2 t) (Rect.unit ![0, o, 0] ![8, 64, 128] hin)) h = blk (aU m c h) (63 - (4 * t.val + (3 - o / 64))) := by
  have hb : o + 64 ≤ 256 := hin 1
  funext r d; unfold blk; rw [row_eq t o ho hb]
  refine (rows_at h _ o hin r d).trans ?_
  blk_ext [iblk, V, idx t]
theorem ldW (o : ℕ) (hin : ∀ a, (![0, o, 0] : Fin 3 → ℕ) a + (![8, 64, 128] : Fin 3 → ℕ) a ≤ S8x256x128.size a) (ho : o % 64 = 0) :
    hB (View.ld (iblk m c 3 t) (Rect.unit ![0, o, 0] ![8, 64, 128] hin)) h = blk (aW m c h) (63 - (4 * t.val + (3 - o / 64))) := by
  have hb : o + 64 ≤ 256 := hin 1
  funext r d; unfold blk; rw [row_eq t o ho hb]
  refine (rows_at h _ o hin r d).trans ?_
  blk_ext [iblk, V, idx t]
theorem ldY (o : ℕ) (hin : ∀ a, (![0, o, 0] : Fin 3 → ℕ) a + (![8, 64, 128] : Fin 3 → ℕ) a ≤ S8x256x128.size a) (ho : o % 64 = 0) :
    hB (View.ld (iblk m c 7 t) (Rect.unit ![0, o, 0] ![8, 64, 128] hin)) h = blk (aY m c h) (63 - (4 * t.val + (3 - o / 64))) := by
  have hb : o + 64 ≤ 256 := hin 1
  funext r d; unfold blk; rw [row_eq t o ho hb]
  refine (rows_at h _ o hin r d).trans ?_
  blk_ext [iblk, V, idx t]
theorem ldL (o : ℕ) (hin : ∀ a, (![0, o, 0] : Fin 3 → ℕ) a + (![8, 64, 128] : Fin 3 → ℕ) a ≤ S8x256x128.size a) (ho : o % 128 = 0) :
    hL (View.ld (iblk m c 4 t) (Rect.unit ![0, o, 0] ![8, 64, 128] hin)) h = dia (aA m c h) (63 - (4 * t.val + (3 - o / 64))) := by
  have hb : o + 64 ≤ 256 := hin 1
  have ht : t.val < 16 := lt_of_lt_of_eq t.isLt N_0
  funext r d; unfold dia; rw [row_eq t o (by omega) hb]
  refine (rows_at h _ o hin r ⟨d, by omega⟩).trans ?_
  blk_ext [iblk, V, idx t]
theorem ldR (o : ℕ) (hin : ∀ a, (![0, o, 0] : Fin 3 → ℕ) a + (![8, 64, 128] : Fin 3 → ℕ) a ≤ S8x256x128.size a) (ho : o % 128 = 64) :
    hR (View.ld (iblk m c 4 t) (Rect.unit ![0, o, 0] ![8, 64, 128] hin)) h = dia (aA m c h) (63 - (4 * t.val + (3 - o / 64))) := by
  have hb : o + 64 ≤ 256 := hin 1
  have ht : t.val < 16 := lt_of_lt_of_eq t.isLt N_0
  funext r d; unfold dia; rw [row_eq t o (by omega) hb]
  refine (rows_at h _ o hin r ⟨64 + d, by omega⟩).trans ?_
  blk_ext [iblk, V, idx t]
/-- The decay a point loads for its chunk `a`, block `i` of the chunk. -/
theorem ldG (a i : ℕ) (hin : ∀ k, (![a, 0, i, 0] : Fin 4 → ℕ) k + (![1, 8, 1, 128] : Fin 4 → ℕ) k ≤ S2x8x2x128.size k) :
    hD (View.ld (iblk m c 5 t) (Rect.unit ![a, 0, i, 0] ![1, 8, 1, 128] hin)) h = gat (aG m c h) (63 - (4 * t.val + (3 - (2 * a + i)))) := by
  have ha : a + 1 ≤ 2 := hin 0
  have hi : i + 1 ≤ 2 := hin 2
  have ht : t.val < 16 := lt_of_lt_of_eq t.isLt N_0
  funext e; unfold gat
  have e1 : (63 - (4 * t.val + (3 - (2 * a + i)))) / 2 % 32 = 2 * (15 - t.val) + a := by omega
  have e2 : (63 - (4 * t.val + (3 - (2 * a + i)))) % 2 = i := by omega
  simp only [e1, e2]
  show iblk m c 5 t ((Rect.unit (s := S2x8x2x128) ![a, 0, i, 0] ![1, 8, 1, 128] hin).idx (ix4 0 h 0 e)) = _
  refine (congrArg (iblk m c 5 t) (a₂ := ix4 ⟨a, by omega⟩ h ⟨i, by omega⟩ e) (funext fun k => Fin.ext ((Rect.idx_unit_val (s := S2x8x2x128) ![a, 0, i, 0] ![1, 8, 1, 128] hin (ix4 0 h 0 e) k).trans ?_))).trans ?_
  · fin_cases k <;> simp [ix4]
  · blk_ext [iblk, V, idx t]

/-- The saved state a point loads for its chunk `a`, block `i` of the chunk. -/
theorem ldS (a i : ℕ) (hin : ∀ k, (![a, i, 0, 0, 0] : Fin 5 → ℕ) k + (![1, 1, 8, 128, 128] : Fin 5 → ℕ) k ≤ S2x2x8x128x128.size k) :
    hS (View.ld (iblk m c 6 t) (Rect.unit ![a, i, 0, 0, 0] ![1, 1, 8, 128, 128] hin)) h = sav (aS m c h) (63 - (4 * t.val + (3 - (2 * a + i)))) := by
  have ha : a + 1 ≤ 2 := hin 0
  have hi : i + 1 ≤ 2 := hin 1
  have ht : t.val < 16 := lt_of_lt_of_eq t.isLt N_0
  funext d e; unfold sav
  have e1 : (63 - (4 * t.val + (3 - (2 * a + i)))) / 2 % 32 = 2 * (15 - t.val) + a := by omega
  have e2 : (63 - (4 * t.val + (3 - (2 * a + i)))) % 2 = i := by omega
  simp only [e1, e2]
  show iblk m c 6 t ((Rect.unit (s := S2x2x8x128x128) ![a, i, 0, 0, 0] ![1, 1, 8, 128, 128] hin).idx (ix5 0 0 h d e)) = _
  refine (congrArg (iblk m c 6 t) (a₂ := ix5 ⟨a, by omega⟩ ⟨i, by omega⟩ h d e) (funext fun k => Fin.ext ((Rect.idx_unit_val (s := S2x2x8x128x128) ![a, i, 0, 0, 0] ![1, 1, 8, 128, 128] hin (ix5 0 0 h d e) k).trans ?_))).trans ?_
  · fin_cases k <;> simp [ix5]
  · blk_ext [iblk, V, idx t]

end loads

/-! The gradient carried between points. -/

/-- The first point begins from zero. -/
theorem first_state (c : Dev nD) (t : Fin cfg0.N) (h0 : t.val % 16 = 0) (h : Fin 8) : hM (k0_pay2 (F := Ideal)) h = gs m c h (4 * t.val) := by
  have ht : t.val < 16 := lt_of_lt_of_eq t.isLt N_0
  rw [zero_at, show t.val = 0 by omega]; rfl

theorem state_A (c : Dev nD) (t : Fin cfg0.N) (h0 : t.val % 16 = 0) (h : Fin 8) :
    hM (outsAt0 m c t.val t.isLt).2.2.2.2.2.2 h = gs m c h (4 * t.val + 4) := by
  have hs := first_state m c t h0
  rw [outsAt0_A m c t h0]
  frame_out
  simp only [cast_4, cast_5, cast_6, cast_7, cast_27, cast_28, cast_29, cast_30, cast_49, cast_50, cast_51, cast_69, cast_70, cast_15, cast_16, cast_34, cast_35, cast_56, cast_57, cast_76, cast_77, cast_42, cast_61, cast_79, cast_23, cast_24, cast_45, cast_46, cast_65, cast_62, cast_80, left_79, left_30, right_7, last_1, load_3, load_26, load_48, load_68, gate_8, store_25, store_47, store_67, store_88, zero_at, corr_9, corr_31, corr_52, corr_71, dk_13, dk_32, dk_53, dk_72, da_17, da_36, da_58, da_78, dg_14, dg_33, dg_54, dg_74, dcorr_18, dcorr_37, dcorr_59, dcorr_82, dq_19, dq_38, dq_60, dq_83, dw_21, dw_41, dw_66, dw_87, next_22, next_44, next_64, next_85, du_86, ldQ, ldK, ldU, ldW, ldY, ldG, ldL, ldR, ldS, hs]
  rfl

theorem state_B (c : Dev nD) (t : Fin cfg0.N) (h0 : ¬ t.val % 16 = 0) (hs : ∀ h, hM (outsAt0 m c (t.val - 1) (by have := t.isLt; omega)).2.2.2.2.2.2 h = gs m c h (4 * t.val)) (h : Fin 8) :
    hM (outsAt0 m c t.val t.isLt).2.2.2.2.2.2 h = gs m c h (4 * t.val + 4) := by
  rw [outsAt0_B m c t h0]
  frame_out
  generalize he : View.read _ _ _ = s
  replace hs : ∀ h, hM s h = gs m c h (4 * t.val) := fun h => (congrArg (fun v => hM v h) (he.symm.trans (Memref.IsWhole.read_unread _ _))).trans (hs h)
  simp only [cast_4, cast_5, cast_6, cast_7, cast_27, cast_28, cast_29, cast_30, cast_49, cast_50, cast_51, cast_69, cast_70, cast_15, cast_16, cast_34, cast_35, cast_56, cast_57, cast_76, cast_77, cast_42, cast_61, cast_79, cast_23, cast_24, cast_45, cast_46, cast_65, cast_62, cast_80, left_79, left_30, right_7, last_1, load_3, load_26, load_48, load_68, gate_8, store_25, store_47, store_67, store_88, zero_at, corr_9, corr_31, corr_52, corr_71, dk_13, dk_32, dk_53, dk_72, da_17, da_36, da_58, da_78, dg_14, dg_33, dg_54, dg_74, dcorr_18, dcorr_37, dcorr_59, dcorr_82, dq_19, dq_38, dq_60, dq_83, dw_21, dw_41, dw_66, dw_87, next_22, next_44, next_64, next_85, du_86, ldQ, ldK, ldU, ldW, ldY, ldG, ldL, ldR, ldS, hs]
  rfl

theorem state_all (c : Dev nD) : ∀ (n : ℕ) (hn : n < cfg0.N) (h : Fin 8), hM (outsAt0 m c n hn).2.2.2.2.2.2 h = gs m c h (4 * n + 4)
  | 0, hn, h => state_A m c ⟨0, hn⟩ rfl h
  | n + 1, hn, h => by
    have hN : n + 1 < 16 := lt_of_lt_of_eq hn N_0
    exact state_B m c ⟨n + 1, hn⟩ (by dsimp only; omega) (fun h => (state_all c n (by omega) h).trans (by dsimp only [gs]; rw [Nat.mul_succ])) h

theorem carried (c : Dev nD) (t : Fin cfg0.N) (h0 : ¬ t.val % 16 = 0) (h : Fin 8) :
    hM (outsAt0 m c (t.val - 1) (by have := t.isLt; omega)).2.2.2.2.2.2 h = gs m c h (4 * t.val) := by
  rw [state_all, show 4 * (t.val - 1) + 4 = 4 * t.val by omega]

end Cert.Kernel2Ideal.Chain

end
-- ==== Proof.Out2.lean ====
/- The backward kernel's result arrays: each is the backward pass's gradient, block by block. -/
module

public import proofs.«01_k».proof.Proof.Chain2

@[expose] public section

set_option maxRecDepth 16384

noncomputable section

open Idealize.ShloMosaic Idealize.ShloMosaic.TcCoe Idealize.SL.Sem
open Idealize.ShloMosaic.Pipeline (Dat)

namespace Cert.Kernel2Ideal.Chain

open Cert.Kernel2Ideal Cert.Kernel2Ideal.Gen Cert.Delta

variable (m : (ℓ : Loc nD τ sig) → Buf (Elt Ideal) ℓ)

/-! The gradients of one head that trip `n` of the backward pass makes, from the argument arrays. -/
abbrev rE (c : Dev nD) (h : Fin 8) (n : ℕ) : Blk := gE (aQ m c h) (aK m c h) (aW m c h) (aA m c h) (aY m c h) (aG m c h) n
abbrev rQ (c : Dev nD) (h : Fin 8) (n : ℕ) : Blk := gQ (aY m c h) (aS m c h) n
abbrev rK (c : Dev nD) (h : Fin 8) (n : ℕ) : Blk := gK (aQ m c h) (aK m c h) (aU m c h) (aW m c h) (aA m c h) (aY m c h) (aG m c h) (aS m c h) n
abbrev rW (c : Dev nD) (h : Fin 8) (n : ℕ) : Blk := gW (aQ m c h) (aK m c h) (aW m c h) (aA m c h) (aY m c h) (aG m c h) (aS m c h) n
abbrev rA (c : Dev nD) (h : Fin 8) (n : ℕ) : Blk := gA (aU m c h) (aW m c h) (aY m c h) (aS m c h) n
abbrev rG (c : Dev nD) (h : Fin 8) (n : ℕ) : Fin 128 → EReal := gG (aQ m c h) (aK m c h) (aW m c h) (aA m c h) (aY m c h) (aG m c h) (aS m c h) n

section points
variable (c : Dev nD) (t : Fin cfg0.N) (h : Fin 8)

/-- The gradient of the queries that a point stores. -/
theorem outQ (r : Fin 256) (e : Fin 128) :
    (outsAt0 m c t.val t.isLt).1 (ix3 h r e) = rQ m c h (4 * t.val + (3 - r.val / 64)) ⟨r.val % 64, by omega⟩ e := by
  by_cases h0 : t.val % 16 = 0
  case' pos =>
    rw [outsAt0_A m c t h0]
    frame_out
  case' neg =>
    rw [outsAt0_B m c t h0]
    frame_out
  all_goals canon_tiles x hh
  all_goals
    idx_vars x
    obtain rfl := Fin.ext hh0
    obtain rfl := Fin.ext hh2
    refine Eq.trans (hB_apply _ h x1 e) ?_
    simp only [cast_4, cast_5, cast_6, cast_7, cast_27, cast_28, cast_29, cast_30, cast_49, cast_50, cast_51, cast_69, cast_70, cast_15, cast_16, cast_34, cast_35, cast_56, cast_57, cast_76, cast_77, cast_42, cast_61, cast_79, cast_23, cast_24, cast_45, cast_46, cast_65, cast_62, cast_80, left_79, left_30, right_7, last_1, load_3, load_26, load_48, load_68, gate_8, store_25, store_47, store_67, store_88, zero_at, corr_9, corr_31, corr_52, corr_71, dk_13, dk_32, dk_53, dk_72, da_17, da_36, da_58, da_78, dg_14, dg_33, dg_54, dg_74, dcorr_18, dcorr_37, dcorr_59, dcorr_82, dq_19, dq_38, dq_60, dq_83, dw_21, dw_41, dw_66, dw_87, next_22, next_44, next_64, next_85, du_86, ldQ, ldK, ldU, ldW, ldY, ldG, ldL, ldR, ldS]
    rw [show (⟨r.val % 64, by omega⟩ : Fin 64) = x1 from Fin.ext (by dsimp only; omega)]
    first
      | rw [show r.val / 64 = 3 by omega]
      | rw [show r.val / 64 = 2 by omega]
      | rw [show r.val / 64 = 1 by omega]
      | rw [show r.val / 64 = 0 by omega]
    rfl

/-- The gradient of the keys that a point stores. -/
theorem outK (r : Fin 256) (e : Fin 128) :
    (outsAt0 m c t.val t.isLt).2.1 (ix3 h r e) = rK m c h (4 * t.val + (3 - r.val / 64)) ⟨r.val % 64, by omega⟩ e := by
  by_cases h0 : t.val % 16 = 0
  case' pos =>
    have hs := first_state m c t h0
    rw [outsAt0_A m c t h0]
    frame_out
  case' neg =>
    have hs := carried m c t h0
    rw [outsAt0_B m c t h0]
    frame_out
    generalize he : View.read _ _ _ = s
    replace hs : ∀ h, hM s h = gs m c h (4 * t.val) := fun h => (congrArg (fun v => hM v h) (he.symm.trans (Memref.IsWhole.read_unread _ _))).trans (hs h)
  all_goals canon_tiles x hh
  all_goals
    idx_vars x
    obtain rfl := Fin.ext hh0
    obtain rfl := Fin.ext hh2
    refine Eq.trans (hB_apply _ h x1 e) ?_
    simp only [cast_4, cast_5, cast_6, cast_7, cast_27, cast_28, cast_29, cast_30, cast_49, cast_50, cast_51, cast_69, cast_70, cast_15, cast_16, cast_34, cast_35, cast_56, cast_57, cast_76, cast_77, cast_42, cast_61, cast_79, cast_23, cast_24, cast_45, cast_46, cast_65, cast_62, cast_80, left_79, left_30, right_7, last_1, load_3, load_26, load_48, load_68, gate_8, store_25, store_47, store_67, store_88, zero_at, corr_9, corr_31, corr_52, corr_71, dk_13, dk_32, dk_53, dk_72, da_17, da_36, da_58, da_78, dg_14, dg_33, dg_54, dg_74, dcorr_18, dcorr_37, dcorr_59, dcorr_82, dq_19, dq_38, dq_60, dq_83, dw_21, dw_41, dw_66, dw_87, next_22, next_44, next_64, next_85, du_86, ldQ, ldK, ldU, ldW, ldY, ldG, ldL, ldR, ldS, hs]
    rw [show (⟨r.val % 64, by omega⟩ : Fin 64) = x1 from Fin.ext (by dsimp only; omega)]
    first
      | rw [show r.val / 64 = 3 by omega]
      | rw [show r.val / 64 = 2 by omega]
      | rw [show r.val / 64 = 1 by omega]
      | rw [show r.val / 64 = 0 by omega]
    rfl

/-- The gradient of the values `u` that a point stores. -/
theorem outE (r : Fin 256) (e : Fin 128) :
    (outsAt0 m c t.val t.isLt).2.2.1 (ix3 h r e) = rE m c h (4 * t.val + (3 - r.val / 64)) ⟨r.val % 64, by omega⟩ e := by
  by_cases h0 : t.val % 16 = 0
  case' pos =>
    have hs := first_state m c t h0
    rw [outsAt0_A m c t h0]
    frame_out
  case' neg =>
    have hs := carried m c t h0
    rw [outsAt0_B m c t h0]
    frame_out
    generalize he : View.read _ _ _ = s
    replace hs : ∀ h, hM s h = gs m c h (4 * t.val) := fun h => (congrArg (fun v => hM v h) (he.symm.trans (Memref.IsWhole.read_unread _ _))).trans (hs h)
  all_goals canon_tiles x hh
  all_goals
    idx_vars x
    obtain rfl := Fin.ext hh0
    obtain rfl := Fin.ext hh2
    refine Eq.trans (hB_apply _ h x1 e) ?_
    simp only [cast_4, cast_5, cast_6, cast_7, cast_27, cast_28, cast_29, cast_30, cast_49, cast_50, cast_51, cast_69, cast_70, cast_15, cast_16, cast_34, cast_35, cast_56, cast_57, cast_76, cast_77, cast_42, cast_61, cast_79, cast_23, cast_24, cast_45, cast_46, cast_65, cast_62, cast_80, left_79, left_30, right_7, last_1, load_3, load_26, load_48, load_68, gate_8, store_25, store_47, store_67, store_88, zero_at, corr_9, corr_31, corr_52, corr_71, dk_13, dk_32, dk_53, dk_72, da_17, da_36, da_58, da_78, dg_14, dg_33, dg_54, dg_74, dcorr_18, dcorr_37, dcorr_59, dcorr_82, dq_19, dq_38, dq_60, dq_83, dw_21, dw_41, dw_66, dw_87, next_22, next_44, next_64, next_85, du_86, ldQ, ldK, ldU, ldW, ldY, ldG, ldL, ldR, ldS, hs]
    rw [show (⟨r.val % 64, by omega⟩ : Fin 64) = x1 from Fin.ext (by dsimp only; omega)]
    first
      | rw [show r.val / 64 = 3 by omega]
      | rw [show r.val / 64 = 2 by omega]
      | rw [show r.val / 64 = 1 by omega]
      | rw [show r.val / 64 = 0 by omega]
    rfl

/-- The gradient of the `w` that a point stores. -/
theorem outW (r : Fin 256) (e : Fin 128) :
    (outsAt0 m c t.val t.isLt).2.2.2.1 (ix3 h r e) = rW m c h (4 * t.val + (3 - r.val / 64)) ⟨r.val % 64, by omega⟩ e := by
  by_cases h0 : t.val % 16 = 0
  case' pos =>
    have hs := first_state m c t h0
    rw [outsAt0_A m c t h0]
    frame_out
  case' neg =>
    have hs := carried m c t h0
    rw [outsAt0_B m c t h0]
    frame_out
    generalize he : View.read _ _ _ = s
    replace hs : ∀ h, hM s h = gs m c h (4 * t.val) := fun h => (congrArg (fun v => hM v h) (he.symm.trans (Memref.IsWhole.read_unread _ _))).trans (hs h)
  all_goals canon_tiles x hh
  all_goals
    idx_vars x
    obtain rfl := Fin.ext hh0
    obtain rfl := Fin.ext hh2
    refine Eq.trans (hB_apply _ h x1 e) ?_
    simp only [cast_4, cast_5, cast_6, cast_7, cast_27, cast_28, cast_29, cast_30, cast_49, cast_50, cast_51, cast_69, cast_70, cast_15, cast_16, cast_34, cast_35, cast_56, cast_57, cast_76, cast_77, cast_42, cast_61, cast_79, cast_23, cast_24, cast_45, cast_46, cast_65, cast_62, cast_80, left_79, left_30, right_7, last_1, load_3, load_26, load_48, load_68, gate_8, store_25, store_47, store_67, store_88, zero_at, corr_9, corr_31, corr_52, corr_71, dk_13, dk_32, dk_53, dk_72, da_17, da_36, da_58, da_78, dg_14, dg_33, dg_54, dg_74, dcorr_18, dcorr_37, dcorr_59, dcorr_82, dq_19, dq_38, dq_60, dq_83, dw_21, dw_41, dw_66, dw_87, next_22, next_44, next_64, next_85, du_86, ldQ, ldK, ldU, ldW, ldY, ldG, ldL, ldR, ldS, hs]
    rw [show (⟨r.val % 64, by omega⟩ : Fin 64) = x1 from Fin.ext (by dsimp only; omega)]
    first
      | rw [show r.val / 64 = 3 by omega]
      | rw [show r.val / 64 = 2 by omega]
      | rw [show r.val / 64 = 1 by omega]
      | rw [show r.val / 64 = 0 by omega]
    rfl

/-- The gradient of the scores that a point stores. -/
theorem outA (r : Fin 256) (e : Fin 128) :
    (outsAt0 m c t.val t.isLt).2.2.2.2.1 (ix3 h r e) = rA m c h (4 * t.val + (3 - r.val / 64)) ⟨r.val % 64, by omega⟩ e := by
  by_cases h0 : t.val % 16 = 0
  case' pos =>
    rw [outsAt0_A m c t h0]
    frame_out
  case' neg =>
    rw [outsAt0_B m c t h0]
    frame_out
  all_goals canon_tiles x hh
  all_goals
    idx_vars x
    obtain rfl := Fin.ext hh0
    obtain rfl := Fin.ext hh2
    refine Eq.trans (hB_apply _ h x1 e) ?_
    simp only [cast_4, cast_5, cast_6, cast_7, cast_27, cast_28, cast_29, cast_30, cast_49, cast_50, cast_51, cast_69, cast_70, cast_15, cast_16, cast_34, cast_35, cast_56, cast_57, cast_76, cast_77, cast_42, cast_61, cast_79, cast_23, cast_24, cast_45, cast_46, cast_65, cast_62, cast_80, left_79, left_30, right_7, last_1, load_3, load_26, load_48, load_68, gate_8, store_25, store_47, store_67, store_88, zero_at, corr_9, corr_31, corr_52, corr_71, dk_13, dk_32, dk_53, dk_72, da_17, da_36, da_58, da_78, dg_14, dg_33, dg_54, dg_74, dcorr_18, dcorr_37, dcorr_59, dcorr_82, dq_19, dq_38, dq_60, dq_83, dw_21, dw_41, dw_66, dw_87, next_22, next_44, next_64, next_85, du_86, ldQ, ldK, ldU, ldW, ldY, ldG, ldL, ldR, ldS]
    rw [show (⟨r.val % 64, by omega⟩ : Fin 64) = x1 from Fin.ext (by dsimp only; omega)]
    first
      | rw [show r.val / 64 = 3 by omega]
      | rw [show r.val / 64 = 2 by omega]
      | rw [show r.val / 64 = 1 by omega]
      | rw [show r.val / 64 = 0 by omega]
    have ht : t.val < 16 := t.isLt
    exact (congrFun (congrFun (spread_of _ _ (by omega) _) _) _).symm

/-- The gradient of the decay that a point stores. -/
theorem outG (a i : Fin 2) (e : Fin 128) :
    (outsAt0 m c t.val t.isLt).2.2.2.2.2.1 (ix4 a h i e) = rG m c h (4 * t.val + (3 - (2 * a.val + i.val))) e := by
  by_cases h0 : t.val % 16 = 0
  case' pos =>
    have hs := first_state m c t h0
    rw [outsAt0_A m c t h0]
    frame_out
  case' neg =>
    have hs := carried m c t h0
    rw [outsAt0_B m c t h0]
    frame_out
    generalize he : View.read _ _ _ = s
    replace hs : ∀ h, hM s h = gs m c h (4 * t.val) := fun h => (congrArg (fun v => hM v h) (he.symm.trans (Memref.IsWhole.read_unread _ _))).trans (hs h)
  all_goals canon_tiles x hh
  all_goals
    idx_vars x
    obtain rfl := Fin.ext hh1
    obtain rfl := Fin.ext hh3
    obtain rfl : x0 = 0 := Subsingleton.elim _ _
    obtain rfl : x2 = 0 := Subsingleton.elim _ _
    refine Eq.trans (hD_apply _ h e) ?_
    simp only [cast_4, cast_5, cast_6, cast_7, cast_27, cast_28, cast_29, cast_30, cast_49, cast_50, cast_51, cast_69, cast_70, cast_15, cast_16, cast_34, cast_35, cast_56, cast_57, cast_76, cast_77, cast_42, cast_61, cast_79, cast_23, cast_24, cast_45, cast_46, cast_65, cast_62, cast_80, left_79, left_30, right_7, last_1, load_3, load_26, load_48, load_68, gate_8, store_25, store_47, store_67, store_88, zero_at, corr_9, corr_31, corr_52, corr_71, dk_13, dk_32, dk_53, dk_72, da_17, da_36, da_58, da_78, dg_14, dg_33, dg_54, dg_74, dcorr_18, dcorr_37, dcorr_59, dcorr_82, dq_19, dq_38, dq_60, dq_83, dw_21, dw_41, dw_66, dw_87, next_22, next_44, next_64, next_85, du_86, ldQ, ldK, ldU, ldW, ldY, ldG, ldL, ldR, ldS, hs]
    first
      | rw [show 2 * a.val + i.val = 3 by simp at hh0 hh2; omega]
      | rw [show 2 * a.val + i.val = 2 by simp at hh0 hh2; omega]
      | rw [show 2 * a.val + i.val = 1 by simp at hh0 hh2; omega]
      | rw [show 2 * a.val + i.val = 0 by simp at hh0 hh2; omega]
    rfl

end points

/-! The result arrays: row `r` belongs to trip `63 - r / 64`. -/

abbrev arrQ (c : Dev nD) : S8x4096x128.Idx → EReal := fun i =>
  rQ m c (i 0) (63 - (i 1 : Fin 4096).val / 64) ⟨(i 1 : Fin 4096).val % 64, Nat.mod_lt _ (by decide)⟩ (i 2)
theorem finalQ (c : Dev nD) : (dats m 0 c).arrAt 8 cfg0.N = arrQ m c := by
  refine (dats m 0 c).arrAt_eq_of_covers 8 _ (by decide +kernel) fun t hf y => ?_
  blk_simp
  rw [after0_8]
  have ht : t.val < 16 := lt_of_lt_of_eq t.isLt N_0
  idx_vars y
  refine (outQ m c t y0 y1 y2).trans ?_
  have e : (win0_8.blk t).view.emb (ix3 y0 y1 y2) = ix3 y0 (⟨256 * (15 - t.val) + y1.val, by omega⟩ : Fin 4096) y2 := by
    blk_ext [idx t]
  rw [e]
  show _ = rQ m c y0 (63 - (256 * (15 - t.val) + y1.val) / 64) ⟨(256 * (15 - t.val) + y1.val) % 64, _⟩ y2
  congr 1
  · congr 1; omega
  · apply Fin.ext; dsimp only; omega

abbrev arrK (c : Dev nD) : S8x4096x128.Idx → EReal := fun i =>
  rK m c (i 0) (63 - (i 1 : Fin 4096).val / 64) ⟨(i 1 : Fin 4096).val % 64, Nat.mod_lt _ (by decide)⟩ (i 2)
theorem finalK (c : Dev nD) : (dats m 0 c).arrAt 9 cfg0.N = arrK m c := by
  refine (dats m 0 c).arrAt_eq_of_covers 9 _ (by decide +kernel) fun t hf y => ?_
  blk_simp
  rw [after0_9]
  have ht : t.val < 16 := lt_of_lt_of_eq t.isLt N_0
  idx_vars y
  refine (outK m c t y0 y1 y2).trans ?_
  have e : (win0_9.blk t).view.emb (ix3 y0 y1 y2) = ix3 y0 (⟨256 * (15 - t.val) + y1.val, by omega⟩ : Fin 4096) y2 := by
    blk_ext [idx t]
  rw [e]
  show _ = rK m c y0 (63 - (256 * (15 - t.val) + y1.val) / 64) ⟨(256 * (15 - t.val) + y1.val) % 64, _⟩ y2
  congr 1
  · congr 1; omega
  · apply Fin.ext; dsimp only; omega

abbrev arrE (c : Dev nD) : S8x4096x128.Idx → EReal := fun i =>
  rE m c (i 0) (63 - (i 1 : Fin 4096).val / 64) ⟨(i 1 : Fin 4096).val % 64, Nat.mod_lt _ (by decide)⟩ (i 2)
theorem finalE (c : Dev nD) : (dats m 0 c).arrAt 10 cfg0.N = arrE m c := by
  refine (dats m 0 c).arrAt_eq_of_covers 10 _ (by decide +kernel) fun t hf y => ?_
  blk_simp
  rw [after0_10]
  have ht : t.val < 16 := lt_of_lt_of_eq t.isLt N_0
  idx_vars y
  refine (outE m c t y0 y1 y2).trans ?_
  have e : (win0_10.blk t).view.emb (ix3 y0 y1 y2) = ix3 y0 (⟨256 * (15 - t.val) + y1.val, by omega⟩ : Fin 4096) y2 := by
    blk_ext [idx t]
  rw [e]
  show _ = rE m c y0 (63 - (256 * (15 - t.val) + y1.val) / 64) ⟨(256 * (15 - t.val) + y1.val) % 64, _⟩ y2
  congr 1
  · congr 1; omega
  · apply Fin.ext; dsimp only; omega

abbrev arrW (c : Dev nD) : S8x4096x128.Idx → EReal := fun i =>
  rW m c (i 0) (63 - (i 1 : Fin 4096).val / 64) ⟨(i 1 : Fin 4096).val % 64, Nat.mod_lt _ (by decide)⟩ (i 2)
theorem finalW (c : Dev nD) : (dats m 0 c).arrAt 11 cfg0.N = arrW m c := by
  refine (dats m 0 c).arrAt_eq_of_covers 11 _ (by decide +kernel) fun t hf y => ?_
  blk_simp
  rw [after0_11]
  have ht : t.val < 16 := lt_of_lt_of_eq t.isLt N_0
  idx_vars y
  refine (outW m c t y0 y1 y2).trans ?_
  have e : (win0_11.blk t).view.emb (ix3 y0 y1 y2) = ix3 y0 (⟨256 * (15 - t.val) + y1.val, by omega⟩ : Fin 4096) y2 := by
    blk_ext [idx t]
  rw [e]
  show _ = rW m c y0 (63 - (256 * (15 - t.val) + y1.val) / 64) ⟨(256 * (15 - t.val) + y1.val) % 64, _⟩ y2
  congr 1
  · congr 1; omega
  · apply Fin.ext; dsimp only; omega

abbrev arrA (c : Dev nD) : S8x4096x128.Idx → EReal := fun i =>
  rA m c (i 0) (63 - (i 1 : Fin 4096).val / 64) ⟨(i 1 : Fin 4096).val % 64, Nat.mod_lt _ (by decide)⟩ (i 2)
theorem finalA (c : Dev nD) : (dats m 0 c).arrAt 12 cfg0.N = arrA m c := by
  refine (dats m 0 c).arrAt_eq_of_covers 12 _ (by decide +kernel) fun t hf y => ?_
  blk_simp
  rw [after0_12]
  have ht : t.val < 16 := lt_of_lt_of_eq t.isLt N_0
  idx_vars y
  refine (outA m c t y0 y1 y2).trans ?_
  have e : (win0_12.blk t).view.emb (ix3 y0 y1 y2) = ix3 y0 (⟨256 * (15 - t.val) + y1.val, by omega⟩ : Fin 4096) y2 := by
    blk_ext [idx t]
  rw [e]
  show _ = rA m c y0 (63 - (256 * (15 - t.val) + y1.val) / 64) ⟨(256 * (15 - t.val) + y1.val) % 64, _⟩ y2
  congr 1
  · congr 1; omega
  · apply Fin.ext; dsimp only; omega

abbrev arrG (c : Dev nD) : S32x8x2x128.Idx → EReal := fun i =>
  rG m c (i 1) (63 - (2 * (i 0 : Fin 32).val + (i 2 : Fin 2).val)) (i 3)
theorem finalG (c : Dev nD) : (dats m 0 c).arrAt 13 cfg0.N = arrG m c := by
  refine (dats m 0 c).arrAt_eq_of_covers 13 _ (by decide +kernel) fun t hf y => ?_
  blk_simp
  rw [after0_13]
  have ht : t.val < 16 := lt_of_lt_of_eq t.isLt N_0
  idx_vars y
  refine (outG m c t y1 y0 y2 y3).trans ?_
  have e : (win0_13.blk t).view.emb (ix4 y0 y1 y2 y3) = ix4 (⟨2 * (15 - t.val) + y0.val, by omega⟩ : Fin 32) y1 y2 y3 := by
    blk_ext [idx t]
  rw [e]
  show _ = rG m c y1 (63 - (2 * (2 * (15 - t.val) + y0.val) + y2.val)) y3
  rw [show 63 - (2 * (2 * (15 - t.val) + y0.val) + y2.val) = 4 * t.val + (3 - (2 * y0.val + y2.val)) by omega]

end Cert.Kernel2Ideal.Chain

end
-- ==== Proof.Scan2.lean ====
/- The backward reference's loop, trip by trip: trip `n` treats block `63 - n`; before it the carried gradient is the
   backward pass's after `n` trips, and the stacked gradients hold the blocks treated so far. -/
module

public import proofs.«01_k».proof.Proof.Spec
public import proofs.«01_k».proof.Proof.Gen.Reference2Ideal.Step
public import Idealize.ShloMosaic.Lib.Pointwise
public import Idealize.ShloMosaic.Lib.DynamicIndex
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference2Ideal.Scan

open Cert.Reference2Ideal Cert.Reference2Ideal.Step Cert.Delta

abbrev St := State Ideal

/-- The block a trip treats, read signed. -/
theorem block_of (j : ℕ) (s : St) (hj : j < 64) (i : S_.Idx) : BitVec.toInt (b3 j s i) = ((63 - j : ℕ) : ℤ) := by
  show BitVec.toInt (64#32 - BitVec.ofNat 32 j - 1#32) = _
  interval_cases j <;> rfl

/-- The starts of a trip's slices of a rank-4 stack, read signed. -/
theorem starts4 (j : ℕ) (s : St) (hj : j < 64) (p : 0 < S_.numel) (a : Fin 4) :
    BitVec.toInt ((![b3 j s, constantI S_ 32 0#32, constantI S_ 32 0#32, constantI S_ 32 0#32] : Fin 4 → S_.Idx → BitVec 32) a
      (Shape.Idx.first p)) = ((![63 - j, 0, 0, 0] : Fin 4 → ℕ) a : ℤ) := by
  fin_cases a
  · exact block_of j s hj _
  all_goals rfl

/-- The starts of a trip's slices of a rank-3 stack, read signed. -/
theorem starts3 (j : ℕ) (s : St) (hj : j < 64) (p : 0 < S_.numel) (a : Fin 3) :
    BitVec.toInt ((![b3 j s, constantI S_ 32 0#32, constantI S_ 32 0#32] : Fin 3 → S_.Idx → BitVec 32) a
      (Shape.Idx.first p)) = ((![63 - j, 0, 0] : Fin 3 → ℕ) a : ℤ) := by
  fin_cases a
  · exact block_of j s hj _
  all_goals rfl

section trip
variable (j : ℕ) (hj : j < 64) (s : St) (h : Fin 8) (c i : Fin 64) (d e : Fin 128)
include hj

theorem fits_rows : S64x8x64x128.Slices ![63 - j, 0, 0, 0] S1x8x64x128 := ⟨rfl, fun a => by fin_cases a <;> simp <;> omega⟩
theorem fits_att : S64x8x64x64.Slices ![63 - j, 0, 0, 0] S1x8x64x64 := ⟨rfl, fun a => by fin_cases a <;> simp <;> omega⟩
theorem fits_state : S64x8x128x128.Slices ![63 - j, 0, 0, 0] S1x8x128x128 := ⟨rfl, fun a => by fin_cases a <;> simp <;> omega⟩
theorem fits_gate : S64x8x128.Slices ![63 - j, 0, 0] S1x8x128 := ⟨rfl, fun a => by fin_cases a <;> simp <;> omega⟩

/-! What one trip reads of the stacked blocks. -/
theorem q_slice : b12 j s = extractStridedSlice S1x8x64x128 ![63 - j, 0, 0, 0] s.main_v34_1 (fits_rows j hj) :=
  Host.dynamicSlice_eq_extractStridedSlice _ _ _ _ _ _ (starts4 j s hj _)
theorem k_slice : b17 j s = extractStridedSlice S1x8x64x128 ![63 - j, 0, 0, 0] s.main_v34_2 (fits_rows j hj) :=
  Host.dynamicSlice_eq_extractStridedSlice _ _ _ _ _ _ (starts4 j s hj _)
theorem u_slice : b22 j s = extractStridedSlice S1x8x64x128 ![63 - j, 0, 0, 0] s.main_v34_3 (fits_rows j hj) :=
  Host.dynamicSlice_eq_extractStridedSlice _ _ _ _ _ _ (starts4 j s hj _)
theorem w_slice : b27 j s = extractStridedSlice S1x8x64x128 ![63 - j, 0, 0, 0] s.main_v34_4 (fits_rows j hj) :=
  Host.dynamicSlice_eq_extractStridedSlice _ _ _ _ _ _ (starts4 j s hj _)
theorem y_slice : b41 j s = extractStridedSlice S1x8x64x128 ![63 - j, 0, 0, 0] s.main_v34_7 (fits_rows j hj) :=
  Host.dynamicSlice_eq_extractStridedSlice _ _ _ _ _ _ (starts4 j s hj _)
theorem s_slice : b7 j s = extractStridedSlice S1x8x128x128 ![63 - j, 0, 0, 0] s.main_v34_0 (fits_state j hj) :=
  Host.dynamicSlice_eq_extractStridedSlice _ _ _ _ _ _ (starts4 j s hj _)
theorem a_slice : b32 j s = extractStridedSlice S1x8x64x64 ![63 - j, 0, 0, 0] s.main_v34_5 (fits_att j hj) :=
  Host.dynamicSlice_eq_extractStridedSlice _ _ _ _ _ _ (starts4 j s hj _)
theorem g_slice : b36 j s = extractStridedSlice S1x8x128 ![63 - j, 0, 0] s.main_v34_6 (fits_gate j hj) :=
  Host.dynamicSlice_eq_extractStridedSlice _ _ _ _ _ _ (starts3 j s hj _)

theorem q_at : b13 j s (ix3 h c d) = s.main_v34_1 (ix4 ⟨63 - j, by omega⟩ h c d) := by unfold b13; rw [q_slice j hj]; pointwise []
theorem k_at : b18 j s (ix3 h c d) = s.main_v34_2 (ix4 ⟨63 - j, by omega⟩ h c d) := by unfold b18; rw [k_slice j hj]; pointwise []
theorem u_at : b23 j s (ix3 h c d) = s.main_v34_3 (ix4 ⟨63 - j, by omega⟩ h c d) := by unfold b23; rw [u_slice j hj]; pointwise []
theorem w_at : b28 j s (ix3 h c d) = s.main_v34_4 (ix4 ⟨63 - j, by omega⟩ h c d) := by unfold b28; rw [w_slice j hj]; pointwise []
theorem y_at : b42 j s (ix3 h c d) = s.main_v34_7 (ix4 ⟨63 - j, by omega⟩ h c d) := by unfold b42; rw [y_slice j hj]; pointwise []
theorem s_at : b8 j s (ix3 h d e) = s.main_v34_0 (ix4 ⟨63 - j, by omega⟩ h d e) := by unfold b8; rw [s_slice j hj]; pointwise []
theorem a_at : b33 j s (ix3 h c i) = s.main_v34_5 (ix4 ⟨63 - j, by omega⟩ h c i) := by unfold b33; rw [a_slice j hj]; pointwise []
theorem g_at : b37 j s (ix2 h e) = s.main_v34_6 (ix3 ⟨63 - j, by omega⟩ h e) := by unfold b37; rw [g_slice j hj]; pointwise []

/-- One head of the trip's block, of its scores, decay and saved state, and of the carried gradient. -/
abbrev sB (X : S64x8x64x128.Idx → EReal) : Blk := fun c d => X (ix4 ⟨63 - j, by omega⟩ h c d)
abbrev sA (X : S64x8x64x64.Idx → EReal) : Att := fun c i => X (ix4 ⟨63 - j, by omega⟩ h c i)
abbrev sG (X : S64x8x128.Idx → EReal) : Fin 128 → EReal := fun e => X (ix3 ⟨63 - j, by omega⟩ h e)
abbrev sS (X : S64x8x128x128.Idx → EReal) : Mat := fun d e => X (ix4 ⟨63 - j, by omega⟩ h d e)
omit hj in
abbrev sM (X : S8x128x128.Idx → EReal) : Mat := fun d e => X (ix3 h d e)

/-- The corrected values the trip recomputes, and their gradient. -/
abbrev tV : Blk := corr (sB j hj h s.main_v34_3) (sB j hj h s.main_v34_4) (sS j hj h s.main_v34_0)
abbrev tE : Blk := dcorr (sB j hj h s.main_v34_2) (sA j hj h s.main_v34_5) (sB j hj h s.main_v34_7) (sM h s.main_v34_9)

theorem corr_at : b44 j s (ix3 h c e) = tV j hj s h c e := by
  unfold tV corr
  pointwise [b44, b43]
  simp only [u_at j hj, w_at j hj, s_at j hj]

theorem dcorr_at : b67 j s (ix3 h c e) = tE j hj s h c e := by
  unfold tE dcorr
  pointwise [b67, b66, b65, b54, b53]
  simp only [y_at j hj, a_at j hj, k_at j hj, mul_comm]

theorem dq_at : b72 j s (ix3 h c d) = dq (sS j hj h s.main_v34_0) (sB j hj h s.main_v34_7) c d := by
  unfold dq
  pointwise [b72]
  simp only [y_at j hj, s_at j hj]

theorem dk_at : b56 j s (ix3 h c d) = dk (tV j hj s h) (sM h s.main_v34_9) c d := by
  unfold dk
  pointwise [b56, b55]
  simp only [corr_at j hj, mul_comm]

theorem dw_at : b77 j s (ix3 h c d) = dw (sS j hj h s.main_v34_0) (tE j hj s h) c d := by
  unfold dw
  pointwise [b77, b73]
  simp only [dcorr_at j hj, s_at j hj]

theorem da_at : b68 j s (ix3 h c i) = da (tV j hj s h) (sB j hj h s.main_v34_7) c i := by
  unfold da
  pointwise [b68]
  simp only [corr_at j hj, y_at j hj]

theorem dg_at : b64 j s (ix2 h e) = dg (sS j hj h s.main_v34_0) (sM h s.main_v34_9) e := by
  unfold dg
  pointwise [b64, b63, b60, b59, b58, b57]
  simp only [s_at j hj, Finset.univ_unique, Finset.sum_singleton]

theorem next_at : b76 j s (ix3 h d e) = dstate (sB j hj h s.main_v34_1) (sB j hj h s.main_v34_4) (sG j hj h s.main_v34_6)
    (sM h s.main_v34_9) (sB j hj h s.main_v34_7) (tE j hj s h) d e := by
  unfold dstate
  pointwise [b76, b75, b74, b73, b71, b70, b69, b62, b61, b48]
  simp only [dcorr_at j hj, q_at j hj, w_at j hj, g_at j hj, y_at j hj, mul_comm]

/-! A trip puts its gradients at its block's place of the stacks and keeps the rest. -/

theorem q_update : b82 j s = updateSlice s.main_v34_10 (b78 j s) ![63 - j, 0, 0, 0] (fits_rows j hj) :=
  WordCmp.dynamicUpdateSlice_eq_update _ _ _ _ _ _ (starts4 j s hj _)
theorem q_step (b : Fin 64) : b82 j s (ix4 b h c e) = if b.val = 63 - j then b72 j s (ix3 h c e) else s.main_v34_10 (ix4 b h c e) := by
  rw [q_update j hj]
  pointwise [b78]
  by_cases hb : b.val = 63 - j
  · rw [dif_pos (by omega), if_pos hb]
  · rw [dif_neg (by omega), if_neg hb]
theorem k_update : b87 j s = updateSlice s.main_v34_11 (b83 j s) ![63 - j, 0, 0, 0] (fits_rows j hj) :=
  WordCmp.dynamicUpdateSlice_eq_update _ _ _ _ _ _ (starts4 j s hj _)
theorem k_step (b : Fin 64) : b87 j s (ix4 b h c e) = if b.val = 63 - j then b56 j s (ix3 h c e) else s.main_v34_11 (ix4 b h c e) := by
  rw [k_update j hj]
  pointwise [b83]
  by_cases hb : b.val = 63 - j
  · rw [dif_pos (by omega), if_pos hb]
  · rw [dif_neg (by omega), if_neg hb]
theorem u_update : b92 j s = updateSlice s.main_v34_12 (b88 j s) ![63 - j, 0, 0, 0] (fits_rows j hj) :=
  WordCmp.dynamicUpdateSlice_eq_update _ _ _ _ _ _ (starts4 j s hj _)
theorem u_step (b : Fin 64) : b92 j s (ix4 b h c e) = if b.val = 63 - j then b67 j s (ix3 h c e) else s.main_v34_12 (ix4 b h c e) := by
  rw [u_update j hj]
  pointwise [b88]
  by_cases hb : b.val = 63 - j
  · rw [dif_pos (by omega), if_pos hb]
  · rw [dif_neg (by omega), if_neg hb]
theorem w_update : b97 j s = updateSlice s.main_v34_13 (b93 j s) ![63 - j, 0, 0, 0] (fits_rows j hj) :=
  WordCmp.dynamicUpdateSlice_eq_update _ _ _ _ _ _ (starts4 j s hj _)
theorem w_step (b : Fin 64) : b97 j s (ix4 b h c e) = if b.val = 63 - j then b77 j s (ix3 h c e) else s.main_v34_13 (ix4 b h c e) := by
  rw [w_update j hj]
  pointwise [b93]
  by_cases hb : b.val = 63 - j
  · rw [dif_pos (by omega), if_pos hb]
  · rw [dif_neg (by omega), if_neg hb]
theorem a_update : b102 j s = updateSlice s.main_v34_14 (b98 j s) ![63 - j, 0, 0, 0] (fits_att j hj) :=
  WordCmp.dynamicUpdateSlice_eq_update _ _ _ _ _ _ (starts4 j s hj _)
theorem a_step (b : Fin 64) : b102 j s (ix4 b h c i) = if b.val = 63 - j then b68 j s (ix3 h c i) else s.main_v34_14 (ix4 b h c i) := by
  rw [a_update j hj]
  pointwise [b98]
  by_cases hb : b.val = 63 - j
  · rw [dif_pos (by omega), if_pos hb]
  · rw [dif_neg (by omega), if_neg hb]
theorem g_update : b106 j s = updateSlice s.main_v34_15 (b103 j s) ![63 - j, 0, 0] (fits_gate j hj) :=
  WordCmp.dynamicUpdateSlice_eq_update _ _ _ _ _ _ (starts3 j s hj _)
theorem g_step (b : Fin 64) : b106 j s (ix3 b h e) = if b.val = 63 - j then b64 j s (ix2 h e) else s.main_v34_15 (ix3 b h e) := by
  rw [g_update j hj]
  pointwise [b103]
  by_cases hb : b.val = 63 - j
  · rw [dif_pos (by omega), if_pos hb]
  · rw [dif_neg (by omega), if_neg hb]

end trip

/-! The arrays the loop begins with, read off the arguments. -/
section arrays
variable (x0 x1 x2 x3 x4 : S8x4096x128.Idx → EReal) (x5 : S32x8x2x128.Idx → EReal) (x6 : S32x2x8x128x128.Idx → EReal)
  (x7 : S8x4096x128.Idx → EReal) (h : Fin 8)

/-- One head of an array of rows, of the decays, and of the saved states. -/
abbrev hd (X : S8x4096x128.Idx → EReal) : Fin 4096 → Fin 128 → EReal := fun r d => X (ix3 h r d)
abbrev hg (X : S32x8x2x128.Idx → EReal) : Fin 32 → Fin 2 → Fin 128 → EReal := fun n i e => X (ix4 n h i e)
abbrev hs (X : S32x2x8x128x128.Idx → EReal) : Fin 32 → Fin 2 → Mat := fun n i d e => X (ix5 n i h d e)

theorem row_of (n : ℕ) (hn : n < 64) (c : Fin 64) : row (63 - n) c = ⟨64 * (63 - n) + c, by omega⟩ := by
  unfold row; apply Fin.ext; dsimp only; omega

theorem q_init (n : ℕ) (hn : n < 64) : sB n hn h (A_main_v15 (F := Ideal) x0 x1 x2 x3 x4 x5 x6 x7) = blk (hd h x0) (63 - n) := by
  funext c d; unfold blk; rw [row_of n hn]; pointwise [A_main_v15, A_main_v14, A_main_v0]
  exact congrArg (fun r => x0 (ix3 h r d)) (Fin.ext (by dsimp only; omega))
theorem k_init (n : ℕ) (hn : n < 64) : sB n hn h (A_main_v17 (F := Ideal) x0 x1 x2 x3 x4 x5 x6 x7) = blk (hd h x1) (63 - n) := by
  funext c d; unfold blk; rw [row_of n hn]; pointwise [A_main_v17, A_main_v16, A_main_v1]
  exact congrArg (fun r => x1 (ix3 h r d)) (Fin.ext (by dsimp only; omega))
theorem u_init (n : ℕ) (hn : n < 64) : sB n hn h (A_main_v19 (F := Ideal) x0 x1 x2 x3 x4 x5 x6 x7) = blk (hd h x2) (63 - n) := by
  funext c d; unfold blk; rw [row_of n hn]; pointwise [A_main_v19, A_main_v18]
  exact congrArg (fun r => x2 (ix3 h r d)) (Fin.ext (by dsimp only; omega))
theorem w_init (n : ℕ) (hn : n < 64) : sB n hn h (A_main_v21 (F := Ideal) x0 x1 x2 x3 x4 x5 x6 x7) = blk (hd h x3) (63 - n) := by
  funext c d; unfold blk; rw [row_of n hn]; pointwise [A_main_v21, A_main_v20, A_main_v2]
  exact congrArg (fun r => x3 (ix3 h r d)) (Fin.ext (by dsimp only; omega))
theorem y_init (n : ℕ) (hn : n < 64) : sB n hn h (A_main_v27 (F := Ideal) x0 x1 x2 x3 x4 x5 x6 x7) = blk (hd h x7) (63 - n) := by
  funext c d; unfold blk; rw [row_of n hn]; pointwise [A_main_v27, A_main_v26]
  exact congrArg (fun r => x7 (ix3 h r d)) (Fin.ext (by dsimp only; omega))
theorem g_init (n : ℕ) (hn : n < 64) : sG n hn h (A_main_v23 (F := Ideal) x0 x1 x2 x3 x4 x5 x6 x7) = gat (hg h x5) (63 - n) := by
  funext e; unfold gat; pointwise [A_main_v23, A_main_v22]
  exact congrArg (fun r => x5 (ix4 r h ⟨(63 - n) % 2, by omega⟩ e)) (Fin.ext (by dsimp only; omega))
theorem s_init (n : ℕ) (hn : n < 64) : sS n hn h (A_main_v25 (F := Ideal) x0 x1 x2 x3 x4 x5 x6 x7) = sav (hs h x6) (63 - n) := by
  funext d e; unfold sav; pointwise [A_main_v25]
  exact congrArg (fun r => x6 (ix5 r ⟨(63 - n) % 2, by omega⟩ h d e)) (Fin.ext (by dsimp only; omega))
theorem a_init (n : ℕ) (hn : n < 64) : sA n hn h (A_main_v13 (F := Ideal) x0 x1 x2 x3 x4 x5 x6 x7) = dia (hd h x4) (63 - n) := by
  funext c i; unfold dia; rw [row_of n hn]
  pointwise [A_main_v13, A_main_v12, A_main_v11, A_main_v10, A_main_v9, A_main_v8, A_main_v7, A_main_v6, A_main_v5, A_main_v4, A_main_v3]
  split
  · exact congrArg₂ (fun r k => x4 (ix3 h r k)) (Fin.ext (by dsimp only; omega)) (Fin.ext (by dsimp only; omega))
  · exact congrArg₂ (fun r k => x4 (ix3 h r k)) (Fin.ext (by dsimp only; omega)) (Fin.ext (by dsimp only; omega))
theorem z_init : sM h (K_main_v24 (F := Ideal)) = fun _ _ => 0 := by funext d e; pointwise [K_main_v24, K_main_cst]

/-- The loop's state after `n` trips, from the arguments. -/
def it : ℕ → St
  | 0 => init (F := Ideal) x0 x1 x2 x3 x4 x5 x6 x7
  | n + 1 => step n (it n)

/-- The trips leave the blocks they read as they were. -/
theorem it_const (n : ℕ) : (it x0 x1 x2 x3 x4 x5 x6 x7 n).main_v34_0 = A_main_v25 (F := Ideal) x0 x1 x2 x3 x4 x5 x6 x7
    ∧ (it x0 x1 x2 x3 x4 x5 x6 x7 n).main_v34_1 = A_main_v15 (F := Ideal) x0 x1 x2 x3 x4 x5 x6 x7
    ∧ (it x0 x1 x2 x3 x4 x5 x6 x7 n).main_v34_2 = A_main_v17 (F := Ideal) x0 x1 x2 x3 x4 x5 x6 x7
    ∧ (it x0 x1 x2 x3 x4 x5 x6 x7 n).main_v34_3 = A_main_v19 (F := Ideal) x0 x1 x2 x3 x4 x5 x6 x7
    ∧ (it x0 x1 x2 x3 x4 x5 x6 x7 n).main_v34_4 = A_main_v21 (F := Ideal) x0 x1 x2 x3 x4 x5 x6 x7
    ∧ (it x0 x1 x2 x3 x4 x5 x6 x7 n).main_v34_5 = A_main_v13 (F := Ideal) x0 x1 x2 x3 x4 x5 x6 x7
    ∧ (it x0 x1 x2 x3 x4 x5 x6 x7 n).main_v34_6 = A_main_v23 (F := Ideal) x0 x1 x2 x3 x4 x5 x6 x7
    ∧ (it x0 x1 x2 x3 x4 x5 x6 x7 n).main_v34_7 = A_main_v27 (F := Ideal) x0 x1 x2 x3 x4 x5 x6 x7 := by
  induction n with
  | zero => exact ⟨rfl, rfl, rfl, rfl, rfl, rfl, rfl, rfl⟩
  | succ n ih => exact ih

/-- The gradients of one head after `n` trips, and those trip `n` makes. -/
abbrev gs (n : ℕ) : Mat := dstates (hd h x0) (hd h x1) (hd h x3) (hd h x4) (hd h x7) (hg h x5) n
abbrev rE (n : ℕ) : Blk := gE (hd h x0) (hd h x1) (hd h x3) (hd h x4) (hd h x7) (hg h x5) n
abbrev rQ (n : ℕ) : Blk := gQ (hd h x7) (hs h x6) n
abbrev rK (n : ℕ) : Blk := gK (hd h x0) (hd h x1) (hd h x2) (hd h x3) (hd h x4) (hd h x7) (hg h x5) (hs h x6) n
abbrev rW (n : ℕ) : Blk := gW (hd h x0) (hd h x1) (hd h x3) (hd h x4) (hd h x7) (hg h x5) (hs h x6) n
abbrev rG (n : ℕ) : Fin 128 → EReal := gG (hd h x0) (hd h x1) (hd h x3) (hd h x4) (hd h x7) (hg h x5) (hs h x6) n

/-- Before trip `n` the carried gradient is the backward pass's. -/
theorem it_state (n : ℕ) (hn : n ≤ 64) (h : Fin 8) : sM h (it x0 x1 x2 x3 x4 x5 x6 x7 n).main_v34_9 = gs x0 x1 x3 x4 x5 x7 h n := by
  induction n with
  | zero => exact z_init h
  | succ n ih =>
    obtain ⟨-, e1, e2, -, e4, e5, e6, e7⟩ := it_const x0 x1 x2 x3 x4 x5 x6 x7 n
    have hn' : n < 64 := by omega
    funext d e
    refine (next_at n hn' (it x0 x1 x2 x3 x4 x5 x6 x7 n) h d e).trans ?_
    unfold tE
    rw [ih (by omega), e1, e2, e4, e5, e6, e7, q_init, k_init, w_init, a_init, g_init, y_init]
    rfl

/-- What trip `n` finds: the corrected values of its block, and their gradient. -/
theorem find_V (n : ℕ) (hn : n < 64) (h : Fin 8) : tV n hn (it x0 x1 x2 x3 x4 x5 x6 x7 n) h = gV (hd h x2) (hd h x3) (hs h x6) n := by
  obtain ⟨e0, -, -, e3, e4, -, -, -⟩ := it_const x0 x1 x2 x3 x4 x5 x6 x7 n
  unfold tV
  rw [e0, e3, e4, s_init, u_init, w_init]
  rfl
theorem find_E (n : ℕ) (hn : n < 64) (h : Fin 8) : tE n hn (it x0 x1 x2 x3 x4 x5 x6 x7 n) h = rE x0 x1 x3 x4 x5 x7 h n := by
  obtain ⟨-, -, e2, -, -, e5, -, e7⟩ := it_const x0 x1 x2 x3 x4 x5 x6 x7 n
  unfold tE
  rw [it_state x0 x1 x2 x3 x4 x5 x6 x7 n (by omega), e2, e5, e7, k_init, a_init, y_init]
  rfl

/-! Before trip `n` the stacks hold the gradients of the blocks from `64 - n` on: block `b`'s are trip `63 - b`'s. -/

theorem it_Q (n : ℕ) (hn : n ≤ 64) (h : Fin 8) (b : Fin 64) (c : Fin 64) (d : Fin 128) (hb : 63 - b.val < n) :
    (it x0 x1 x2 x3 x4 x5 x6 x7 n).main_v34_10 (ix4 b h c d) = rQ x6 x7 h (63 - b.val) c d := by
  induction n with
  | zero => omega
  | succ n ih =>
    obtain ⟨e0, -, -, -, -, -, -, e7⟩ := it_const x0 x1 x2 x3 x4 x5 x6 x7 n
    have hn' : n < 64 := by omega
    refine (q_step n hn' (it x0 x1 x2 x3 x4 x5 x6 x7 n) h c d b).trans ?_
    by_cases h' : b.val = 63 - n
    · rw [if_pos h', dq_at n hn', e0, e7, s_init, y_init, show 63 - b.val = n by omega]
      rfl
    · rw [if_neg h', ih (by omega) (by omega)]

theorem it_K (n : ℕ) (hn : n ≤ 64) (h : Fin 8) (b : Fin 64) (c : Fin 64) (d : Fin 128) (hb : 63 - b.val < n) :
    (it x0 x1 x2 x3 x4 x5 x6 x7 n).main_v34_11 (ix4 b h c d) = rK x0 x1 x2 x3 x4 x5 x6 x7 h (63 - b.val) c d := by
  induction n with
  | zero => omega
  | succ n ih =>
    obtain ⟨e0, -, -, -, -, -, -, e7⟩ := it_const x0 x1 x2 x3 x4 x5 x6 x7 n
    have hn' : n < 64 := by omega
    refine (k_step n hn' (it x0 x1 x2 x3 x4 x5 x6 x7 n) h c d b).trans ?_
    by_cases h' : b.val = 63 - n
    · rw [if_pos h', dk_at n hn', find_V, it_state x0 x1 x2 x3 x4 x5 x6 x7 n (by omega), show 63 - b.val = n by omega]
      rfl
    · rw [if_neg h', ih (by omega) (by omega)]

theorem it_E (n : ℕ) (hn : n ≤ 64) (h : Fin 8) (b : Fin 64) (c : Fin 64) (d : Fin 128) (hb : 63 - b.val < n) :
    (it x0 x1 x2 x3 x4 x5 x6 x7 n).main_v34_12 (ix4 b h c d) = rE x0 x1 x3 x4 x5 x7 h (63 - b.val) c d := by
  induction n with
  | zero => omega
  | succ n ih =>
    obtain ⟨e0, -, -, -, -, -, -, e7⟩ := it_const x0 x1 x2 x3 x4 x5 x6 x7 n
    have hn' : n < 64 := by omega
    refine (u_step n hn' (it x0 x1 x2 x3 x4 x5 x6 x7 n) h c d b).trans ?_
    by_cases h' : b.val = 63 - n
    · rw [if_pos h', dcorr_at n hn', find_E, show 63 - b.val = n by omega]
    · rw [if_neg h', ih (by omega) (by omega)]

theorem it_W (n : ℕ) (hn : n ≤ 64) (h : Fin 8) (b : Fin 64) (c : Fin 64) (d : Fin 128) (hb : 63 - b.val < n) :
    (it x0 x1 x2 x3 x4 x5 x6 x7 n).main_v34_13 (ix4 b h c d) = rW x0 x1 x3 x4 x5 x6 x7 h (63 - b.val) c d := by
  induction n with
  | zero => omega
  | succ n ih =>
    obtain ⟨e0, -, -, -, -, -, -, e7⟩ := it_const x0 x1 x2 x3 x4 x5 x6 x7 n
    have hn' : n < 64 := by omega
    refine (w_step n hn' (it x0 x1 x2 x3 x4 x5 x6 x7 n) h c d b).trans ?_
    by_cases h' : b.val = 63 - n
    · rw [if_pos h', dw_at n hn', e0, s_init, find_E, show 63 - b.val = n by omega]
      rfl
    · rw [if_neg h', ih (by omega) (by omega)]

theorem it_A (n : ℕ) (hn : n ≤ 64) (h : Fin 8) (b : Fin 64) (c i : Fin 64) (hb : 63 - b.val < n) :
    (it x0 x1 x2 x3 x4 x5 x6 x7 n).main_v34_14 (ix4 b h c i) = (fun n => da (gV (hd h x2) (hd h x3) (hs h x6) n) (blk (hd h x7) (63 - n))) (63 - b.val) c i := by
  induction n with
  | zero => omega
  | succ n ih =>
    obtain ⟨e0, -, -, -, -, -, -, e7⟩ := it_const x0 x1 x2 x3 x4 x5 x6 x7 n
    have hn' : n < 64 := by omega
    refine (a_step n hn' (it x0 x1 x2 x3 x4 x5 x6 x7 n) h c i b).trans ?_
    by_cases h' : b.val = 63 - n
    · rw [if_pos h', da_at n hn', find_V, e7, y_init, show 63 - b.val = n by omega]
    · rw [if_neg h', ih (by omega) (by omega)]

theorem it_G (n : ℕ) (hn : n ≤ 64) (h : Fin 8) (b : Fin 64) (e : Fin 128) (hb : 63 - b.val < n) :
    (it x0 x1 x2 x3 x4 x5 x6 x7 n).main_v34_15 (ix3 b h e) = rG x0 x1 x3 x4 x5 x6 x7 h (63 - b.val) e := by
  induction n with
  | zero => omega
  | succ n ih =>
    obtain ⟨e0, -, -, -, -, -, -, e7⟩ := it_const x0 x1 x2 x3 x4 x5 x6 x7 n
    have hn' : n < 64 := by omega
    refine (g_step n hn' (it x0 x1 x2 x3 x4 x5 x6 x7 n) h e b).trans ?_
    by_cases h' : b.val = 63 - n
    · rw [if_pos h', dg_at n hn', e0, s_init, it_state x0 x1 x2 x3 x4 x5 x6 x7 n (by omega), show 63 - b.val = n by omega]
      rfl
    · rw [if_neg h', ih (by omega) (by omega)]

/-! The reference's results: row `r` belongs to trip `63 - r / 64`. -/

theorem result_Q (r : Fin 4096) (e : Fin 128) : R_main_v44 (it x0 x1 x2 x3 x4 x5 x6 x7 64) (ix3 h r e) = rQ x6 x7 h (63 - r.val / 64) ⟨r.val % 64, by omega⟩ e := by
  refine Eq.trans ?_ (it_Q x0 x1 x2 x3 x4 x5 x6 x7 64 le_rfl h ⟨r.val / 64, by omega⟩ ⟨r.val % 64, by omega⟩ e (by dsimp only; omega))
  generalize it x0 x1 x2 x3 x4 x5 x6 x7 64 = s
  pointwise [R_main_v44]
theorem result_K (r : Fin 4096) (e : Fin 128) : R_main_v42 (it x0 x1 x2 x3 x4 x5 x6 x7 64) (ix3 h r e) = rK x0 x1 x2 x3 x4 x5 x6 x7 h (63 - r.val / 64) ⟨r.val % 64, by omega⟩ e := by
  refine Eq.trans ?_ (it_K x0 x1 x2 x3 x4 x5 x6 x7 64 le_rfl h ⟨r.val / 64, by omega⟩ ⟨r.val % 64, by omega⟩ e (by dsimp only; omega))
  generalize it x0 x1 x2 x3 x4 x5 x6 x7 64 = s
  pointwise [R_main_v42]
theorem result_E (r : Fin 4096) (e : Fin 128) : R_main_v57 (it x0 x1 x2 x3 x4 x5 x6 x7 64) (ix3 h r e) = rE x0 x1 x3 x4 x5 x7 h (63 - r.val / 64) ⟨r.val % 64, by omega⟩ e := by
  refine Eq.trans ?_ (it_E x0 x1 x2 x3 x4 x5 x6 x7 64 le_rfl h ⟨r.val / 64, by omega⟩ ⟨r.val % 64, by omega⟩ e (by dsimp only; omega))
  generalize it x0 x1 x2 x3 x4 x5 x6 x7 64 = s
  pointwise [R_main_v57]
theorem result_W (r : Fin 4096) (e : Fin 128) : R_main_v58 (it x0 x1 x2 x3 x4 x5 x6 x7 64) (ix3 h r e) = rW x0 x1 x3 x4 x5 x6 x7 h (63 - r.val / 64) ⟨r.val % 64, by omega⟩ e := by
  refine Eq.trans ?_ (it_W x0 x1 x2 x3 x4 x5 x6 x7 64 le_rfl h ⟨r.val / 64, by omega⟩ ⟨r.val % 64, by omega⟩ e (by dsimp only; omega))
  generalize it x0 x1 x2 x3 x4 x5 x6 x7 64 = s
  pointwise [R_main_v58]
theorem result_G (a : Fin 32) (i : Fin 2) (e : Fin 128) : R_main_v36 (it x0 x1 x2 x3 x4 x5 x6 x7 64) (ix4 a h i e) = rG x0 x1 x3 x4 x5 x6 x7 h (63 - (2 * a.val + i.val)) e := by
  refine Eq.trans ?_ (it_G x0 x1 x2 x3 x4 x5 x6 x7 64 le_rfl h ⟨2 * a.val + i.val, by omega⟩ e (by dsimp only; omega))
  generalize it x0 x1 x2 x3 x4 x5 x6 x7 64 = s
  pointwise [R_main_v36]
  exact congrArg (fun k => s.main_v34_15 (ix3 k h e)) (Fin.ext (by dsimp only; omega))
end arrays

end Cert.Reference2Ideal.Scan

end
-- ==== Proof.Tail2.lean ====
/- The backward reference's gradient of the scores: each block's scores in its half of the lanes, zero in the other. -/
module

public import proofs.«01_k».proof.Proof.Scan2
public import proofs.«01_k».proof.Proof.Spec
public import proofs.«01_k».proof.Proof.Gen.Reference2Ideal.Step
public import Idealize.ShloMosaic.Lib.Pointwise
public import Idealize.ShloMosaic.Lib.DynamicIndex
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference2Ideal.Scan

open Cert.Reference2Ideal Cert.Reference2Ideal.Step Cert.Delta

/-! Halves: a number below two, and the parity of another. -/
theorem half_odd (p q : ℕ) (hp : p < 2) (h1 : 1 ≤ p) (h2 : 1 ≤ q % 2) : p = q % 2 := by omega
theorem half_even (p q : ℕ) (h1 : p < 1) (h2 : q % 2 < 1) : p = q % 2 := by omega
theorem pair_odd (n q : ℕ) (hn : n = q / 2) (h : 1 ≤ q % 2) : n * 2 + 1 = q := by omega
theorem pair_even (n q : ℕ) (hn : n = q / 2) (h : q % 2 < 1) : n * 2 = q := by omega
theorem half_cases (p q : ℕ) (h : p = q % 2) : (q % 2 < 1 ∧ p < 1) ∨ ((1 ≤ q % 2 ∧ q % 2 - 1 < 1) ∧ (1 ≤ p ∧ p - 1 < 1)) := by omega
theorem flip_mod (q : ℕ) (hq : q < 64) : (63 - (63 - q)) % 2 = q % 2 := by omega
theorem half_lt (e : Fin 128) : e.val / 64 < 2 := by omega
theorem pair_div (r : Fin 4096) : r.val / 128 = r.val / 64 / 2 := by omega
theorem pair_lt (r : Fin 4096) : r.val / 128 < 32 := by omega

/-- Two halves of the lanes, each filled for blocks of one parity. -/
theorem halves (f : Fin 64 → EReal) (r : Fin 4096) (e : Fin 128) :
    ((if a : r.val / 128 < 32 ∧ (1 ≤ r.val / 64 % 2 ∧ r.val / 64 % 2 - 1 < 1) ∧ r.val % 64 < 64 ∧ (1 ≤ e.val / 64 ∧ e.val / 64 - 1 < 1) ∧ e.val % 64 < 64 then f ⟨r.val / 128 * 2 + 1, by omega⟩ else 0)
      + if b : r.val / 128 < 32 ∧ r.val / 64 % 2 < 1 ∧ r.val % 64 < 64 ∧ e.val / 64 < 1 ∧ e.val % 64 < 64 then f ⟨r.val / 128 * 2, by omega⟩ else 0)
    = if e.val / 64 = r.val / 64 % 2 then f ⟨r.val / 64, by omega⟩ else 0 := by
  split
  case isTrue a =>
    rw [dif_neg (fun b => absurd b.2.1 (Nat.not_lt.mpr a.2.1.1)), add_zero, if_pos (half_odd _ _ (half_lt e) a.2.2.2.1.1 a.2.1.1)]
    exact congrArg f (Fin.ext (pair_odd _ _ (pair_div r) a.2.1.1))
  case isFalse a =>
    rw [zero_add]
    split
    case isTrue b =>
      rw [if_pos (half_even _ _ b.2.2.2.1 b.2.1)]
      exact congrArg f (Fin.ext (pair_even _ _ (pair_div r) b.2.1))
    case isFalse b =>
      rw [if_neg (fun q => (half_cases _ _ q).elim
        (fun z => b ⟨pair_lt r, z.1, Nat.mod_lt _ (by decide), z.2, Nat.mod_lt _ (by decide)⟩)
        (fun z => a ⟨pair_lt r, z.1, Nat.mod_lt _ (by decide), z.2, Nat.mod_lt _ (by decide)⟩))]

/-- The gradient of the scores, padded: block `r / 64`'s scores in the half of the lanes of its parity, zero in the other. -/
theorem spread_result (s : St) (h : Fin 8) (r : Fin 4096) (e : Fin 128) : R_main_v56 s (ix3 h r e)
    = if e.val / 64 = r.val / 64 % 2 then s.main_v34_14 (ix4 ⟨r.val / 64, by omega⟩ h ⟨r.val % 64, by omega⟩ ⟨e.val % 64, by omega⟩) else 0 := by
  pointwise [R_main_v56]
  exact halves (fun k => s.main_v34_14 (ix4 k h ⟨r.val % 64, Nat.mod_lt _ (by decide)⟩ ⟨e.val % 64, Nat.mod_lt _ (by decide)⟩)) r e

theorem result_A (x0 x1 x2 x3 x4 : S8x4096x128.Idx → EReal) (x5 : S32x8x2x128.Idx → EReal) (x6 : S32x2x8x128x128.Idx → EReal)
    (x7 : S8x4096x128.Idx → EReal) (h : Fin 8) (r : Fin 4096) (e : Fin 128) : R_main_v56 (it x0 x1 x2 x3 x4 x5 x6 x7 64) (ix3 h r e)
    = gA (hd h x2) (hd h x3) (hd h x7) (hs h x6) (63 - r.val / 64) ⟨r.val % 64, by omega⟩ e := by
  rw [spread_result]
  unfold gA spread
  rw [flip_mod _ (by omega)]
  by_cases q : e.val / 64 = r.val / 64 % 2
  · rw [if_pos q, if_pos q]
    have k1 : 63 - r.val / 64 < 64 := lt_of_le_of_lt (Nat.sub_le _ _) (by decide)
    exact it_A x0 x1 x2 x3 x4 x5 x6 x7 64 le_rfl h ⟨r.val / 64, Nat.div_lt_of_lt_mul r.isLt⟩ ⟨r.val % 64, Nat.mod_lt _ (by decide)⟩ ⟨e.val % 64, Nat.mod_lt _ (by decide)⟩ k1
  · rw [if_neg q, if_neg q]

end Cert.Reference2Ideal.Scan

end
-- ==== Proof.LoopRun2.lean ====
/- The reference's loop, run trip by trip: at a valuation that holds a state, every value of one trip is that state's, so one
   application of the run's step keeps holding with `step` applied; what comes before the loop holds `init`; and the results
   are the fields of `step` iterated from `init`. -/
module

public import proofs.«01_k».proof.Proof.Gen.Reference2Ideal.Run
public import proofs.«01_k».proof.Proof.Gen.Reference2Ideal.Step

@[expose] public section

noncomputable section

namespace Cert.Reference2Ideal.StepRun

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v34_9) = s.main_v34_9
  f_10 : V0 (Proc.devRef .tc main_v34_10) = s.main_v34_10
  f_11 : V0 (Proc.devRef .tc main_v34_11) = s.main_v34_11
  f_12 : V0 (Proc.devRef .tc main_v34_12) = s.main_v34_12
  f_13 : V0 (Proc.devRef .tc main_v34_13) = s.main_v34_13
  f_14 : V0 (Proc.devRef .tc main_v34_14) = s.main_v34_14
  f_15 : V0 (Proc.devRef .tc main_v34_15) = s.main_v34_15
  f_0 : V0 (Proc.devRef .tc main_v34_0) = s.main_v34_0
  f_1 : V0 (Proc.devRef .tc main_v34_1) = s.main_v34_1
  f_2 : V0 (Proc.devRef .tc main_v34_2) = s.main_v34_2
  f_3 : V0 (Proc.devRef .tc main_v34_3) = s.main_v34_3
  f_4 : V0 (Proc.devRef .tc main_v34_4) = s.main_v34_4
  f_5 : V0 (Proc.devRef .tc main_v34_5) = s.main_v34_5
  f_6 : V0 (Proc.devRef .tc main_v34_6) = s.main_v34_6
  f_7 : V0 (Proc.devRef .tc main_v34_7) = s.main_v34_7
  n_8 : V0 (Proc.devRef .tc main_v34_8) = constantI S_ 32 (BitVec.ofNat 32 j)

variable {V0 s j}

set_option maxRecDepth 8192 in
theorem al_0 (h : Holds V0 s j) : (constantI S_ 32 64#32 : (Proc.devRef .tc main_while0b_c_23 : DevRef τ sig).ty.Contents (Elt F)) = Cert.Reference2Ideal.Step.b0 j s := by
  unfold Cert.Reference2Ideal.Step.b0
  rfl
set_option maxRecDepth 8192 in
theorem al_1 (h : Holds V0 s j) : (subi (constantI S_ 32 64#32) (V0 (Proc.devRef .tc main_v34_8)) : (Proc.devRef .tc main_while0b_v59 : DevRef τ sig).ty.Contents (Elt F)) = Cert.Reference2Ideal.Step.b1 j s := by
  unfold Cert.Reference2Ideal.Step.b1
  rw [← al_0 h, h.n_8]
  try rfl
set_option maxRecDepth 8192 in
theorem al_2 (h : Holds V0 s j) : (constantI S_ 32 1#32 : (Proc.devRef .tc main_while0b_c_24 : DevRef τ sig).ty.Contents (Elt F)) = Cert.Reference2Ideal.Step.b2 j s := by
  unfold Cert.Reference2Ideal.Step.b2
  rfl
set_option maxRecDepth 8192 in
theorem al_3 (h : Holds V0 s j) : (res_main_while0b_v60 V0 : (Proc.devRef .tc main_while0b_v60 : DevRef τ sig).ty.Contents (Elt F)) = Cert.Reference2Ideal.Step.b3 j s := by
  unfold res_main_while0b_v60 Cert.Reference2Ideal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.Reference2Ideal.Step.b4 j s := by
  unfold Cert.Reference2Ideal.Step.b4
  rfl
set_option maxRecDepth 8192 in
theorem al_5 (h : Holds V0 s j) : (constantI S_ 32 0#32 : (Proc.devRef .tc main_while0b_call0_c_0 : DevRef τ sig).ty.Contents (Elt F)) = Cert.Reference2Ideal.Step.b5 j s := by
  unfold Cert.Reference2Ideal.Step.b5
  rfl
set_option maxRecDepth 8192 in
theorem al_6 (h : Holds V0 s j) : (constantI S_ 32 0#32 : (Proc.devRef .tc main_while0b_call0_c_1 : DevRef τ sig).ty.Contents (Elt F)) = Cert.Reference2Ideal.Step.b6 j s := by
  unfold Cert.Reference2Ideal.Step.b6
  rfl
set_option maxRecDepth 8192 in
theorem al_7 (h : Holds V0 s j) : (Host.dynamicSlice S1x8x128x128 (V0 (Proc.devRef .tc main_v34_0)) (fun k => (((![res_main_while0b_v60 V0, constantI S_ 32 0#32, constantI S_ 32 0#32, constantI S_ 32 0#32] : Fin 4 → (⟨S_, .i32⟩ : BufTy).Contents (Elt F))) k (Shape.Idx.first h_S_)).toInt) sliceFits_S64x8x128x128_S1x8x128x128 : (Proc.devRef .tc main_while0b_call0_v0 : DevRef τ sig).ty.Contents (Elt F)) = Cert.Reference2Ideal.Step.b7 j s := by
  unfold Cert.Reference2Ideal.Step.b7
  rw [← al_3 h, ← al_4 h, ← al_5 h, ← al_6 h, h.f_0]
  try rfl
set_option maxRecDepth 8192 in
theorem al_8 (h : Holds V0 s j) : (res_main_while0b_v61 V0 : (Proc.devRef .tc main_while0b_v61 : DevRef τ sig).ty.Contents (Elt F)) = Cert.Reference2Ideal.Step.b8 j s := by
  unfold res_main_while0b_v61 Cert.Reference2Ideal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.Reference2Ideal.Step.b9 j s := by
  unfold Cert.Reference2Ideal.Step.b9
  rfl
set_option maxRecDepth 8192 in
theorem al_10 (h : Holds V0 s j) : (constantI S_ 32 0#32 : (Proc.devRef .tc main_while0b_call1_c_0 : DevRef τ sig).ty.Contents (Elt F)) = Cert.Reference2Ideal.Step.b10 j s := by
  unfold Cert.Reference2Ideal.Step.b10
  rfl
set_option maxRecDepth 8192 in
theorem al_11 (h : Holds V0 s j) : (constantI S_ 32 0#32 : (Proc.devRef .tc main_while0b_call1_c_1 : DevRef τ sig).ty.Contents (Elt F)) = Cert.Reference2Ideal.Step.b11 j s := by
  unfold Cert.Reference2Ideal.Step.b11
  rfl
set_option maxRecDepth 8192 in
theorem al_12 (h : Holds V0 s j) : (Host.dynamicSlice S1x8x64x128 (V0 (Proc.devRef .tc main_v34_1)) (fun k => (((![res_main_while0b_v60 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call1_v0 : DevRef τ sig).ty.Contents (Elt F)) = Cert.Reference2Ideal.Step.b12 j s := by
  unfold Cert.Reference2Ideal.Step.b12
  rw [← al_3 h, ← al_9 h, ← al_10 h, ← al_11 h, h.f_1]
  try rfl
set_option maxRecDepth 8192 in
theorem al_13 (h : Holds V0 s j) : (res_main_while0b_v62 V0 : (Proc.devRef .tc main_while0b_v62 : DevRef τ sig).ty.Contents (Elt F)) = Cert.Reference2Ideal.Step.b13 j s := by
  unfold res_main_while0b_v62 Cert.Reference2Ideal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.Reference2Ideal.Step.b14 j s := by
  unfold Cert.Reference2Ideal.Step.b14
  rfl
set_option maxRecDepth 8192 in
theorem al_15 (h : Holds V0 s j) : (constantI S_ 32 0#32 : (Proc.devRef .tc main_while0b_call2_c_0 : DevRef τ sig).ty.Contents (Elt F)) = Cert.Reference2Ideal.Step.b15 j s := by
  unfold Cert.Reference2Ideal.Step.b15
  rfl
set_option maxRecDepth 8192 in
theorem al_16 (h : Holds V0 s j) : (constantI S_ 32 0#32 : (Proc.devRef .tc main_while0b_call2_c_1 : DevRef τ sig).ty.Contents (Elt F)) = Cert.Reference2Ideal.Step.b16 j s := by
  unfold Cert.Reference2Ideal.Step.b16
  rfl
set_option maxRecDepth 8192 in
theorem al_17 (h : Holds V0 s j) : (Host.dynamicSlice S1x8x64x128 (V0 (Proc.devRef .tc main_v34_2)) (fun k => (((![res_main_while0b_v60 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call2_v0 : DevRef τ sig).ty.Contents (Elt F)) = Cert.Reference2Ideal.Step.b17 j s := by
  unfold Cert.Reference2Ideal.Step.b17
  rw [← al_3 h, ← al_14 h, ← al_15 h, ← al_16 h, h.f_2]
  try rfl
set_option maxRecDepth 8192 in
theorem al_18 (h : Holds V0 s j) : (res_main_while0b_v63 V0 : (Proc.devRef .tc main_while0b_v63 : DevRef τ sig).ty.Contents (Elt F)) = Cert.Reference2Ideal.Step.b18 j s := by
  unfold res_main_while0b_v63 Cert.Reference2Ideal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.Reference2Ideal.Step.b19 j s := by
  unfold Cert.Reference2Ideal.Step.b19
  rfl
set_option maxRecDepth 8192 in
theorem al_20 (h : Holds V0 s j) : (constantI S_ 32 0#32 : (Proc.devRef .tc main_while0b_call3_c_0 : DevRef τ sig).ty.Contents (Elt F)) = Cert.Reference2Ideal.Step.b20 j s := by
  unfold Cert.Reference2Ideal.Step.b20
  rfl
set_option maxRecDepth 8192 in
theorem al_21 (h : Holds V0 s j) : (constantI S_ 32 0#32 : (Proc.devRef .tc main_while0b_call3_c_1 : DevRef τ sig).ty.Contents (Elt F)) = Cert.Reference2Ideal.Step.b21 j s := by
  unfold Cert.Reference2Ideal.Step.b21
  rfl
set_option maxRecDepth 8192 in
theorem al_22 (h : Holds V0 s j) : (Host.dynamicSlice S1x8x64x128 (V0 (Proc.devRef .tc main_v34_3)) (fun k => (((![res_main_while0b_v60 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call3_v0 : DevRef τ sig).ty.Contents (Elt F)) = Cert.Reference2Ideal.Step.b22 j s := by
  unfold Cert.Reference2Ideal.Step.b22
  rw [← al_3 h, ← al_19 h, ← al_20 h, ← al_21 h, h.f_3]
  try rfl
set_option maxRecDepth 8192 in
theorem al_23 (h : Holds V0 s j) : (shapeCast S8x64x128 (Host.dynamicSlice S1x8x64x128 (V0 (Proc.devRef .tc main_v34_3)) (fun k => (((![res_main_while0b_v60 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128 : (Proc.devRef .tc main_while0b_v64 : DevRef τ sig).ty.Contents (Elt F)) = Cert.Reference2Ideal.Step.b23 j s := by
  unfold Cert.Reference2Ideal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.Reference2Ideal.Step.b24 j s := by
  unfold Cert.Reference2Ideal.Step.b24
  rfl
set_option maxRecDepth 8192 in
theorem al_25 (h : Holds V0 s j) : (constantI S_ 32 0#32 : (Proc.devRef .tc main_while0b_call4_c_0 : DevRef τ sig).ty.Contents (Elt F)) = Cert.Reference2Ideal.Step.b25 j s := by
  unfold Cert.Reference2Ideal.Step.b25
  rfl
set_option maxRecDepth 8192 in
theorem al_26 (h : Holds V0 s j) : (constantI S_ 32 0#32 : (Proc.devRef .tc main_while0b_call4_c_1 : DevRef τ sig).ty.Contents (Elt F)) = Cert.Reference2Ideal.Step.b26 j s := by
  unfold Cert.Reference2Ideal.Step.b26
  rfl
set_option maxRecDepth 8192 in
theorem al_27 (h : Holds V0 s j) : (Host.dynamicSlice S1x8x64x128 (V0 (Proc.devRef .tc main_v34_4)) (fun k => (((![res_main_while0b_v60 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call4_v0 : DevRef τ sig).ty.Contents (Elt F)) = Cert.Reference2Ideal.Step.b27 j s := by
  unfold Cert.Reference2Ideal.Step.b27
  rw [← al_3 h, ← al_24 h, ← al_25 h, ← al_26 h, h.f_4]
  try rfl
set_option maxRecDepth 8192 in
theorem al_28 (h : Holds V0 s j) : (res_main_while0b_v65 V0 : (Proc.devRef .tc main_while0b_v65 : DevRef τ sig).ty.Contents (Elt F)) = Cert.Reference2Ideal.Step.b28 j s := by
  unfold res_main_while0b_v65 Cert.Reference2Ideal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.Reference2Ideal.Step.b29 j s := by
  unfold Cert.Reference2Ideal.Step.b29
  rfl
set_option maxRecDepth 8192 in
theorem al_30 (h : Holds V0 s j) : (constantI S_ 32 0#32 : (Proc.devRef .tc main_while0b_call5_c_0 : DevRef τ sig).ty.Contents (Elt F)) = Cert.Reference2Ideal.Step.b30 j s := by
  unfold Cert.Reference2Ideal.Step.b30
  rfl
set_option maxRecDepth 8192 in
theorem al_31 (h : Holds V0 s j) : (constantI S_ 32 0#32 : (Proc.devRef .tc main_while0b_call5_c_1 : DevRef τ sig).ty.Contents (Elt F)) = Cert.Reference2Ideal.Step.b31 j s := by
  unfold Cert.Reference2Ideal.Step.b31
  rfl
set_option maxRecDepth 8192 in
theorem al_32 (h : Holds V0 s j) : (Host.dynamicSlice S1x8x64x64 (V0 (Proc.devRef .tc main_v34_5)) (fun k => (((![res_main_while0b_v60 V0, constantI S_ 32 0#32, constantI S_ 32 0#32, constantI S_ 32 0#32] : Fin 4 → (⟨S_, .i32⟩ : BufTy).Contents (Elt F))) k (Shape.Idx.first h_S_)).toInt) sliceFits_S64x8x64x64_S1x8x64x64 : (Proc.devRef .tc main_while0b_call5_v0 : DevRef τ sig).ty.Contents (Elt F)) = Cert.Reference2Ideal.Step.b32 j s := by
  unfold Cert.Reference2Ideal.Step.b32
  rw [← al_3 h, ← al_29 h, ← al_30 h, ← al_31 h, h.f_5]
  try rfl
set_option maxRecDepth 8192 in
theorem al_33 (h : Holds V0 s j) : (res_main_while0b_v66 V0 : (Proc.devRef .tc main_while0b_v66 : DevRef τ sig).ty.Contents (Elt F)) = Cert.Reference2Ideal.Step.b33 j s := by
  unfold res_main_while0b_v66 Cert.Reference2Ideal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.Reference2Ideal.Step.b34 j s := by
  unfold Cert.Reference2Ideal.Step.b34
  rfl
set_option maxRecDepth 8192 in
theorem al_35 (h : Holds V0 s j) : (constantI S_ 32 0#32 : (Proc.devRef .tc main_while0b_call6_c_0 : DevRef τ sig).ty.Contents (Elt F)) = Cert.Reference2Ideal.Step.b35 j s := by
  unfold Cert.Reference2Ideal.Step.b35
  rfl
set_option maxRecDepth 8192 in
theorem al_36 (h : Holds V0 s j) : (Host.dynamicSlice S1x8x128 (V0 (Proc.devRef .tc main_v34_6)) (fun k => (((![res_main_while0b_v60 V0, constantI S_ 32 0#32, constantI S_ 32 0#32] : Fin 3 → (⟨S_, .i32⟩ : BufTy).Contents (Elt F))) k (Shape.Idx.first h_S_)).toInt) sliceFits_S64x8x128_S1x8x128 : (Proc.devRef .tc main_while0b_call6_v0 : DevRef τ sig).ty.Contents (Elt F)) = Cert.Reference2Ideal.Step.b36 j s := by
  unfold Cert.Reference2Ideal.Step.b36
  rw [← al_3 h, ← al_34 h, ← al_35 h, h.f_6]
  try rfl
set_option maxRecDepth 8192 in
theorem al_37 (h : Holds V0 s j) : (shapeCast S8x128 (Host.dynamicSlice S1x8x128 (V0 (Proc.devRef .tc main_v34_6)) (fun k => (((![res_main_while0b_v60 V0, constantI S_ 32 0#32, constantI S_ 32 0#32] : Fin 3 → (⟨S_, .i32⟩ : BufTy).Contents (Elt F))) k (Shape.Idx.first h_S_)).toInt) sliceFits_S64x8x128_S1x8x128) shapeCasts_S1x8x128_S8x128 : (Proc.devRef .tc main_while0b_v67 : DevRef τ sig).ty.Contents (Elt F)) = Cert.Reference2Ideal.Step.b37 j s := by
  unfold Cert.Reference2Ideal.Step.b37
  rw [← al_36 h]
  try rfl
set_option maxRecDepth 8192 in
theorem al_38 (h : Holds V0 s j) : (constantI S_ 32 0#32 : (Proc.devRef .tc main_while0b_call7_c : DevRef τ sig).ty.Contents (Elt F)) = Cert.Reference2Ideal.Step.b38 j s := by
  unfold Cert.Reference2Ideal.Step.b38
  rfl
set_option maxRecDepth 8192 in
theorem al_39 (h : Holds V0 s j) : (constantI S_ 32 0#32 : (Proc.devRef .tc main_while0b_call7_c_0 : DevRef τ sig).ty.Contents (Elt F)) = Cert.Reference2Ideal.Step.b39 j s := by
  unfold Cert.Reference2Ideal.Step.b39
  rfl
set_option maxRecDepth 8192 in
theorem al_40 (h : Holds V0 s j) : (constantI S_ 32 0#32 : (Proc.devRef .tc main_while0b_call7_c_1 : DevRef τ sig).ty.Contents (Elt F)) = Cert.Reference2Ideal.Step.b40 j s := by
  unfold Cert.Reference2Ideal.Step.b40
  rfl
set_option maxRecDepth 8192 in
theorem al_41 (h : Holds V0 s j) : (Host.dynamicSlice S1x8x64x128 (V0 (Proc.devRef .tc main_v34_7)) (fun k => (((![res_main_while0b_v60 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call7_v0 : DevRef τ sig).ty.Contents (Elt F)) = Cert.Reference2Ideal.Step.b41 j s := by
  unfold Cert.Reference2Ideal.Step.b41
  rw [← al_3 h, ← al_38 h, ← al_39 h, ← al_40 h, h.f_7]
  try rfl
set_option maxRecDepth 8192 in
theorem al_42 (h : Holds V0 s j) : (res_main_while0b_v68 V0 : (Proc.devRef .tc main_while0b_v68 : DevRef τ sig).ty.Contents (Elt F)) = Cert.Reference2Ideal.Step.b42 j s := by
  unfold res_main_while0b_v68 Cert.Reference2Ideal.Step.b42
  rw [← al_41 h]
  try rfl
set_option maxRecDepth 8192 in
theorem al_43 (h : Holds V0 s j) : (Host.dotGeneral dot_S8x64x128_S8x128x128_S8x64x128_2_1_1_2_0_0 none (res_main_while0b_v65 V0) (res_main_while0b_v61 V0) : (Proc.devRef .tc main_while0b_v69 : DevRef τ sig).ty.Contents (Elt F)) = Cert.Reference2Ideal.Step.b43 j s := by
  unfold Cert.Reference2Ideal.Step.b43
  rw [← al_28 h, ← al_8 h]
  try rfl
set_option maxRecDepth 8192 in
theorem al_44 (h : Holds V0 s j) : (res_main_while0b_v70 V0 : (Proc.devRef .tc main_while0b_v70 : DevRef τ sig).ty.Contents (Elt F)) = Cert.Reference2Ideal.Step.b44 j s := by
  unfold res_main_while0b_v70 Cert.Reference2Ideal.Step.b44
  rw [← al_23 h, ← al_43 h]
  try rfl
set_option maxRecDepth 8192 in
theorem al_45 (h : Holds V0 s j) : (Host.dotGeneral dot_S8x64x128_S8x128x128_S8x64x128_2_1_1_2_0_0 none (res_main_while0b_v62 V0) (res_main_while0b_v61 V0) : (Proc.devRef .tc main_while0b_v71 : DevRef τ sig).ty.Contents (Elt F)) = Cert.Reference2Ideal.Step.b45 j s := by
  unfold Cert.Reference2Ideal.Step.b45
  rw [← al_13 h, ← al_8 h]
  try rfl
set_option maxRecDepth 8192 in
theorem al_46 (h : Holds V0 s j) : (Host.dotGeneral dot_S8x64x64_S8x64x128_S8x64x128_2_1_1_2_0_0 none (res_main_while0b_v66 V0) (res_main_while0b_v70 V0) : (Proc.devRef .tc main_while0b_v72 : DevRef τ sig).ty.Contents (Elt F)) = Cert.Reference2Ideal.Step.b46 j s := by
  unfold Cert.Reference2Ideal.Step.b46
  rw [← al_33 h, ← al_44 h]
  try rfl
set_option maxRecDepth 8192 in
theorem al_47 (h : Holds V0 s j) : (addf (Host.dotGeneral dot_S8x64x128_S8x128x128_S8x64x128_2_1_1_2_0_0 none (res_main_while0b_v62 V0) (res_main_while0b_v61 V0)) (Host.dotGeneral dot_S8x64x64_S8x64x128_S8x64x128_2_1_1_2_0_0 none (res_main_while0b_v66 V0) (res_main_while0b_v70 V0)) : (Proc.devRef .tc main_while0b_v73 : DevRef τ sig).ty.Contents (Elt F)) = Cert.Reference2Ideal.Step.b47 j s := by
  unfold Cert.Reference2Ideal.Step.b47
  rw [← al_45 h, ← al_46 h]
  try rfl
set_option maxRecDepth 8192 in
theorem al_48 (h : Holds V0 s j) : (res_main_while0b_v74 V0 : (Proc.devRef .tc main_while0b_v74 : DevRef τ sig).ty.Contents (Elt F)) = Cert.Reference2Ideal.Step.b48 j s := by
  unfold res_main_while0b_v74 Cert.Reference2Ideal.Step.b48
  rw [← al_37 h]
  try rfl
set_option maxRecDepth 8192 in
theorem al_49 (h : Holds V0 s j) : (broadcastInDim S8x128x128 ![0, 1, 2] bcast_S8x1x128_S8x128x128_0_1_2 (res_main_while0b_v74 V0) : (Proc.devRef .tc main_while0b_v75 : DevRef τ sig).ty.Contents (Elt F)) = Cert.Reference2Ideal.Step.b49 j s := by
  unfold Cert.Reference2Ideal.Step.b49
  rw [← al_48 h]
  try rfl
set_option maxRecDepth 8192 in
theorem al_50 (h : Holds V0 s j) : (mulf (res_main_while0b_v61 V0) (broadcastInDim S8x128x128 ![0, 1, 2] bcast_S8x1x128_S8x128x128_0_1_2 (res_main_while0b_v74 V0)) : (Proc.devRef .tc main_while0b_v76 : DevRef τ sig).ty.Contents (Elt F)) = Cert.Reference2Ideal.Step.b50 j s := by
  unfold Cert.Reference2Ideal.Step.b50
  rw [← al_8 h, ← al_49 h]
  try rfl
set_option maxRecDepth 8192 in
theorem al_51 (h : Holds V0 s j) : (Host.dotGeneral dot_S8x64x128_S8x64x128_S8x128x128_1_1_2_2_0_0 none (res_main_while0b_v63 V0) (res_main_while0b_v70 V0) : (Proc.devRef .tc main_while0b_v77 : DevRef τ sig).ty.Contents (Elt F)) = Cert.Reference2Ideal.Step.b51 j s := by
  unfold Cert.Reference2Ideal.Step.b51
  rw [← al_18 h, ← al_44 h]
  try rfl
set_option maxRecDepth 8192 in
theorem al_52 (h : Holds V0 s j) : (addf (mulf (res_main_while0b_v61 V0) (broadcastInDim S8x128x128 ![0, 1, 2] bcast_S8x1x128_S8x128x128_0_1_2 (res_main_while0b_v74 V0))) (Host.dotGeneral dot_S8x64x128_S8x64x128_S8x128x128_1_1_2_2_0_0 none (res_main_while0b_v63 V0) (res_main_while0b_v70 V0)) : (Proc.devRef .tc main_while0b_v78 : DevRef τ sig).ty.Contents (Elt F)) = Cert.Reference2Ideal.Step.b52 j s := by
  unfold Cert.Reference2Ideal.Step.b52
  rw [← al_50 h, ← al_51 h]
  try rfl
set_option maxRecDepth 8192 in
theorem al_53 (h : Holds V0 s j) : (Host.dotGeneral dot_S8x128x128_S8x64x128_S8x128x64_1_2_2_1_0_0 none (V0 (Proc.devRef .tc main_v34_9)) (res_main_while0b_v63 V0) : (Proc.devRef .tc main_while0b_v79 : DevRef τ sig).ty.Contents (Elt F)) = Cert.Reference2Ideal.Step.b53 j s := by
  unfold Cert.Reference2Ideal.Step.b53
  rw [← al_18 h, h.f_9]
  try rfl
set_option maxRecDepth 8192 in
theorem al_54 (h : Holds V0 s j) : (transpose S8x64x128 [0, 2, 1] (Host.dotGeneral dot_S8x128x128_S8x64x128_S8x128x64_1_2_2_1_0_0 none (V0 (Proc.devRef .tc main_v34_9)) (res_main_while0b_v63 V0)) transposes_S8x128x64_S8x64x128_0_2_1 : (Proc.devRef .tc main_while0b_v80 : DevRef τ sig).ty.Contents (Elt F)) = Cert.Reference2Ideal.Step.b54 j s := by
  unfold Cert.Reference2Ideal.Step.b54
  rw [← al_53 h]
  try rfl
set_option maxRecDepth 8192 in
theorem al_55 (h : Holds V0 s j) : (Host.dotGeneral dot_S8x128x128_S8x64x128_S8x128x64_2_2_1_1_0_0 none (V0 (Proc.devRef .tc main_v34_9)) (res_main_while0b_v70 V0) : (Proc.devRef .tc main_while0b_v81 : DevRef τ sig).ty.Contents (Elt F)) = Cert.Reference2Ideal.Step.b55 j s := by
  unfold Cert.Reference2Ideal.Step.b55
  rw [← al_44 h, h.f_9]
  try rfl
set_option maxRecDepth 8192 in
theorem al_56 (h : Holds V0 s j) : (transpose S8x64x128 [0, 2, 1] (Host.dotGeneral dot_S8x128x128_S8x64x128_S8x128x64_2_2_1_1_0_0 none (V0 (Proc.devRef .tc main_v34_9)) (res_main_while0b_v70 V0)) transposes_S8x128x64_S8x64x128_0_2_1 : (Proc.devRef .tc main_while0b_v82 : DevRef τ sig).ty.Contents (Elt F)) = Cert.Reference2Ideal.Step.b56 j s := by
  unfold Cert.Reference2Ideal.Step.b56
  rw [← al_55 h]
  try rfl
set_option maxRecDepth 8192 in
theorem al_57 (h : Holds V0 s j) : (mulf (res_main_while0b_v61 V0) (V0 (Proc.devRef .tc main_v34_9)) : (Proc.devRef .tc main_while0b_v83 : DevRef τ sig).ty.Contents (Elt F)) = Cert.Reference2Ideal.Step.b57 j s := by
  unfold Cert.Reference2Ideal.Step.b57
  rw [← al_8 h, h.f_9]
  try rfl
set_option maxRecDepth 8192 in
theorem al_58 (h : Holds V0 s j) : (constant S_ .f32 0x00000000#32 : (Proc.devRef .tc main_while0b_cst_25 : DevRef τ sig).ty.Contents (Elt F)) = Cert.Reference2Ideal.Step.b58 j s := by
  unfold Cert.Reference2Ideal.Step.b58
  rfl
set_option maxRecDepth 8192 in
theorem al_59 (h : Holds V0 s j) : (Host.reduceAdd (mulf (res_main_while0b_v61 V0) (V0 (Proc.devRef .tc main_v34_9))) (constant S_ .f32 0x00000000#32) reducesTo_S8x128x128_S8x128_d1 h_S_ : (Proc.devRef .tc main_while0b_v84 : DevRef τ sig).ty.Contents (Elt F)) = Cert.Reference2Ideal.Step.b59 j s := by
  unfold Cert.Reference2Ideal.Step.b59
  rw [← al_57 h, ← al_58 h]
  try rfl
set_option maxRecDepth 8192 in
theorem al_60 (h : Holds V0 s j) : (shapeCast S8x1x128 (Host.reduceAdd (mulf (res_main_while0b_v61 V0) (V0 (Proc.devRef .tc main_v34_9))) (constant S_ .f32 0x00000000#32) reducesTo_S8x128x128_S8x128_d1 h_S_) shapeCasts_S8x128_S8x1x128 : (Proc.devRef .tc main_while0b_v85 : DevRef τ sig).ty.Contents (Elt F)) = Cert.Reference2Ideal.Step.b60 j s := by
  unfold Cert.Reference2Ideal.Step.b60
  rw [← al_59 h]
  try rfl
set_option maxRecDepth 8192 in
theorem al_61 (h : Holds V0 s j) : (broadcastInDim S8x128x128 ![0, 1, 2] bcast_S8x1x128_S8x128x128_0_1_2 (res_main_while0b_v74 V0) : (Proc.devRef .tc main_while0b_v86 : DevRef τ sig).ty.Contents (Elt F)) = Cert.Reference2Ideal.Step.b61 j s := by
  unfold Cert.Reference2Ideal.Step.b61
  rw [← al_48 h]
  try rfl
set_option maxRecDepth 8192 in
theorem al_62 (h : Holds V0 s j) : (mulf (V0 (Proc.devRef .tc main_v34_9)) (broadcastInDim S8x128x128 ![0, 1, 2] bcast_S8x1x128_S8x128x128_0_1_2 (res_main_while0b_v74 V0)) : (Proc.devRef .tc main_while0b_v87 : DevRef τ sig).ty.Contents (Elt F)) = Cert.Reference2Ideal.Step.b62 j s := by
  unfold Cert.Reference2Ideal.Step.b62
  rw [← al_61 h, h.f_9]
  try rfl
set_option maxRecDepth 8192 in
theorem al_63 (h : Holds V0 s j) : (constant S_ .f32 0x00000000#32 : (Proc.devRef .tc main_while0b_cst_26 : DevRef τ sig).ty.Contents (Elt F)) = Cert.Reference2Ideal.Step.b63 j s := by
  unfold Cert.Reference2Ideal.Step.b63
  rfl
set_option maxRecDepth 8192 in
theorem al_64 (h : Holds V0 s j) : (Host.reduceAdd (shapeCast S8x1x128 (Host.reduceAdd (mulf (res_main_while0b_v61 V0) (V0 (Proc.devRef .tc main_v34_9))) (constant S_ .f32 0x00000000#32) reducesTo_S8x128x128_S8x128_d1 h_S_) shapeCasts_S8x128_S8x1x128) (constant S_ .f32 0x00000000#32) reducesTo_S8x1x128_S8x128_d1 h_S_ : (Proc.devRef .tc main_while0b_v88 : DevRef τ sig).ty.Contents (Elt F)) = Cert.Reference2Ideal.Step.b64 j s := by
  unfold Cert.Reference2Ideal.Step.b64
  rw [← al_60 h, ← al_63 h]
  try rfl
set_option maxRecDepth 8192 in
theorem al_65 (h : Holds V0 s j) : (Host.dotGeneral dot_S8x64x128_S8x64x64_S8x128x64_1_1_2_2_0_0 none (res_main_while0b_v68 V0) (res_main_while0b_v66 V0) : (Proc.devRef .tc main_while0b_v89 : DevRef τ sig).ty.Contents (Elt F)) = Cert.Reference2Ideal.Step.b65 j s := by
  unfold Cert.Reference2Ideal.Step.b65
  rw [← al_42 h, ← al_33 h]
  try rfl
set_option maxRecDepth 8192 in
theorem al_66 (h : Holds V0 s j) : (transpose S8x64x128 [0, 2, 1] (Host.dotGeneral dot_S8x64x128_S8x64x64_S8x128x64_1_1_2_2_0_0 none (res_main_while0b_v68 V0) (res_main_while0b_v66 V0)) transposes_S8x128x64_S8x64x128_0_2_1 : (Proc.devRef .tc main_while0b_v90 : DevRef τ sig).ty.Contents (Elt F)) = Cert.Reference2Ideal.Step.b66 j s := by
  unfold Cert.Reference2Ideal.Step.b66
  rw [← al_65 h]
  try rfl
set_option maxRecDepth 8192 in
theorem al_67 (h : Holds V0 s j) : (res_main_while0b_v91 V0 : (Proc.devRef .tc main_while0b_v91 : DevRef τ sig).ty.Contents (Elt F)) = Cert.Reference2Ideal.Step.b67 j s := by
  unfold res_main_while0b_v91 Cert.Reference2Ideal.Step.b67
  rw [← al_54 h, ← al_66 h]
  try rfl
set_option maxRecDepth 8192 in
theorem al_68 (h : Holds V0 s j) : (Host.dotGeneral dot_S8x64x128_S8x64x128_S8x64x64_2_2_1_1_0_0 none (res_main_while0b_v68 V0) (res_main_while0b_v70 V0) : (Proc.devRef .tc main_while0b_v92 : DevRef τ sig).ty.Contents (Elt F)) = Cert.Reference2Ideal.Step.b68 j s := by
  unfold Cert.Reference2Ideal.Step.b68
  rw [← al_42 h, ← al_44 h]
  try rfl
set_option maxRecDepth 8192 in
theorem al_69 (h : Holds V0 s j) : (Host.dotGeneral dot_S8x64x128_S8x64x128_S8x128x128_1_1_2_2_0_0 none (res_main_while0b_v68 V0) (res_main_while0b_v62 V0) : (Proc.devRef .tc main_while0b_v93 : DevRef τ sig).ty.Contents (Elt F)) = Cert.Reference2Ideal.Step.b69 j s := by
  unfold Cert.Reference2Ideal.Step.b69
  rw [← al_42 h, ← al_13 h]
  try rfl
set_option maxRecDepth 8192 in
theorem al_70 (h : Holds V0 s j) : (transpose S8x128x128 [0, 2, 1] (Host.dotGeneral dot_S8x64x128_S8x64x128_S8x128x128_1_1_2_2_0_0 none (res_main_while0b_v68 V0) (res_main_while0b_v62 V0)) transposes_S8x128x128_S8x128x128_0_2_1 : (Proc.devRef .tc main_while0b_v94 : DevRef τ sig).ty.Contents (Elt F)) = Cert.Reference2Ideal.Step.b70 j s := by
  unfold Cert.Reference2Ideal.Step.b70
  rw [← al_69 h]
  try rfl
set_option maxRecDepth 8192 in
theorem al_71 (h : Holds V0 s j) : (addf (mulf (V0 (Proc.devRef .tc main_v34_9)) (broadcastInDim S8x128x128 ![0, 1, 2] bcast_S8x1x128_S8x128x128_0_1_2 (res_main_while0b_v74 V0))) (transpose S8x128x128 [0, 2, 1] (Host.dotGeneral dot_S8x64x128_S8x64x128_S8x128x128_1_1_2_2_0_0 none (res_main_while0b_v68 V0) (res_main_while0b_v62 V0)) transposes_S8x128x128_S8x128x128_0_2_1) : (Proc.devRef .tc main_while0b_v95 : DevRef τ sig).ty.Contents (Elt F)) = Cert.Reference2Ideal.Step.b71 j s := by
  unfold Cert.Reference2Ideal.Step.b71
  rw [← al_62 h, ← al_70 h]
  try rfl
set_option maxRecDepth 8192 in
theorem al_72 (h : Holds V0 s j) : (Host.dotGeneral dot_S8x64x128_S8x128x128_S8x64x128_2_2_1_1_0_0 none (res_main_while0b_v68 V0) (res_main_while0b_v61 V0) : (Proc.devRef .tc main_while0b_v96 : DevRef τ sig).ty.Contents (Elt F)) = Cert.Reference2Ideal.Step.b72 j s := by
  unfold Cert.Reference2Ideal.Step.b72
  rw [← al_42 h, ← al_8 h]
  try rfl
set_option maxRecDepth 8192 in
theorem al_73 (h : Holds V0 s j) : (res_main_while0b_v97 V0 : (Proc.devRef .tc main_while0b_v97 : DevRef τ sig).ty.Contents (Elt F)) = Cert.Reference2Ideal.Step.b73 j s := by
  unfold res_main_while0b_v97 Cert.Reference2Ideal.Step.b73
  rw [← al_67 h]
  try rfl
set_option maxRecDepth 8192 in
theorem al_74 (h : Holds V0 s j) : (Host.dotGeneral dot_S8x64x128_S8x64x128_S8x128x128_1_1_2_2_0_0 none (res_main_while0b_v97 V0) (res_main_while0b_v65 V0) : (Proc.devRef .tc main_while0b_v98 : DevRef τ sig).ty.Contents (Elt F)) = Cert.Reference2Ideal.Step.b74 j s := by
  unfold Cert.Reference2Ideal.Step.b74
  rw [← al_73 h, ← al_28 h]
  try rfl
set_option maxRecDepth 8192 in
theorem al_75 (h : Holds V0 s j) : (transpose S8x128x128 [0, 2, 1] (Host.dotGeneral dot_S8x64x128_S8x64x128_S8x128x128_1_1_2_2_0_0 none (res_main_while0b_v97 V0) (res_main_while0b_v65 V0)) transposes_S8x128x128_S8x128x128_0_2_1 : (Proc.devRef .tc main_while0b_v99 : DevRef τ sig).ty.Contents (Elt F)) = Cert.Reference2Ideal.Step.b75 j s := by
  unfold Cert.Reference2Ideal.Step.b75
  rw [← al_74 h]
  try rfl
set_option maxRecDepth 8192 in
theorem al_76 (h : Holds V0 s j) : (addf (addf (mulf (V0 (Proc.devRef .tc main_v34_9)) (broadcastInDim S8x128x128 ![0, 1, 2] bcast_S8x1x128_S8x128x128_0_1_2 (res_main_while0b_v74 V0))) (transpose S8x128x128 [0, 2, 1] (Host.dotGeneral dot_S8x64x128_S8x64x128_S8x128x128_1_1_2_2_0_0 none (res_main_while0b_v68 V0) (res_main_while0b_v62 V0)) transposes_S8x128x128_S8x128x128_0_2_1)) (transpose S8x128x128 [0, 2, 1] (Host.dotGeneral dot_S8x64x128_S8x64x128_S8x128x128_1_1_2_2_0_0 none (res_main_while0b_v97 V0) (res_main_while0b_v65 V0)) transposes_S8x128x128_S8x128x128_0_2_1) : (Proc.devRef .tc main_while0b_v100 : DevRef τ sig).ty.Contents (Elt F)) = Cert.Reference2Ideal.Step.b76 j s := by
  unfold Cert.Reference2Ideal.Step.b76
  rw [← al_71 h, ← al_75 h]
  try rfl
set_option maxRecDepth 8192 in
theorem al_77 (h : Holds V0 s j) : (Host.dotGeneral dot_S8x64x128_S8x128x128_S8x64x128_2_2_1_1_0_0 none (res_main_while0b_v97 V0) (res_main_while0b_v61 V0) : (Proc.devRef .tc main_while0b_v101 : DevRef τ sig).ty.Contents (Elt F)) = Cert.Reference2Ideal.Step.b77 j s := by
  unfold Cert.Reference2Ideal.Step.b77
  rw [← al_73 h, ← al_8 h]
  try rfl
set_option maxRecDepth 8192 in
theorem al_78 (h : Holds V0 s j) : (broadcastInDim S1x8x64x128 ![1, 2, 3] bcast_S8x64x128_S1x8x64x128_1_2_3 (Host.dotGeneral dot_S8x64x128_S8x128x128_S8x64x128_2_2_1_1_0_0 none (res_main_while0b_v68 V0) (res_main_while0b_v61 V0)) : (Proc.devRef .tc main_while0b_call8_v0 : DevRef τ sig).ty.Contents (Elt F)) = Cert.Reference2Ideal.Step.b78 j s := by
  unfold Cert.Reference2Ideal.Step.b78
  rw [← al_72 h]
  try rfl
set_option maxRecDepth 8192 in
theorem al_79 (h : Holds V0 s j) : (constantI S_ 32 0#32 : (Proc.devRef .tc main_while0b_call8_c : DevRef τ sig).ty.Contents (Elt F)) = Cert.Reference2Ideal.Step.b79 j s := by
  unfold Cert.Reference2Ideal.Step.b79
  rfl
set_option maxRecDepth 8192 in
theorem al_80 (h : Holds V0 s j) : (constantI S_ 32 0#32 : (Proc.devRef .tc main_while0b_call8_c_0 : DevRef τ sig).ty.Contents (Elt F)) = Cert.Reference2Ideal.Step.b80 j s := by
  unfold Cert.Reference2Ideal.Step.b80
  rfl
set_option maxRecDepth 8192 in
theorem al_81 (h : Holds V0 s j) : (constantI S_ 32 0#32 : (Proc.devRef .tc main_while0b_call8_c_1 : DevRef τ sig).ty.Contents (Elt F)) = Cert.Reference2Ideal.Step.b81 j s := by
  unfold Cert.Reference2Ideal.Step.b81
  rfl
set_option maxRecDepth 8192 in
theorem al_82 (h : Holds V0 s j) : (Host.dynamicUpdateSlice (V0 (Proc.devRef .tc main_v34_10)) (broadcastInDim S1x8x64x128 ![1, 2, 3] bcast_S8x64x128_S1x8x64x128_1_2_3 (Host.dotGeneral dot_S8x64x128_S8x128x128_S8x64x128_2_2_1_1_0_0 none (res_main_while0b_v68 V0) (res_main_while0b_v61 V0))) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v102 : DevRef τ sig).ty.Contents (Elt F)) = Cert.Reference2Ideal.Step.b82 j s := by
  unfold Cert.Reference2Ideal.Step.b82
  rw [← al_78 h, ← al_3 h, ← al_79 h, ← al_80 h, ← al_81 h, h.f_10]
  try rfl
set_option maxRecDepth 8192 in
theorem al_83 (h : Holds V0 s j) : (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v34_9)) (res_main_while0b_v70 V0)) transposes_S8x128x64_S8x64x128_0_2_1) : (Proc.devRef .tc main_while0b_call9_v0 : DevRef τ sig).ty.Contents (Elt F)) = Cert.Reference2Ideal.Step.b83 j s := by
  unfold Cert.Reference2Ideal.Step.b83
  rw [← al_56 h]
  try rfl
set_option maxRecDepth 8192 in
theorem al_84 (h : Holds V0 s j) : (constantI S_ 32 0#32 : (Proc.devRef .tc main_while0b_call9_c : DevRef τ sig).ty.Contents (Elt F)) = Cert.Reference2Ideal.Step.b84 j s := by
  unfold Cert.Reference2Ideal.Step.b84
  rfl
set_option maxRecDepth 8192 in
theorem al_85 (h : Holds V0 s j) : (constantI S_ 32 0#32 : (Proc.devRef .tc main_while0b_call9_c_0 : DevRef τ sig).ty.Contents (Elt F)) = Cert.Reference2Ideal.Step.b85 j s := by
  unfold Cert.Reference2Ideal.Step.b85
  rfl
set_option maxRecDepth 8192 in
theorem al_86 (h : Holds V0 s j) : (constantI S_ 32 0#32 : (Proc.devRef .tc main_while0b_call9_c_1 : DevRef τ sig).ty.Contents (Elt F)) = Cert.Reference2Ideal.Step.b86 j s := by
  unfold Cert.Reference2Ideal.Step.b86
  rfl
set_option maxRecDepth 8192 in
theorem al_87 (h : Holds V0 s j) : (Host.dynamicUpdateSlice (V0 (Proc.devRef .tc main_v34_11)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v34_9)) (res_main_while0b_v70 V0)) transposes_S8x128x64_S8x64x128_0_2_1)) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v103 : DevRef τ sig).ty.Contents (Elt F)) = Cert.Reference2Ideal.Step.b87 j s := by
  unfold Cert.Reference2Ideal.Step.b87
  rw [← al_83 h, ← al_3 h, ← al_84 h, ← al_85 h, ← al_86 h, h.f_11]
  try rfl
set_option maxRecDepth 8192 in
theorem al_88 (h : Holds V0 s j) : (broadcastInDim S1x8x64x128 ![1, 2, 3] bcast_S8x64x128_S1x8x64x128_1_2_3 (res_main_while0b_v91 V0) : (Proc.devRef .tc main_while0b_call10_v0 : DevRef τ sig).ty.Contents (Elt F)) = Cert.Reference2Ideal.Step.b88 j s := by
  unfold Cert.Reference2Ideal.Step.b88
  rw [← al_67 h]
  try rfl
set_option maxRecDepth 8192 in
theorem al_89 (h : Holds V0 s j) : (constantI S_ 32 0#32 : (Proc.devRef .tc main_while0b_call10_c : DevRef τ sig).ty.Contents (Elt F)) = Cert.Reference2Ideal.Step.b89 j s := by
  unfold Cert.Reference2Ideal.Step.b89
  rfl
set_option maxRecDepth 8192 in
theorem al_90 (h : Holds V0 s j) : (constantI S_ 32 0#32 : (Proc.devRef .tc main_while0b_call10_c_0 : DevRef τ sig).ty.Contents (Elt F)) = Cert.Reference2Ideal.Step.b90 j s := by
  unfold Cert.Reference2Ideal.Step.b90
  rfl
set_option maxRecDepth 8192 in
theorem al_91 (h : Holds V0 s j) : (constantI S_ 32 0#32 : (Proc.devRef .tc main_while0b_call10_c_1 : DevRef τ sig).ty.Contents (Elt F)) = Cert.Reference2Ideal.Step.b91 j s := by
  unfold Cert.Reference2Ideal.Step.b91
  rfl
set_option maxRecDepth 8192 in
theorem al_92 (h : Holds V0 s j) : (Host.dynamicUpdateSlice (V0 (Proc.devRef .tc main_v34_12)) (broadcastInDim S1x8x64x128 ![1, 2, 3] bcast_S8x64x128_S1x8x64x128_1_2_3 (res_main_while0b_v91 V0)) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v104 : DevRef τ sig).ty.Contents (Elt F)) = Cert.Reference2Ideal.Step.b92 j s := by
  unfold Cert.Reference2Ideal.Step.b92
  rw [← al_88 h, ← al_3 h, ← al_89 h, ← al_90 h, ← al_91 h, h.f_12]
  try rfl
set_option maxRecDepth 8192 in
theorem al_93 (h : Holds V0 s j) : (broadcastInDim S1x8x64x128 ![1, 2, 3] bcast_S8x64x128_S1x8x64x128_1_2_3 (Host.dotGeneral dot_S8x64x128_S8x128x128_S8x64x128_2_2_1_1_0_0 none (res_main_while0b_v97 V0) (res_main_while0b_v61 V0)) : (Proc.devRef .tc main_while0b_call11_v0 : DevRef τ sig).ty.Contents (Elt F)) = Cert.Reference2Ideal.Step.b93 j s := by
  unfold Cert.Reference2Ideal.Step.b93
  rw [← al_77 h]
  try rfl
set_option maxRecDepth 8192 in
theorem al_94 (h : Holds V0 s j) : (constantI S_ 32 0#32 : (Proc.devRef .tc main_while0b_call11_c : DevRef τ sig).ty.Contents (Elt F)) = Cert.Reference2Ideal.Step.b94 j s := by
  unfold Cert.Reference2Ideal.Step.b94
  rfl
set_option maxRecDepth 8192 in
theorem al_95 (h : Holds V0 s j) : (constantI S_ 32 0#32 : (Proc.devRef .tc main_while0b_call11_c_0 : DevRef τ sig).ty.Contents (Elt F)) = Cert.Reference2Ideal.Step.b95 j s := by
  unfold Cert.Reference2Ideal.Step.b95
  rfl
set_option maxRecDepth 8192 in
theorem al_96 (h : Holds V0 s j) : (constantI S_ 32 0#32 : (Proc.devRef .tc main_while0b_call11_c_1 : DevRef τ sig).ty.Contents (Elt F)) = Cert.Reference2Ideal.Step.b96 j s := by
  unfold Cert.Reference2Ideal.Step.b96
  rfl
set_option maxRecDepth 8192 in
theorem al_97 (h : Holds V0 s j) : (Host.dynamicUpdateSlice (V0 (Proc.devRef .tc main_v34_13)) (broadcastInDim S1x8x64x128 ![1, 2, 3] bcast_S8x64x128_S1x8x64x128_1_2_3 (Host.dotGeneral dot_S8x64x128_S8x128x128_S8x64x128_2_2_1_1_0_0 none (res_main_while0b_v97 V0) (res_main_while0b_v61 V0))) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v105 : DevRef τ sig).ty.Contents (Elt F)) = Cert.Reference2Ideal.Step.b97 j s := by
  unfold Cert.Reference2Ideal.Step.b97
  rw [← al_93 h, ← al_3 h, ← al_94 h, ← al_95 h, ← al_96 h, h.f_13]
  try rfl
set_option maxRecDepth 8192 in
theorem al_98 (h : Holds V0 s j) : (broadcastInDim S1x8x64x64 ![1, 2, 3] bcast_S8x64x64_S1x8x64x64_1_2_3 (Host.dotGeneral dot_S8x64x128_S8x64x128_S8x64x64_2_2_1_1_0_0 none (res_main_while0b_v68 V0) (res_main_while0b_v70 V0)) : (Proc.devRef .tc main_while0b_call12_v0 : DevRef τ sig).ty.Contents (Elt F)) = Cert.Reference2Ideal.Step.b98 j s := by
  unfold Cert.Reference2Ideal.Step.b98
  rw [← al_68 h]
  try rfl
set_option maxRecDepth 8192 in
theorem al_99 (h : Holds V0 s j) : (constantI S_ 32 0#32 : (Proc.devRef .tc main_while0b_call12_c : DevRef τ sig).ty.Contents (Elt F)) = Cert.Reference2Ideal.Step.b99 j s := by
  unfold Cert.Reference2Ideal.Step.b99
  rfl
set_option maxRecDepth 8192 in
theorem al_100 (h : Holds V0 s j) : (constantI S_ 32 0#32 : (Proc.devRef .tc main_while0b_call12_c_0 : DevRef τ sig).ty.Contents (Elt F)) = Cert.Reference2Ideal.Step.b100 j s := by
  unfold Cert.Reference2Ideal.Step.b100
  rfl
set_option maxRecDepth 8192 in
theorem al_101 (h : Holds V0 s j) : (constantI S_ 32 0#32 : (Proc.devRef .tc main_while0b_call12_c_1 : DevRef τ sig).ty.Contents (Elt F)) = Cert.Reference2Ideal.Step.b101 j s := by
  unfold Cert.Reference2Ideal.Step.b101
  rfl
set_option maxRecDepth 8192 in
theorem al_102 (h : Holds V0 s j) : (Host.dynamicUpdateSlice (V0 (Proc.devRef .tc main_v34_14)) (broadcastInDim S1x8x64x64 ![1, 2, 3] bcast_S8x64x64_S1x8x64x64_1_2_3 (Host.dotGeneral dot_S8x64x128_S8x64x128_S8x64x64_2_2_1_1_0_0 none (res_main_while0b_v68 V0) (res_main_while0b_v70 V0))) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x64_S1x8x64x64 : (Proc.devRef .tc main_while0b_v106 : DevRef τ sig).ty.Contents (Elt F)) = Cert.Reference2Ideal.Step.b102 j s := by
  unfold Cert.Reference2Ideal.Step.b102
  rw [← al_98 h, ← al_3 h, ← al_99 h, ← al_100 h, ← al_101 h, h.f_14]
  try rfl
set_option maxRecDepth 8192 in
theorem al_103 (h : Holds V0 s j) : (broadcastInDim S1x8x128 ![1, 2] bcast_S8x128_S1x8x128_1_2 (Host.reduceAdd (shapeCast S8x1x128 (Host.reduceAdd (mulf (res_main_while0b_v61 V0) (V0 (Proc.devRef .tc main_v34_9))) (constant S_ .f32 0x00000000#32) reducesTo_S8x128x128_S8x128_d1 h_S_) shapeCasts_S8x128_S8x1x128) (constant S_ .f32 0x00000000#32) reducesTo_S8x1x128_S8x128_d1 h_S_) : (Proc.devRef .tc main_while0b_call13_v0 : DevRef τ sig).ty.Contents (Elt F)) = Cert.Reference2Ideal.Step.b103 j s := by
  unfold Cert.Reference2Ideal.Step.b103
  rw [← al_64 h]
  try rfl
set_option maxRecDepth 8192 in
theorem al_104 (h : Holds V0 s j) : (constantI S_ 32 0#32 : (Proc.devRef .tc main_while0b_call13_c : DevRef τ sig).ty.Contents (Elt F)) = Cert.Reference2Ideal.Step.b104 j s := by
  unfold Cert.Reference2Ideal.Step.b104
  rfl
set_option maxRecDepth 8192 in
theorem al_105 (h : Holds V0 s j) : (constantI S_ 32 0#32 : (Proc.devRef .tc main_while0b_call13_c_0 : DevRef τ sig).ty.Contents (Elt F)) = Cert.Reference2Ideal.Step.b105 j s := by
  unfold Cert.Reference2Ideal.Step.b105
  rfl
set_option maxRecDepth 8192 in
theorem al_106 (h : Holds V0 s j) : (Host.dynamicUpdateSlice (V0 (Proc.devRef .tc main_v34_15)) (broadcastInDim S1x8x128 ![1, 2] bcast_S8x128_S1x8x128_1_2 (Host.reduceAdd (shapeCast S8x1x128 (Host.reduceAdd (mulf (res_main_while0b_v61 V0) (V0 (Proc.devRef .tc main_v34_9))) (constant S_ .f32 0x00000000#32) reducesTo_S8x128x128_S8x128_d1 h_S_) shapeCasts_S8x128_S8x1x128) (constant S_ .f32 0x00000000#32) reducesTo_S8x1x128_S8x128_d1 h_S_)) (fun k => (((![res_main_while0b_v60 V0, constantI S_ 32 0#32, constantI S_ 32 0#32] : Fin 3 → (⟨S_, .i32⟩ : BufTy).Contents (Elt F))) k (Shape.Idx.first h_S_)).toInt) updateFits_S64x8x128_S1x8x128 : (Proc.devRef .tc main_while0b_v107 : DevRef τ sig).ty.Contents (Elt F)) = Cert.Reference2Ideal.Step.b106 j s := by
  unfold Cert.Reference2Ideal.Step.b106
  rw [← al_103 h, ← al_3 h, ← al_104 h, ← al_105 h, h.f_15]
  try rfl

/-! One trip's step of the carried values is `step`, field by field; a counter steps to the next number. -/

theorem step_9 (h : Holds V0 s j) : step_main_v34_9 V0 = (step j s).main_v34_9 := by
  unfold step_main_v34_9 Cert.Reference2Ideal.Step.step
  show id (addf (addf (mulf (V0 (Proc.devRef .tc main_v34_9)) (broadcastInDim S8x128x128 ![0, 1, 2] bcast_S8x1x128_S8x128x128_0_1_2 (res_main_while0b_v74 V0))) (transpose S8x128x128 [0, 2, 1] (Host.dotGeneral dot_S8x64x128_S8x64x128_S8x128x128_1_1_2_2_0_0 none (res_main_while0b_v68 V0) (res_main_while0b_v62 V0)) transposes_S8x128x128_S8x128x128_0_2_1)) (transpose S8x128x128 [0, 2, 1] (Host.dotGeneral dot_S8x64x128_S8x64x128_S8x128x128_1_1_2_2_0_0 none (res_main_while0b_v97 V0) (res_main_while0b_v65 V0)) transposes_S8x128x128_S8x128x128_0_2_1)) = _
  exact al_76 h
theorem step_10 (h : Holds V0 s j) : step_main_v34_10 V0 = (step j s).main_v34_10 := by
  unfold step_main_v34_10 Cert.Reference2Ideal.Step.step
  show id (Host.dynamicUpdateSlice (V0 (Proc.devRef .tc main_v34_10)) (broadcastInDim S1x8x64x128 ![1, 2, 3] bcast_S8x64x128_S1x8x64x128_1_2_3 (Host.dotGeneral dot_S8x64x128_S8x128x128_S8x64x128_2_2_1_1_0_0 none (res_main_while0b_v68 V0) (res_main_while0b_v61 V0))) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_82 h
theorem step_11 (h : Holds V0 s j) : step_main_v34_11 V0 = (step j s).main_v34_11 := by
  unfold step_main_v34_11 Cert.Reference2Ideal.Step.step
  show id (Host.dynamicUpdateSlice (V0 (Proc.devRef .tc main_v34_11)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v34_9)) (res_main_while0b_v70 V0)) transposes_S8x128x64_S8x64x128_0_2_1)) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_87 h
theorem step_12 (h : Holds V0 s j) : step_main_v34_12 V0 = (step j s).main_v34_12 := by
  unfold step_main_v34_12 Cert.Reference2Ideal.Step.step
  show id (Host.dynamicUpdateSlice (V0 (Proc.devRef .tc main_v34_12)) (broadcastInDim S1x8x64x128 ![1, 2, 3] bcast_S8x64x128_S1x8x64x128_1_2_3 (res_main_while0b_v91 V0)) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_92 h
theorem step_13 (h : Holds V0 s j) : step_main_v34_13 V0 = (step j s).main_v34_13 := by
  unfold step_main_v34_13 Cert.Reference2Ideal.Step.step
  show id (Host.dynamicUpdateSlice (V0 (Proc.devRef .tc main_v34_13)) (broadcastInDim S1x8x64x128 ![1, 2, 3] bcast_S8x64x128_S1x8x64x128_1_2_3 (Host.dotGeneral dot_S8x64x128_S8x128x128_S8x64x128_2_2_1_1_0_0 none (res_main_while0b_v97 V0) (res_main_while0b_v61 V0))) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_97 h
theorem step_14 (h : Holds V0 s j) : step_main_v34_14 V0 = (step j s).main_v34_14 := by
  unfold step_main_v34_14 Cert.Reference2Ideal.Step.step
  show id (Host.dynamicUpdateSlice (V0 (Proc.devRef .tc main_v34_14)) (broadcastInDim S1x8x64x64 ![1, 2, 3] bcast_S8x64x64_S1x8x64x64_1_2_3 (Host.dotGeneral dot_S8x64x128_S8x64x128_S8x64x64_2_2_1_1_0_0 none (res_main_while0b_v68 V0) (res_main_while0b_v70 V0))) (fun k => (((![res_main_while0b_v60 V0, constantI S_ 32 0#32, constantI S_ 32 0#32, constantI S_ 32 0#32] : Fin 4 → (⟨S_, .i32⟩ : BufTy).Contents (Elt F))) k (Shape.Idx.first h_S_)).toInt) updateFits_S64x8x64x64_S1x8x64x64) = _
  exact al_102 h
theorem step_15 (h : Holds V0 s j) : step_main_v34_15 V0 = (step j s).main_v34_15 := by
  unfold step_main_v34_15 Cert.Reference2Ideal.Step.step
  show id (Host.dynamicUpdateSlice (V0 (Proc.devRef .tc main_v34_15)) (broadcastInDim S1x8x128 ![1, 2] bcast_S8x128_S1x8x128_1_2 (Host.reduceAdd (shapeCast S8x1x128 (Host.reduceAdd (mulf (res_main_while0b_v61 V0) (V0 (Proc.devRef .tc main_v34_9))) (constant S_ .f32 0x00000000#32) reducesTo_S8x128x128_S8x128_d1 h_S_) shapeCasts_S8x128_S8x1x128) (constant S_ .f32 0x00000000#32) reducesTo_S8x1x128_S8x128_d1 h_S_)) (fun k => (((![res_main_while0b_v60 V0, constantI S_ 32 0#32, constantI S_ 32 0#32] : Fin 3 → (⟨S_, .i32⟩ : BufTy).Contents (Elt F))) k (Shape.Idx.first h_S_)).toInt) updateFits_S64x8x128_S1x8x128) = _
  exact al_106 h
theorem step_8 (h : Holds V0 s j) : step_main_v34_8 V0 = constantI S_ 32 (BitVec.ofNat 32 (j + 1)) := by
  unfold step_main_v34_8
  rw [h.n_8]
  funext i
  show BitVec.ofNat 32 j + 1#32 = BitVec.ofNat 32 (j + 1)
  simp only [BitVec.ofNat_add]

set_option maxRecDepth 8192 in
theorem out_main_v44_holds (h : Holds V0 s j) : out_main_v44 V0 = Cert.Reference2Ideal.Step.R_main_v44 s := by
  unfold out_main_v44 Cert.Reference2Ideal.Step.R_main_v44
  rw [h.f_10]
  try rfl

set_option maxRecDepth 8192 in
theorem out_main_v42_holds (h : Holds V0 s j) : out_main_v42 V0 = Cert.Reference2Ideal.Step.R_main_v42 s := by
  unfold out_main_v42 Cert.Reference2Ideal.Step.R_main_v42
  rw [h.f_11]
  try rfl

set_option maxRecDepth 8192 in
theorem out_main_v57_holds (h : Holds V0 s j) : out_main_v57 V0 = Cert.Reference2Ideal.Step.R_main_v57 s := by
  unfold out_main_v57 Cert.Reference2Ideal.Step.R_main_v57
  rw [h.f_12]
  try rfl

set_option maxRecDepth 8192 in
theorem out_main_v58_holds (h : Holds V0 s j) : out_main_v58 V0 = Cert.Reference2Ideal.Step.R_main_v58 s := by
  unfold out_main_v58 Cert.Reference2Ideal.Step.R_main_v58
  rw [h.f_13]
  try rfl

set_option maxRecDepth 8192 in
theorem out_main_v56_holds (h : Holds V0 s j) : out_main_v56 V0 = Cert.Reference2Ideal.Step.R_main_v56 s := by
  unfold out_main_v56 Cert.Reference2Ideal.Step.R_main_v56
  rw [h.f_14]
  try rfl

set_option maxRecDepth 8192 in
theorem out_main_v36_holds (h : Holds V0 s j) : out_main_v36 V0 = Cert.Reference2Ideal.Step.R_main_v36 s := by
  unfold out_main_v36 Cert.Reference2Ideal.Step.R_main_v36
  rw [h.f_15]
  try rfl

/-- One trip keeps the valuation holding: `step` of the state, the same set-up values, the next number. -/
theorem holds_step (h : Holds V0 s j) : Holds (STEP V0) (step j s) (j + 1) where
  f_9 := (STEP_main_v34_9 V0).trans (step_9 h)
  f_10 := (STEP_main_v34_10 V0).trans (step_10 h)
  f_11 := (STEP_main_v34_11 V0).trans (step_11 h)
  f_12 := (STEP_main_v34_12 V0).trans (step_12 h)
  f_13 := (STEP_main_v34_13 V0).trans (step_13 h)
  f_14 := (STEP_main_v34_14 V0).trans (step_14 h)
  f_15 := (STEP_main_v34_15 V0).trans (step_15 h)
  n_8 := (STEP_main_v34_8 V0).trans (step_8 h)
  f_0 := (STEP_main_v34_0 V0).trans h.f_0
  f_1 := (STEP_main_v34_1 V0).trans h.f_1
  f_2 := (STEP_main_v34_2 V0).trans h.f_2
  f_3 := (STEP_main_v34_3 V0).trans h.f_3
  f_4 := (STEP_main_v34_4 V0).trans h.f_4
  f_5 := (STEP_main_v34_5 V0).trans h.f_5
  f_6 := (STEP_main_v34_6 V0).trans h.f_6
  f_7 := (STEP_main_v34_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference2Ideal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v44) = Cert.Reference2Ideal.Step.R_main_v44 (it c 64)
      ∧ r.2.mem ((c.tc : Thread nD τ).loc main_v42) = Cert.Reference2Ideal.Step.R_main_v42 (it c 64)
      ∧ r.2.mem ((c.tc : Thread nD τ).loc main_v57) = Cert.Reference2Ideal.Step.R_main_v57 (it c 64)
      ∧ r.2.mem ((c.tc : Thread nD τ).loc main_v58) = Cert.Reference2Ideal.Step.R_main_v58 (it c 64)
      ∧ r.2.mem ((c.tc : Thread nD τ).loc main_v56) = Cert.Reference2Ideal.Step.R_main_v56 (it c 64)
      ∧ r.2.mem ((c.tc : Thread nD τ).loc main_v36) = Cert.Reference2Ideal.Step.R_main_v36 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 64
    ⟨(h c).1.trans (out_main_v44_holds hk), (h c).2.1.trans (out_main_v42_holds hk), (h c).2.2.1.trans (out_main_v57_holds hk), (h c).2.2.2.1.trans (out_main_v58_holds hk), (h c).2.2.2.2.1.trans (out_main_v56_holds hk), (h c).2.2.2.2.2.1.trans (out_main_v36_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.Reference2Ideal.StepRun

end
-- ==== Proof.Backward.lean ====
/- The backward call against its reference: both leave the gradients of the recurrence. -/
module

public import proofs.«01_k».proof.Defs
public import proofs.«01_k».proof.Proof.Out2
public import proofs.«01_k».proof.Proof.Tail2
public import proofs.«01_k».proof.Proof.LoopRun2
public import proofs.«01_k».proof.Proof.Gen.Kernel2Ideal.Value
public import proofs.«01_k».proof.Proof.Gen.Kernel2Ideal
public import proofs.«01_k».proof.Proof.Gen.Reference2Ideal
public import proofs.«01_k».proof.Proof.Gen.Reference2Ideal.Run

@[expose] public section

set_option maxRecDepth 16384

noncomputable section

open Idealize.ShloMosaic Idealize.ShloMosaic.TcCoe Idealize.SL.Sem

namespace Cert.Proof

section equalB
open Cert.Reference2Ideal Cert.Reference2Ideal.Step Cert.Reference2Ideal.Scan

theorem equalB_0 (m : (ℓ : Loc Cert.Kernel2Ideal.nD Cert.Kernel2Ideal.τ Cert.Kernel2Ideal.sig) → Buf (Elt Ideal) ℓ) (c : Dev Cert.Kernel2Ideal.nD) (x0 : S8x4096x128.Idx → EReal) (x1 : S8x4096x128.Idx → EReal) (x2 : S8x4096x128.Idx → EReal) (x3 : S8x4096x128.Idx → EReal) (x4 : S8x4096x128.Idx → EReal) (x5 : S32x8x2x128.Idx → EReal) (x6 : S32x2x8x128x128.Idx → EReal) (x7 : S8x4096x128.Idx → EReal)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4))
    (h5 : x5 = m ((c.tc : Thread Cert.Kernel2Ideal.nD Cert.Kernel2Ideal.τ).loc Cert.Kernel2Ideal.main_arg5))
    (h6 : x6 = m ((c.tc : Thread Cert.Kernel2Ideal.nD Cert.Kernel2Ideal.τ).loc Cert.Kernel2Ideal.main_arg6))
    (h7 : x7 = m ((c.tc : Thread Cert.Kernel2Ideal.nD Cert.Kernel2Ideal.τ).loc Cert.Kernel2Ideal.main_arg7)) :
    R_main_v44 (it x0 x1 x2 x3 x4 x5 x6 x7 64) = Cert.Kernel2Ideal.Chain.arrQ m c := by
  subst h0 h1 h2 h3 h4 h5 h6 h7
  funext i
  idx_vars i
  exact result_Q _ _ _ _ _ _ _ _ i0 i1 i2
theorem equalB_1 (m : (ℓ : Loc Cert.Kernel2Ideal.nD Cert.Kernel2Ideal.τ Cert.Kernel2Ideal.sig) → Buf (Elt Ideal) ℓ) (c : Dev Cert.Kernel2Ideal.nD) (x0 : S8x4096x128.Idx → EReal) (x1 : S8x4096x128.Idx → EReal) (x2 : S8x4096x128.Idx → EReal) (x3 : S8x4096x128.Idx → EReal) (x4 : S8x4096x128.Idx → EReal) (x5 : S32x8x2x128.Idx → EReal) (x6 : S32x2x8x128x128.Idx → EReal) (x7 : S8x4096x128.Idx → EReal)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4))
    (h5 : x5 = m ((c.tc : Thread Cert.Kernel2Ideal.nD Cert.Kernel2Ideal.τ).loc Cert.Kernel2Ideal.main_arg5))
    (h6 : x6 = m ((c.tc : Thread Cert.Kernel2Ideal.nD Cert.Kernel2Ideal.τ).loc Cert.Kernel2Ideal.main_arg6))
    (h7 : x7 = m ((c.tc : Thread Cert.Kernel2Ideal.nD Cert.Kernel2Ideal.τ).loc Cert.Kernel2Ideal.main_arg7)) :
    R_main_v42 (it x0 x1 x2 x3 x4 x5 x6 x7 64) = Cert.Kernel2Ideal.Chain.arrK m c := by
  subst h0 h1 h2 h3 h4 h5 h6 h7
  funext i
  idx_vars i
  exact result_K _ _ _ _ _ _ _ _ i0 i1 i2
theorem equalB_2 (m : (ℓ : Loc Cert.Kernel2Ideal.nD Cert.Kernel2Ideal.τ Cert.Kernel2Ideal.sig) → Buf (Elt Ideal) ℓ) (c : Dev Cert.Kernel2Ideal.nD) (x0 : S8x4096x128.Idx → EReal) (x1 : S8x4096x128.Idx → EReal) (x2 : S8x4096x128.Idx → EReal) (x3 : S8x4096x128.Idx → EReal) (x4 : S8x4096x128.Idx → EReal) (x5 : S32x8x2x128.Idx → EReal) (x6 : S32x2x8x128x128.Idx → EReal) (x7 : S8x4096x128.Idx → EReal)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4))
    (h5 : x5 = m ((c.tc : Thread Cert.Kernel2Ideal.nD Cert.Kernel2Ideal.τ).loc Cert.Kernel2Ideal.main_arg5))
    (h6 : x6 = m ((c.tc : Thread Cert.Kernel2Ideal.nD Cert.Kernel2Ideal.τ).loc Cert.Kernel2Ideal.main_arg6))
    (h7 : x7 = m ((c.tc : Thread Cert.Kernel2Ideal.nD Cert.Kernel2Ideal.τ).loc Cert.Kernel2Ideal.main_arg7)) :
    R_main_v57 (it x0 x1 x2 x3 x4 x5 x6 x7 64) = Cert.Kernel2Ideal.Chain.arrE m c := by
  subst h0 h1 h2 h3 h4 h5 h6 h7
  funext i
  idx_vars i
  exact result_E _ _ _ _ _ _ _ _ i0 i1 i2
theorem equalB_3 (m : (ℓ : Loc Cert.Kernel2Ideal.nD Cert.Kernel2Ideal.τ Cert.Kernel2Ideal.sig) → Buf (Elt Ideal) ℓ) (c : Dev Cert.Kernel2Ideal.nD) (x0 : S8x4096x128.Idx → EReal) (x1 : S8x4096x128.Idx → EReal) (x2 : S8x4096x128.Idx → EReal) (x3 : S8x4096x128.Idx → EReal) (x4 : S8x4096x128.Idx → EReal) (x5 : S32x8x2x128.Idx → EReal) (x6 : S32x2x8x128x128.Idx → EReal) (x7 : S8x4096x128.Idx → EReal)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4))
    (h5 : x5 = m ((c.tc : Thread Cert.Kernel2Ideal.nD Cert.Kernel2Ideal.τ).loc Cert.Kernel2Ideal.main_arg5))
    (h6 : x6 = m ((c.tc : Thread Cert.Kernel2Ideal.nD Cert.Kernel2Ideal.τ).loc Cert.Kernel2Ideal.main_arg6))
    (h7 : x7 = m ((c.tc : Thread Cert.Kernel2Ideal.nD Cert.Kernel2Ideal.τ).loc Cert.Kernel2Ideal.main_arg7)) :
    R_main_v58 (it x0 x1 x2 x3 x4 x5 x6 x7 64) = Cert.Kernel2Ideal.Chain.arrW m c := by
  subst h0 h1 h2 h3 h4 h5 h6 h7
  funext i
  idx_vars i
  exact result_W _ _ _ _ _ _ _ _ i0 i1 i2
theorem equalB_4 (m : (ℓ : Loc Cert.Kernel2Ideal.nD Cert.Kernel2Ideal.τ Cert.Kernel2Ideal.sig) → Buf (Elt Ideal) ℓ) (c : Dev Cert.Kernel2Ideal.nD) (x0 : S8x4096x128.Idx → EReal) (x1 : S8x4096x128.Idx → EReal) (x2 : S8x4096x128.Idx → EReal) (x3 : S8x4096x128.Idx → EReal) (x4 : S8x4096x128.Idx → EReal) (x5 : S32x8x2x128.Idx → EReal) (x6 : S32x2x8x128x128.Idx → EReal) (x7 : S8x4096x128.Idx → EReal)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4))
    (h5 : x5 = m ((c.tc : Thread Cert.Kernel2Ideal.nD Cert.Kernel2Ideal.τ).loc Cert.Kernel2Ideal.main_arg5))
    (h6 : x6 = m ((c.tc : Thread Cert.Kernel2Ideal.nD Cert.Kernel2Ideal.τ).loc Cert.Kernel2Ideal.main_arg6))
    (h7 : x7 = m ((c.tc : Thread Cert.Kernel2Ideal.nD Cert.Kernel2Ideal.τ).loc Cert.Kernel2Ideal.main_arg7)) :
    R_main_v56 (it x0 x1 x2 x3 x4 x5 x6 x7 64) = Cert.Kernel2Ideal.Chain.arrA m c := by
  subst h0 h1 h2 h3 h4 h5 h6 h7
  funext i
  idx_vars i
  exact result_A _ _ _ _ _ _ _ _ i0 i1 i2
theorem equalB_5 (m : (ℓ : Loc Cert.Kernel2Ideal.nD Cert.Kernel2Ideal.τ Cert.Kernel2Ideal.sig) → Buf (Elt Ideal) ℓ) (c : Dev Cert.Kernel2Ideal.nD) (x0 : S8x4096x128.Idx → EReal) (x1 : S8x4096x128.Idx → EReal) (x2 : S8x4096x128.Idx → EReal) (x3 : S8x4096x128.Idx → EReal) (x4 : S8x4096x128.Idx → EReal) (x5 : S32x8x2x128.Idx → EReal) (x6 : S32x2x8x128x128.Idx → EReal) (x7 : S8x4096x128.Idx → EReal)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4))
    (h5 : x5 = m ((c.tc : Thread Cert.Kernel2Ideal.nD Cert.Kernel2Ideal.τ).loc Cert.Kernel2Ideal.main_arg5))
    (h6 : x6 = m ((c.tc : Thread Cert.Kernel2Ideal.nD Cert.Kernel2Ideal.τ).loc Cert.Kernel2Ideal.main_arg6))
    (h7 : x7 = m ((c.tc : Thread Cert.Kernel2Ideal.nD Cert.Kernel2Ideal.τ).loc Cert.Kernel2Ideal.main_arg7)) :
    R_main_v36 (it x0 x1 x2 x3 x4 x5 x6 x7 64) = Cert.Kernel2Ideal.Chain.arrG m c := by
  subst h0 h1 h2 h3 h4 h5 h6 h7
  funext i
  idx_vars i
  exact result_G _ _ _ _ _ _ _ _ i1 i0 i2 i3

end equalB

/-- The reference's loop states, from its memory. -/
def statesB (m' : (ℓ : Loc Cert.Reference2Ideal.nD Cert.Reference2Ideal.τ Cert.Reference2Ideal.sig) → Buf (Elt Ideal) ℓ) (c : Dev Cert.Reference2Ideal.nD) : ℕ → Cert.Reference2Ideal.Step.State Ideal :=
  Cert.Reference2Ideal.Scan.it (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))

theorem frameB : Cert.quiescent_Reference2Ideal (hReference2Ideal := Cert.Reference2Ideal.Gen.facts) := fun m ρ _ =>
  (θ_run Cert.Reference2Ideal.defs _ _).mono (fun r h => ⟨fun c => (h c).2.2.2.2.2.2, Idealize.ShloMosaic.sem_eq_zero_of_no_sems (by decide) r.2⟩)
    (Cert.Reference2Ideal.Value.run (F := Ideal) m ρ)

theorem algebraicB : Cert.algebraic_Kernel2Ideal_Reference2Ideal (hKernel2Ideal := Cert.Kernel2Ideal.Gen.facts) (hReference2Ideal := Cert.Reference2Ideal.Gen.facts) := fun m g m' g' _ hm =>
  ⟨fun c => Cert.Kernel2Ideal.Chain.arrQ m c, fun c => Cert.Kernel2Ideal.Chain.arrK m c, fun c => Cert.Kernel2Ideal.Chain.arrE m c, fun c => Cert.Kernel2Ideal.Chain.arrW m c, fun c => Cert.Kernel2Ideal.Chain.arrA m c, fun c => Cert.Kernel2Ideal.Chain.arrG m c,
    (θ_run Cert.Kernel2Ideal.defs _ _).mono (fun _ h c => ⟨(h c).1.trans (Cert.Kernel2Ideal.Chain.finalQ m c), (h c).2.1.trans (Cert.Kernel2Ideal.Chain.finalK m c), (h c).2.2.1.trans (Cert.Kernel2Ideal.Chain.finalE m c), (h c).2.2.2.1.trans (Cert.Kernel2Ideal.Chain.finalW m c), (h c).2.2.2.2.1.trans (Cert.Kernel2Ideal.Chain.finalA m c), (h c).2.2.2.2.2.1.trans (Cert.Kernel2Ideal.Chain.finalG m c), (h c).2.2.2.2.2.2⟩) (Cert.Kernel2Ideal.Value.run_blocks m g),
    (θ_run Cert.Reference2Ideal.defs _ _).mono (fun _ h c => ⟨(h c).1.trans (equalB_0 m c _ _ _ _ _ _ _ _ (hm c).1 (hm c).2.1 (hm c).2.2.1 (hm c).2.2.2.1 (hm c).2.2.2.2.1 (hm c).2.2.2.2.2.1 (hm c).2.2.2.2.2.2.1 (hm c).2.2.2.2.2.2.2), (h c).2.1.trans (equalB_1 m c _ _ _ _ _ _ _ _ (hm c).1 (hm c).2.1 (hm c).2.2.1 (hm c).2.2.2.1 (hm c).2.2.2.2.1 (hm c).2.2.2.2.2.1 (hm c).2.2.2.2.2.2.1 (hm c).2.2.2.2.2.2.2), (h c).2.2.1.trans (equalB_2 m c _ _ _ _ _ _ _ _ (hm c).1 (hm c).2.1 (hm c).2.2.1 (hm c).2.2.2.1 (hm c).2.2.2.2.1 (hm c).2.2.2.2.2.1 (hm c).2.2.2.2.2.2.1 (hm c).2.2.2.2.2.2.2), (h c).2.2.2.1.trans (equalB_3 m c _ _ _ _ _ _ _ _ (hm c).1 (hm c).2.1 (hm c).2.2.1 (hm c).2.2.2.1 (hm c).2.2.2.2.1 (hm c).2.2.2.2.2.1 (hm c).2.2.2.2.2.2.1 (hm c).2.2.2.2.2.2.2), (h c).2.2.2.2.1.trans (equalB_4 m c _ _ _ _ _ _ _ _ (hm c).1 (hm c).2.1 (hm c).2.2.1 (hm c).2.2.2.1 (hm c).2.2.2.2.1 (hm c).2.2.2.2.2.1 (hm c).2.2.2.2.2.2.1 (hm c).2.2.2.2.2.2.2), (h c).2.2.2.2.2.1.trans (equalB_5 m c _ _ _ _ _ _ _ _ (hm c).1 (hm c).2.1 (hm c).2.2.1 (hm c).2.2.2.1 (hm c).2.2.2.2.1 (hm c).2.2.2.2.2.1 (hm c).2.2.2.2.2.2.1 (hm c).2.2.2.2.2.2.2), (h c).2.2.2.2.2.2⟩) (Cert.Reference2Ideal.StepRun.run_iter (F := Ideal) m' g' (statesB m') (fun _ => rfl) (fun _ _ => rfl))⟩

end Cert.Proof

end
-- ==== Proof.Product3.lean ====
/- The gradient of the input projection with respect to its input. -/
module

public import proofs.«01_k».proof.Defs
public import proofs.«01_k».proof.Proof.Gen.Kernel3Ideal.Frame
public import proofs.«01_k».proof.Proof.Gen.Kernel3Ideal.Value
public import proofs.«01_k».proof.Proof.Gen.Kernel3Ideal
public import proofs.«01_k».proof.Proof.Gen.Reference3Ideal
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Prod

open Cert.Kernel3Ideal Cert.Kernel3Ideal.Gen

variable (m : (ℓ : Loc nD τ sig) → Buf (Elt Ideal) ℓ)

/-- Rows against rows. -/
def prod (x0 : S4096x7424.Idx → EReal) (x1 : S2048x7424.Idx → EReal) : S4096x2048.Idx → EReal := fun i => ∑ k : Fin 7424, x0 (ix2 (i 0) k) * x1 (ix2 (i 1) k)

theorem idx : ∀ t : Fin cfg0.N, win0_0.index t = ![t.val % 16, 0] ∧ win0_1.index t = ![t.val / 16, 0] ∧ win0_2.index t = ![t.val % 16, t.val / 16] :=
  (by decide +kernel : ∀ t : Fin grid0.N, _)

/-- The array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold prod
  pointwise [k0_pay1]
  blk_point [iblk, V, idx t]

end Cert.Kernel3Ideal.Prod

namespace Cert.Reference3Ideal.Prod

open Cert.Reference3Ideal Cert.Reference3Ideal.Gen

/-- The reference's term is the same product. -/
theorem term (x0 : FVec Ideal S4096x7424 .bf16) (x1 : FVec Ideal S2048x7424 .bf16) :
    Host.dotGeneral dot_S4096x7424_S2048x7424_S4096x2048_1_1_0_0_n_n none (extf .f32 x0 bitsLt_bf16_f32) (extf .f32 x1 bitsLt_bf16_f32) = Cert.Kernel3Ideal.Prod.prod x0 x1 := by
  funext i
  idx_vars i
  unfold Cert.Kernel3Ideal.Prod.prod
  pointwise

end Cert.Reference3Ideal.Prod

namespace Cert.Proof

theorem frameR3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic3 : Cert.algebraic_Kernel3Ideal_Reference3Ideal (hKernel3Ideal := Cert.Kernel3Ideal.Gen.facts) (hReference3Ideal := Cert.Reference3Ideal.Gen.facts) := fun m g m' g' _ hm =>
  ⟨fun c => Cert.Kernel3Ideal.Prod.prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun _ h c => ⟨(h c).1.trans (Cert.Kernel3Ideal.Prod.final m c), (h c).2⟩) (Cert.Kernel3Ideal.Value.run_blocks m g),
    (θ_run Cert.Reference3Ideal.defs _ _).mono (fun _ h c => ⟨(h c).1.trans ((Cert.Reference3Ideal.Prod.term _ _).trans (by rw [(hm c).1, (hm c).2])), (h c).2⟩)
      (Cert.Reference3Ideal.Value.run (F := Ideal) m' g')⟩

end Cert.Proof

end
-- ==== Proof.Product4.lean ====
/- The gradient of the output projection with respect to its input. -/
module

public import proofs.«01_k».proof.Defs
public import proofs.«01_k».proof.Proof.Gen.Kernel4Ideal.Frame
public import proofs.«01_k».proof.Proof.Gen.Kernel4Ideal.Value
public import proofs.«01_k».proof.Proof.Gen.Kernel4Ideal
public import proofs.«01_k».proof.Proof.Gen.Reference4Ideal
public import proofs.«01_k».proof.Proof.Gen.Reference4Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Prod

open Cert.Kernel4Ideal Cert.Kernel4Ideal.Gen

variable (m : (ℓ : Loc nD τ sig) → Buf (Elt Ideal) ℓ)

/-- Rows against rows. -/
def prod (x0 : S4096x2048.Idx → EReal) (x1 : S2048x2048.Idx → EReal) : S4096x2048.Idx → EReal := fun i => ∑ k : Fin 2048, x0 (ix2 (i 0) k) * x1 (ix2 (i 1) k)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold prod
  pointwise [k0_pay1]
  blk_point [iblk, V, idx t]

end Cert.Kernel4Ideal.Prod

namespace Cert.Reference4Ideal.Prod

open Cert.Reference4Ideal Cert.Reference4Ideal.Gen

/-- The reference's term is the same product. -/
theorem term (x0 : FVec Ideal S4096x2048 .bf16) (x1 : FVec Ideal S2048x2048 .bf16) :
    Host.dotGeneral dot_S4096x2048_S2048x2048_S4096x2048_1_1_0_0_n_n none (extf .f32 x0 bitsLt_bf16_f32) (extf .f32 x1 bitsLt_bf16_f32) = Cert.Kernel4Ideal.Prod.prod x0 x1 := by
  funext i
  idx_vars i
  unfold Cert.Kernel4Ideal.Prod.prod
  pointwise

end Cert.Reference4Ideal.Prod

namespace Cert.Proof

theorem frameR4 : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic4 : Cert.algebraic_Kernel4Ideal_Reference4Ideal (hKernel4Ideal := Cert.Kernel4Ideal.Gen.facts) (hReference4Ideal := Cert.Reference4Ideal.Gen.facts) := fun m g m' g' _ hm =>
  ⟨fun c => Cert.Kernel4Ideal.Prod.prod (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun _ h c => ⟨(h c).1.trans (Cert.Kernel4Ideal.Prod.final m c), (h c).2⟩) (Cert.Kernel4Ideal.Value.run_blocks m g),
    (θ_run Cert.Reference4Ideal.defs _ _).mono (fun _ h c => ⟨(h c).1.trans ((Cert.Reference4Ideal.Prod.term _ _).trans (by rw [(hm c).1, (hm c).2])), (h c).2⟩)
      (Cert.Reference4Ideal.Value.run (F := Ideal) m' g')⟩

end Cert.Proof

end
-- ==== Proof.Product5.lean ====
/- The gradient of the output projection with respect to its weights. -/
module

public import proofs.«01_k».proof.Defs
public import proofs.«01_k».proof.Proof.Gen.Kernel5Ideal.Frame
public import proofs.«01_k».proof.Proof.Gen.Kernel5Ideal.Value
public import proofs.«01_k».proof.Proof.Gen.Kernel5Ideal
public import proofs.«01_k».proof.Proof.Gen.Reference5Ideal
public import proofs.«01_k».proof.Proof.Gen.Reference5Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Prod

open Cert.Kernel5Ideal Cert.Kernel5Ideal.Gen

variable (m : (ℓ : Loc nD τ sig) → Buf (Elt Ideal) ℓ)

/-- The two groups of rows, one under the other, against the columns. -/
def prod (x0 : S1024x4096.Idx → EReal) (x1 : S1024x4096.Idx → EReal) (x2 : S4096x2048.Idx → EReal) : S2048x2048.Idx → EReal := fun i => ∑ k : Fin 4096, (if h : (i 0).val < 1024 then x0 (ix2 ⟨(i 0).val, h⟩ k) else x1 (ix2 ⟨(i 0).val - 1024, by have : (i 0).val < 2048 := (i 0).isLt; omega⟩ k)) * x2 (ix2 k (i 1))

theorem idx : ∀ t : Fin cfg0.N, (t.val < 4 → win0_0.index t = ![t.val / 2, 0]) ∧ (¬t.val < 4 → win0_1.index t = ![t.val / 2 - 2, 0]) ∧ win0_2.index t = ![0, t.val % 2] ∧ win0_3.index t = ![t.val / 2, t.val % 2] :=
  (by decide +kernel : ∀ t : Fin grid0.N, _)

/-- The array after the run. -/
theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have hr : (((cfg0.win 3).blk t).view.emb (ix2 y0 y1) 0).val = t.val / 2 * 512 + y0.val := by
    blk_simp [idx t]
  unfold prod
  by_cases h0 : t.val < 4
  · rw [outsAt0_A m c t h0 (by omega)]
    frame_out
    pointwise [k0_pay1]
    refine Finset.sum_congr (M := EReal) rfl fun x _ => ?_
    rw [dif_pos (hr.trans_lt (by omega))]
    have h3 := (idx t).2.2.2
    have h2 := (idx t).2.2.1
    have h1 := (idx t).1 h0
    blk_point [iblk, V, h1, h2, h3]
  · rw [outsAt0_B m c t h0 (by omega)]
    frame_out
    pointwise [k0_pay2]
    refine Finset.sum_congr (M := EReal) rfl fun x _ => ?_
    rw [dif_neg (fun h => absurd (hr.symm.trans_lt h) (by omega))]
    have h3 := (idx t).2.2.2
    have h2 := (idx t).2.2.1
    have h1 := (idx t).2.1 h0
    blk_point [iblk, V, h1, h2, h3]

end Cert.Kernel5Ideal.Prod

namespace Cert.Reference5Ideal.Prod

open Cert.Reference5Ideal Cert.Reference5Ideal.Gen

/-- The reference's term is the same product. -/
theorem term (x0 : FVec Ideal S1024x4096 .bf16) (x1 : FVec Ideal S1024x4096 .bf16) (x2 : FVec Ideal S4096x2048 .bf16) :
    truncf .bf16 (transpose S2048x2048 [1, 0] (Host.dotGeneral dot_S4096x2048_S4096x2048_S2048x2048_0_0_1_1_n_n none (extf .f32 x2 bitsLt_bf16_f32) (concatenate S4096x2048 1 [⟨S4096x1024, (extf .f32 (transpose S4096x1024 [1, 0] x0 transposes_S1024x4096_S4096x1024_1_0) bitsLt_bf16_f32)⟩, ⟨S4096x1024, (extf .f32 (transpose S4096x1024 [1, 0] x1 transposes_S1024x4096_S4096x1024_1_0) bitsLt_bf16_f32)⟩] concatenates_S4096x1024_S4096x1024_S4096x2048_d1)) transposes_S2048x2048_S2048x2048_1_0) bitsLt_bf16_f32 = Cert.Kernel5Ideal.Prod.prod x0 x1 x2 := by
  funext i
  idx_vars i
  unfold Cert.Kernel5Ideal.Prod.prod
  pointwise
  exact Finset.sum_congr rfl fun _ _ => mul_comm _ _

end Cert.Reference5Ideal.Prod

namespace Cert.Proof

theorem frameR5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic5 : Cert.algebraic_Kernel5Ideal_Reference5Ideal (hKernel5Ideal := Cert.Kernel5Ideal.Gen.facts) (hReference5Ideal := Cert.Reference5Ideal.Gen.facts) := fun m g m' g' _ hm =>
  ⟨fun c => Cert.Kernel5Ideal.Prod.prod (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun _ h c => ⟨(h c).1.trans (Cert.Kernel5Ideal.Prod.final m c), (h c).2⟩) (Cert.Kernel5Ideal.Value.run_blocks m g),
    (θ_run Cert.Reference5Ideal.defs _ _).mono (fun _ h c => ⟨(h c).1.trans ((Cert.Reference5Ideal.Prod.term _ _ _).trans (by rw [(hm c).1, (hm c).2.1, (hm c).2.2])), (h c).2⟩)
      (Cert.Reference5Ideal.Value.run (F := Ideal) m' g')⟩

end Cert.Proof

end
-- ==== Proof.Product6.lean ====
/- The input projection. -/
module

public import proofs.«01_k».proof.Defs
public import proofs.«01_k».proof.Proof.Gen.Kernel6Ideal.Frame
public import proofs.«01_k».proof.Proof.Gen.Kernel6Ideal.Value
public import proofs.«01_k».proof.Proof.Gen.Kernel6Ideal
public import proofs.«01_k».proof.Proof.Gen.Reference6Ideal
public import proofs.«01_k».proof.Proof.Gen.Reference6Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Prod

open Cert.Kernel6Ideal Cert.Kernel6Ideal.Gen

variable (m : (ℓ : Loc nD τ sig) → Buf (Elt Ideal) ℓ)

/-- Rows against the first 7168 columns. -/
def prod (x0 : S4096x2048.Idx → EReal) (x1 : S2048x7424.Idx → EReal) : S4096x7168.Idx → EReal := fun i => ∑ k : Fin 2048, x0 (ix2 (i 0) k) * x1 (ix2 k (⟨(i 1).val, by have : (i 1).val < 7168 := (i 1).isLt; omega⟩ : Fin 7424))

theorem idx : ∀ t : Fin cfg0.N, win0_0.index t = ![t.val / 14, 0] ∧ win0_1.index t = ![0, t.val % 14] ∧ win0_2.index t = ![t.val / 14, t.val % 14] :=
  (by decide +kernel : ∀ t : Fin grid0.N, _)

/-- The block of weights that a step reads: its columns lie inside the array, so no entry of it is filled in. -/
theorem right (c : Dev nD) (t : Fin cfg0.N) (x : Fin 2048) (y : Fin 512) :
    X0_1 m c t (ix2 x y) = m ((c : Thread nD τ).loc main_arg1)
      (ix2 x (⟨t.val % 14 * 512 + y.val, by omega⟩ : Fin 7424)) := by
  unfold X0_1 Pipeline.Window.fill
  rw [dif_pos (moved0_1 t _)]
  blk_point [iblk, V, idx t]

/-- The array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0 out0_A_2
  frame_out
  idx_vars y
  unfold prod
  pointwise [k0_pay1]
  simp only [right]
  blk_point [iblk, V, idx t]

end Cert.Kernel6Ideal.Prod

namespace Cert.Reference6Ideal.Prod

open Cert.Reference6Ideal Cert.Reference6Ideal.Gen

/-- The reference's term is the same product. -/
theorem term (x0 : FVec Ideal S4096x2048 .bf16) (x1 : FVec Ideal S2048x7424 .bf16) :
    Host.dotGeneral dot_S4096x2048_S2048x7168_S4096x7168_1_0_0_1_n_n none (extf .f32 x0 bitsLt_bf16_f32) (extf .f32 (extractStridedSlice S2048x7168 ![0, 0] x1 slices_S2048x7424_S2048x7168_0_0) bitsLt_bf16_f32) = Cert.Kernel6Ideal.Prod.prod x0 x1 := by
  funext i
  idx_vars i
  unfold Cert.Kernel6Ideal.Prod.prod
  pointwise

end Cert.Reference6Ideal.Prod

namespace Cert.Proof

theorem frameR6 : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic6 : Cert.algebraic_Kernel6Ideal_Reference6Ideal (hKernel6Ideal := Cert.Kernel6Ideal.Gen.facts) (hReference6Ideal := Cert.Reference6Ideal.Gen.facts) := fun m g m' g' _ hm =>
  ⟨fun c => Cert.Kernel6Ideal.Prod.prod (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun _ h c => ⟨(h c).1.trans (Cert.Kernel6Ideal.Prod.final m c), (h c).2⟩) (Cert.Kernel6Ideal.Value.run_blocks m g),
    (θ_run Cert.Reference6Ideal.defs _ _).mono (fun _ h c => ⟨(h c).1.trans ((Cert.Reference6Ideal.Prod.term _ _).trans (by rw [(hm c).1, (hm c).2])), (h c).2⟩)
      (Cert.Reference6Ideal.Value.run (F := Ideal) m' g')⟩

end Cert.Proof

end
-- ==== Proof.Product7.lean ====
/- The output projection with the loss, and the loss's gradient. -/
module

public import proofs.«01_k».proof.Defs
public import proofs.«01_k».proof.Proof.Gen.Kernel7Ideal.Frame
public import proofs.«01_k».proof.Proof.Gen.Kernel7Ideal.Value
public import proofs.«01_k».proof.Proof.Gen.Kernel7Ideal
public import proofs.«01_k».proof.Proof.Gen.Reference7Ideal
public import proofs.«01_k».proof.Proof.Gen.Reference7Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference7Ideal.Prod

open Cert.Reference7Ideal Cert.Reference7Ideal.Gen

/-- The stream after the output projection, at one row and column. -/
def hid (a b : FVec Ideal S4096x1024 .bf16) (w : FVec Ideal S2048x2048 .bf16) (x : FVec Ideal S4096x2048 .f32) (i : Fin 4096) (k : Fin 2048) : EReal :=
  x (ix2 i k) + (∑ p : Fin 1024, a (ix2 i p) * w (ix2 ⟨p.val, by omega⟩ k) + ∑ p : Fin 1024, b (ix2 i p) * w (ix2 ⟨1024 + p.val, by omega⟩ k))

theorem hid_eq (a b : FVec Ideal S4096x1024 .bf16) (w : FVec Ideal S2048x2048 .bf16) (x : FVec Ideal S4096x2048 .f32) (i : Fin 4096) (k : Fin 2048) :
    x (ix2 i k) + (∑ p : Fin 1024, a (ix2 i p) * w (ix2 ⟨p.val, by omega⟩ k) + ∑ p : Fin 1024, b (ix2 i p) * w (ix2 ⟨1024 + p.val, by omega⟩ k)) = hid a b w x i k := rfl

/-- The mean of a row's squares, with the norm's small term. -/
def ms (H : Fin 2048 → EReal) : EReal := Ideal.div (∑ k, H k * H k) (Ideal.ofBits .f32 0x45000000#32) + Ideal.ofBits .f32 0x358637BD#32

/-- The normed and weighted row, less the target. -/
def err (H F T : Fin 2048 → EReal) (k : Fin 2048) : EReal := H k * Ideal.rsqrt (ms H) * F k - T k

/-- The cotangent of the normed and weighted row. -/
def cot (H F T : Fin 2048 → EReal) (k : Fin 2048) : EReal :=
  Ideal.div (Ideal.ofBits .f32 0x3F000000#32) (Ideal.ofBits .f32 0x45000000#32) * (Ideal.ofBits .f32 0x40000000#32 * err H F T k)

/-- The part of a row's gradient that goes through the mean square. -/
def slope (H F T : Fin 2048 → EReal) : EReal :=
  Ideal.div ((∑ k, H k * (cot H F T k * F k)) * (Ideal.ofBits .f32 0xBF000000#32 * Ideal.div (Ideal.rsqrt (ms H)) (ms H))) (Ideal.ofBits .f32 0x45000000#32)

/-- A row's gradient. -/
def grad (H F T : Fin 2048 → EReal) (k : Fin 2048) : EReal := cot H F T k * F k * Ideal.rsqrt (ms H) + H k * slope H F T + slope H F T * H k

/-- A row's part of the loss, before it is halved. -/
def sq (H F T : Fin 2048 → EReal) : EReal := Ideal.div (∑ k, err H F T k * err H F T k) (Ideal.ofBits .f32 0x45000000#32)

/-- A row's part of the gradient of the norm's weights. -/
def gradF (H F T : Fin 2048 → EReal) (k : Fin 2048) : EReal := H k * Ideal.rsqrt (ms H) * cot H F T k

/-- The gradient of the stream. -/
def dh (a b : FVec Ideal S4096x1024 .bf16) (w : FVec Ideal S2048x2048 .bf16) (x g : FVec Ideal S4096x2048 .f32) (f : FVec Ideal S2048 .f32) : FVec Ideal S4096x2048 .f32 := fun i => grad (hid a b w x (i 0)) (fun k => f (ix1 k)) (fun k => g (ix2 (i 0) k)) (i 1)

/-- The same gradient as it is stored a second time. -/
def dhb (a b : FVec Ideal S4096x1024 .bf16) (w : FVec Ideal S2048x2048 .bf16) (x g : FVec Ideal S4096x2048 .f32) (f : FVec Ideal S2048 .f32) : FVec Ideal S4096x2048 .bf16 := fun i => grad (hid a b w x (i 0)) (fun k => f (ix1 k)) (fun k => g (ix2 (i 0) k)) (i 1)

/-- The loss, in every column. -/
def lossV (a b : FVec Ideal S4096x1024 .bf16) (w : FVec Ideal S2048x2048 .bf16) (x g : FVec Ideal S4096x2048 .f32) (f : FVec Ideal S2048 .f32) : FVec Ideal S1x128 .f32 := fun _ => Ideal.ofBits .f32 0x3F000000#32 * ∑ i : Fin 4096, sq (hid a b w x i) (fun k => f (ix1 k)) (fun k => g (ix2 i k))

/-- The gradient of the norm's weights. -/
def dfw (a b : FVec Ideal S4096x1024 .bf16) (w : FVec Ideal S2048x2048 .bf16) (x g : FVec Ideal S4096x2048 .f32) (f : FVec Ideal S2048 .f32) : FVec Ideal S1x2048 .f32 := fun j => ∑ i : Fin 4096, gradF (hid a b w x i) (fun k => f (ix1 k)) (fun k => g (ix2 i k)) (j 1)

section
variable (m : (ℓ : Loc nD τ sig) → Buf (Elt Ideal) ℓ) (c : Dev nD)

abbrev args {α : Type} (G : FVec Ideal S4096x1024 .bf16 → FVec Ideal S4096x1024 .bf16 → FVec Ideal S2048x2048 .bf16 → FVec Ideal S4096x2048 .f32 → FVec Ideal S4096x2048 .f32 → FVec Ideal S2048 .f32 → α) : α :=
  G (m (c.tc.loc main_arg0)) (m (c.tc.loc main_arg1)) (m (c.tc.loc main_arg2)) (m (c.tc.loc main_arg3)) (m (c.tc.loc main_arg4)) (m (c.tc.loc main_arg5))

open Cert.Reference7Ideal.Value

theorem dh_eq : res_main_v56 m c = args m c dh := by
  funext y
  idx_vars y
  pointwise [res_main_v56]
  simp only [hid_eq]
  simp only [args, dh, grad, cot, slope, err, ms, add_assoc, Finset.univ_unique, Finset.sum_singleton]
  rfl

theorem dhb_eq : res_main_v57 m c = args m c dhb := by
  funext y
  idx_vars y
  pointwise [res_main_v57]
  simp only [hid_eq]
  simp only [args, dhb, grad, cot, slope, err, ms, add_assoc, Finset.univ_unique, Finset.sum_singleton]
  rfl

theorem loss_eq : res_main_v58 m c = args m c lossV := by
  funext y
  idx_vars y
  pointwise [res_main_v58]
  simp only [hid_eq]
  simp only [args, lossV, sq, err, ms, Finset.univ_unique, Finset.sum_singleton]

theorem dfw_eq : res_main_v59 m c = args m c dfw := by
  funext y
  idx_vars y
  pointwise [res_main_v59]
  simp only [hid_eq]
  simp only [args, dfw, gradF, cot, err, ms, Finset.univ_unique, Finset.sum_singleton]
  rfl

end

/-- The kernel doubles by adding, the reference by the factor two. -/
theorem twice (k e : EReal) : k * e + k * e = k * (Ideal.ofBits .f32 0x40000000#32 * e) := by
  have h2 : Ideal.ofBits .f32 0x40000000#32 = ((2 : ℝ) : EReal) := by
    simp [Ideal.ofBits, Ideal.ieee, -EReal.coe_mul]; norm_num
  have h3 : ((2 : ℝ) : EReal) = 1 + 1 := by rw [← EReal.coe_one, ← EReal.coe_add]; norm_num
  rw [h2, h3, mul_left_comm, EReal.right_distrib_of_nonneg zero_le_one zero_le_one, one_mul]

/-- One half goes into a sum. -/
theorem half_sum {n : ℕ} (S : Fin n → EReal) : Ideal.ofBits .f32 0x3F000000#32 * ∑ i, S i = ∑ i, Ideal.ofBits .f32 0x3F000000#32 * S i := by
  have hh : Ideal.ofBits .f32 0x3F000000#32 = ((1 / 2 : ℝ) : EReal) := by
    simp [Ideal.ofBits, Ideal.ieee, -EReal.coe_mul]; norm_num
  have h0 : 0 ≤ Ideal.ofBits .f32 0x3F000000#32 := by rw [hh]; exact_mod_cast (by norm_num : (0 : ℝ) ≤ 1 / 2)
  have ht : Ideal.ofBits .f32 0x3F000000#32 ≠ ⊤ := by rw [hh]; exact EReal.coe_ne_top _
  induction n with
  | zero => simp only [Finset.univ_eq_empty, Finset.sum_empty, mul_zero]
  | succ n ih => rw [Fin.sum_univ_succ, Fin.sum_univ_succ, EReal.left_distrib_of_nonneg_of_ne_top h0 ht, ih]

end Cert.Reference7Ideal.Prod

namespace Cert.Kernel7Ideal.Prod

open Cert.Kernel7Ideal Cert.Kernel7Ideal.Gen
open Cert.Reference7Ideal.Prod (hid ms err cot slope grad sq gradF dh dhb lossV dfw twice half_sum)

section
variable (v0 v3 : FVec Ideal S256x1024 .bf16) (v1 v4 : FVec Ideal S1024x2048 .bf16) (v7 v8 : FVec Ideal S256x2048 .f32) (v9 : FVec Ideal S1x2048 .f32)
  (l : Fin 256) (H F T : Fin 2048 → EReal) (hH : ∀ k, k0_pay4 (F := Ideal) v0 v1 v3 v4 v7 (ix2 l k) = H k) (hF : ∀ k, v9 (ix2 0 k) = F k) (hT : ∀ k, v8 (ix2 l k) = T k)

include hH in
theorem ms_pay (j : Fin 1) : k0_pay5 (F := Ideal) v0 v1 v3 v4 v7 (ix2 l j) = ms H := by
  pointwise [k0_pay5]
  simp only [hH]
  rfl

include hH hF hT in
theorem err_pay (k : Fin 2048) : k0_pay9 (F := Ideal) v0 v1 v3 v4 v7 v8 v9 (ix2 l k) = err H F T k := by
  pointwise [k0_pay9, k0_pay8, k0_pay6, k0_pay3]
  simp only [hH, hF, hT, ms_pay v0 v3 v1 v4 v7 l H hH]
  rfl

include hH hF hT in
theorem cot_pay (k : Fin 2048) : k0_pay11 (F := Ideal) (k0_pay9 v0 v1 v3 v4 v7 v8 v9) (ix2 l k) = cot H F T k := by
  pointwise [k0_pay11]
  simp only [err_pay v0 v3 v1 v4 v7 v8 v9 l H F T hH hF hT, Finset.univ_unique, Finset.sum_singleton]
  rw [mul_comm (err H F T k), twice]
  rfl

include hH hF hT in
theorem grad_pay (k : Fin 2048) : k0_pay13 (F := Ideal) (k0_pay3 v9) (k0_pay4 v0 v1 v3 v4 v7) (k0_pay6 v0 v1 v3 v4 v7) (k0_pay7 v0 v1 v3 v4 v7)
    (k0_pay9 v0 v1 v3 v4 v7 v8 v9) (ix2 l k) = grad H F T k := by
  pointwise [k0_pay13, k0_pay7, k0_pay6, k0_pay3]
  simp only [hH, hF, hT, ms_pay v0 v3 v1 v4 v7 l H hH, cot_pay v0 v3 v1 v4 v7 v8 v9 l H F T hH hF hT, Finset.univ_unique, Finset.sum_singleton]
  rfl

include hH hF hT in
theorem sq_pay : Ideal.div (∑ k : Fin 2048, k0_pay9 (F := Ideal) v0 v1 v3 v4 v7 v8 v9 (ix2 l k) * k0_pay9 (F := Ideal) v0 v1 v3 v4 v7 v8 v9 (ix2 l k)) (Ideal.ofBits .f32 0x45000000#32) = sq H F T := by
  simp only [err_pay v0 v3 v1 v4 v7 v8 v9 l H F T hH hF hT]
  rfl

include hH hF hT in
theorem gradF_pay (k : Fin 2048) : k0_pay8 (F := Ideal) v0 v1 v3 v4 v7 (ix2 l k) * k0_pay11 (F := Ideal) (k0_pay9 v0 v1 v3 v4 v7 v8 v9) (ix2 l k) = gradF H F T k := by
  rw [cot_pay v0 v3 v1 v4 v7 v8 v9 l H F T hH hF hT]
  pointwise [k0_pay8, k0_pay6]
  simp only [hH, ms_pay v0 v3 v1 v4 v7 l H hH]
  rfl

end

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] :=
  (by decide +kernel : ∀ t : Fin grid0.N, _)

theorem lt16 (t : Fin cfg0.N) : t.val < 16 := lt_of_lt_of_eq t.isLt N_0

/-- The row of the whole array that is row `l` of block `t`. -/
abbrev row (t : Fin cfg0.N) (l : Fin 256) : Fin 4096 := ⟨t.val * 256 + l.val, by have := lt16 t; omega⟩

abbrev args {α : Type} (G : FVec Ideal S4096x1024 .bf16 → FVec Ideal S4096x1024 .bf16 → FVec Ideal S2048x2048 .bf16 → FVec Ideal S4096x2048 .f32 → FVec Ideal S4096x2048 .f32 → FVec Ideal S2048 .f32 → α) (c : Dev nD) : α :=
  G (m (c.tc.loc main_arg0)) (m (c.tc.loc main_arg1)) (m (c.tc.loc main_arg2)) (m (c.tc.loc main_arg3)) (m (c.tc.loc main_arg4)) (m (c.tc.loc main_arg5))

abbrev hidB (c : Dev nD) (t : Fin cfg0.N) : FVec Ideal S256x2048 .f32 :=
  k0_pay4 (iblk m c 0 t) (View.ld (iblk m c 2 t) (Rect.unit ![0, 0] ![1024, 2048] inb_S2048x2048_S1024x2048_0_0)) (iblk m c 1 t)
    (View.ld (iblk m c 2 t) (Rect.unit ![1024, 0] ![1024, 2048] inb_S2048x2048_S1024x2048_1024_0)) (iblk m c 3 t)

theorem hidB_eq (c : Dev nD) (t : Fin cfg0.N) (l : Fin 256) (k : Fin 2048) : hidB m c t (ix2 l k) = args m (fun a b w x g f => hid a b w x (row t l) k) c := by
  simp only [hidB, args]
  unfold hid
  pointwise [k0_pay4]
  blk_point [iblk, V, idx t]

theorem fwB_eq (c : Dev nD) (t : Fin cfg0.N) (k : Fin 2048) : (show FVec Ideal S1x2048 .f32 from iblk m c 5 t) (ix2 0 k) = args m (fun a b w x g f => f (ix1 k)) c := by
  simp only [args]
  blk_point [iblk, V, idx t]

theorem tgtB_eq (c : Dev nD) (t : Fin cfg0.N) (l : Fin 256) (k : Fin 2048) : (show FVec Ideal S256x2048 .f32 from iblk m c 4 t) (ix2 l k) = args m (fun a b w x g f => g (ix2 (row t l) k)) c := by
  simp only [args]
  blk_point [iblk, V, idx t]

theorem block (c : Dev nD) (t : Fin cfg0.N) (l : Fin 256) (k : Fin 2048) :
    k0_pay13 (k0_pay3 (iblk m c 5 t)) (hidB m c t)
      (k0_pay6 (iblk m c 0 t) (View.ld (iblk m c 2 t) (Rect.unit ![0, 0] ![1024, 2048] inb_S2048x2048_S1024x2048_0_0)) (iblk m c 1 t)
        (View.ld (iblk m c 2 t) (Rect.unit ![1024, 0] ![1024, 2048] inb_S2048x2048_S1024x2048_1024_0)) (iblk m c 3 t))
      (k0_pay7 (iblk m c 0 t) (View.ld (iblk m c 2 t) (Rect.unit ![0, 0] ![1024, 2048] inb_S2048x2048_S1024x2048_0_0)) (iblk m c 1 t)
        (View.ld (iblk m c 2 t) (Rect.unit ![1024, 0] ![1024, 2048] inb_S2048x2048_S1024x2048_1024_0)) (iblk m c 3 t))
      (k0_pay9 (iblk m c 0 t) (View.ld (iblk m c 2 t) (Rect.unit ![0, 0] ![1024, 2048] inb_S2048x2048_S1024x2048_0_0)) (iblk m c 1 t)
        (View.ld (iblk m c 2 t) (Rect.unit ![1024, 0] ![1024, 2048] inb_S2048x2048_S1024x2048_1024_0)) (iblk m c 3 t) (iblk m c 4 t) (iblk m c 5 t))
      (ix2 l k) = args m dh c (ix2 (row t l) k) :=
  grad_pay _ _ _ _ _ _ _ l _ _ _ (hidB_eq m c t l) (fwB_eq m c t) (tgtB_eq m c t l) k

theorem final6 (c : Dev nD) : (dats m 0 c).arrAt 6 cfg0.N = args m dh c := by
  refine (dats m 0 c).arrAt_eq_of_covers 6 _ (by decide +kernel) fun t hf y => ?_
  blk_simp
  rw [after0_6]
  have key : ∀ y, (outsAt0 m c t.val t.isLt).1 y = args m dh c (((cfg0.win 6).blk t).view.emb y) := by
    intro y
    by_cases h0 : t.val % 16 = 0
    · rw [outsAt0_A m c t h0 (by have := lt16 t; omega)]
      frame_out
      idx_vars y
      refine (block m c t y0 y1).trans ?_
      blk_point [idx t]
    · rw [outsAt0_B m c t h0 (by omega)]
      frame_out
      idx_vars y
      refine (block m c t y0 y1).trans ?_
      blk_point [idx t]
  exact key y

theorem final7 (c : Dev nD) : (dats m 0 c).arrAt 7 cfg0.N = args m dhb c := by
  refine (dats m 0 c).arrAt_eq_of_covers 7 _ (by decide +kernel) fun t hf y => ?_
  blk_simp
  rw [after0_7]
  have key : ∀ y, (outsAt0 m c t.val t.isLt).2.1 y = args m dhb c (((cfg0.win 7).blk t).view.emb y) := by
    intro y
    by_cases h0 : t.val % 16 = 0
    · rw [outsAt0_A m c t h0 (by have := lt16 t; omega)]
      frame_out
      idx_vars y
      pointwise [k0_pay14]
      refine (block m c t y0 y1).trans ?_
      blk_point [idx t]
    · rw [outsAt0_B m c t h0 (by omega)]
      frame_out
      idx_vars y
      pointwise [k0_pay14]
      refine (block m c t y0 y1).trans ?_
      blk_point [idx t]
  exact key y

/-- A block's part of the loss. -/
theorem lossPart (c : Dev nD) (t : Fin cfg0.N) (j) :
    k0_pay15 (k0_pay10 (iblk m c 0 t) (View.ld (iblk m c 2 t) (Rect.unit ![0, 0] ![1024, 2048] inb_S2048x2048_S1024x2048_0_0)) (iblk m c 1 t)
        (View.ld (iblk m c 2 t) (Rect.unit ![1024, 0] ![1024, 2048] inb_S2048x2048_S1024x2048_1024_0)) (iblk m c 3 t) (iblk m c 4 t) (iblk m c 5 t))
      (FloatOps.ofBits FTy.f32 0x3F000000#32) j
      = ∑ l : Fin 256, Ideal.ofBits .f32 0x3F000000#32 * args m (fun a b w x g f => sq (hid a b w x (row t l)) (fun k => f (ix1 k)) (fun k => g (ix2 (row t l) k))) c := by
  idx_vars j
  rw [← half_sum]
  pointwise [k0_pay15, k0_pay10]
  refine congrArg _ (Finset.sum_congr (M := EReal) rfl fun l _ => ?_)
  exact sq_pay _ _ _ _ _ _ _ l _ _ _ (hidB_eq m c t l) (fwB_eq m c t) (tgtB_eq m c t l)

theorem lossStep (v79 v86 : FVec Ideal S1x128 .f32) (j) : k0_pay1 v79 v86 j = v86 j + v79 j := by
  pointwise [k0_pay1]

theorem final8 (c : Dev nD) : (dats m 0 c).arrAt 8 cfg0.N = args m lossV c := by
  refine (dats m 0 c).arrAt_eq_of_after_last 8 t0_15 (by decide +kernel) _ fun j => ?_
  blk_simp
  idx_vars j
  rw [after0_8, Pipeline.eq_sum_fin_of_reset_step_apply_last (fun n h => (outsAt0 m c n h).2.2.1) 16 (fun _ => 0)
    (fun p j => ∑ l : Fin 256, Ideal.ofBits .f32 0x3F000000#32 * args m (fun a b w x g f => sq (hid a b w x (row p l)) (fun k => f (ix1 k)) (fun k => g (ix2 (row p l) k))) c)
    (fun t h j => by
      rw [outsAt0_A m c t h (by have := lt16 t; omega)]; frame_out; exact (lossPart m c t _).trans (zero_add _).symm)
    (fun t h j => by
      rw [outsAt0_B m c t h (by omega)]; frame_out; exact (lossStep _ _ _).trans (congrArg _ (lossPart m c t _)))
    (le_of_eq N_0) t0_15 rfl _, zero_add]
  simp only [args, lossV]
  rw [half_sum]
  refine Fin.sum_mul_add_congr fun p l hl => ?_
  rfl

/-- A block's part of the gradient of the weights. -/
theorem dfwPart (c : Dev nD) (t : Fin cfg0.N) (j : Fin 1) (k : Fin 2048) :
    k0_pay12
        (k0_pay8 (iblk m c 0 t) (View.ld (iblk m c 2 t) (Rect.unit ![0, 0] ![1024, 2048] inb_S2048x2048_S1024x2048_0_0)) (iblk m c 1 t)
          (View.ld (iblk m c 2 t) (Rect.unit ![1024, 0] ![1024, 2048] inb_S2048x2048_S1024x2048_1024_0)) (iblk m c 3 t))
        (k0_pay9 (iblk m c 0 t) (View.ld (iblk m c 2 t) (Rect.unit ![0, 0] ![1024, 2048] inb_S2048x2048_S1024x2048_0_0)) (iblk m c 1 t)
          (View.ld (iblk m c 2 t) (Rect.unit ![1024, 0] ![1024, 2048] inb_S2048x2048_S1024x2048_1024_0)) (iblk m c 3 t) (iblk m c 4 t) (iblk m c 5 t)) (ix2 j k)
      = ∑ l : Fin 256, args m (fun a b w x g f => gradF (hid a b w x (row t l)) (fun k => f (ix1 k)) (fun k => g (ix2 (row t l) k)) k) c := by
  pointwise [k0_pay12]
  refine Finset.sum_congr (M := EReal) rfl fun l _ => ?_
  exact gradF_pay _ _ _ _ _ _ _ l _ _ _ (hidB_eq m c t l) (fwB_eq m c t) (tgtB_eq m c t l) k

theorem dfwStep (v57 v90 : FVec Ideal S1x2048 .f32) (j) : k0_pay2 v57 v90 j = v90 j + v57 j := by
  pointwise [k0_pay2]

theorem final9 (c : Dev nD) : (dats m 0 c).arrAt 9 cfg0.N = args m dfw c := by
  refine (dats m 0 c).arrAt_eq_of_after_last 9 t0_15 (by decide +kernel) _ fun j => ?_
  blk_simp
  idx_vars j
  rw [after0_9, Pipeline.eq_sum_fin_of_reset_step_apply_last (fun n h => (outsAt0 m c n h).2.2.2) 16 (fun _ => 0)
    (fun p j => ∑ l : Fin 256, args m (fun a b w x g f => gradF (hid a b w x (row p l)) (fun k => f (ix1 k)) (fun k => g (ix2 (row p l) k)) (j 1)) c)
    (fun t h j => by
      rw [outsAt0_A m c t h (by have := lt16 t; omega)]; frame_out; idx_vars j; exact (dfwPart m c t _ _).trans (zero_add _).symm)
    (fun t h j => by
      rw [outsAt0_B m c t h (by omega)]; frame_out; idx_vars j; exact (dfwStep _ _ _).trans (congrArg _ (dfwPart m c t _ _)))
    (le_of_eq N_0) t0_15 rfl _, zero_add]
  simp only [args, dfw]
  refine Fin.sum_mul_add_congr fun p l hl => ?_
  rfl

end Cert.Kernel7Ideal.Prod

namespace Cert.Proof

theorem frameR7 : Cert.quiescent_Reference7Ideal (hReference7Ideal := Cert.Reference7Ideal.Gen.facts) := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)

theorem algebraic7 : Cert.algebraic_Kernel7Ideal_Reference7Ideal (hKernel7Ideal := Cert.Kernel7Ideal.Gen.facts) (hReference7Ideal := Cert.Reference7Ideal.Gen.facts) := fun m g m' g' _ hm =>
  ⟨fun c => Cert.Reference7Ideal.Prod.dh (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    fun c => Cert.Reference7Ideal.Prod.dhb (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    fun c => Cert.Reference7Ideal.Prod.lossV (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    fun c => Cert.Reference7Ideal.Prod.dfw (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    (θ_run Cert.Kernel7Ideal.defs _ _).mono (fun _ h c => ⟨(h c).1.trans (Cert.Kernel7Ideal.Prod.final6 m c), (h c).2.1.trans (Cert.Kernel7Ideal.Prod.final7 m c), (h c).2.2.1.trans (Cert.Kernel7Ideal.Prod.final8 m c), (h c).2.2.2.1.trans (Cert.Kernel7Ideal.Prod.final9 m c), (h c).2.2.2.2⟩) (Cert.Kernel7Ideal.Value.run_blocks m g),
    (θ_run Cert.Reference7Ideal.defs _ _).mono (fun _ h c => ⟨(h c).1.trans ((Cert.Reference7Ideal.Prod.dh_eq m' c).trans (show Cert.Reference7Ideal.Prod.dh (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = _ from by rw [(hm c).1, (hm c).2.1, (hm c).2.2.1, (hm c).2.2.2.1, (hm c).2.2.2.2.1, (hm c).2.2.2.2.2])),
        (h c).2.1.trans ((Cert.Reference7Ideal.Prod.dhb_eq m' c).trans (show Cert.Reference7Ideal.Prod.dhb (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = _ from by rw [(hm c).1, (hm c).2.1, (hm c).2.2.1, (hm c).2.2.2.1, (hm c).2.2.2.2.1, (hm c).2.2.2.2.2])),
        (h c).2.2.1.trans ((Cert.Reference7Ideal.Prod.loss_eq m' c).trans (show Cert.Reference7Ideal.Prod.lossV (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = _ from by rw [(hm c).1, (hm c).2.1, (hm c).2.2.1, (hm c).2.2.2.1, (hm c).2.2.2.2.1, (hm c).2.2.2.2.2])),
        (h c).2.2.2.1.trans ((Cert.Reference7Ideal.Prod.dfw_eq m' c).trans (show Cert.Reference7Ideal.Prod.dfw (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = _ from by rw [(hm c).1, (hm c).2.1, (hm c).2.2.1, (hm c).2.2.2.1, (hm c).2.2.2.2.1, (hm c).2.2.2.2.2])), (h c).2.2.2.2⟩)
      (Cert.Reference7Ideal.Value.run (F := Ideal) m' g')⟩

end Cert.Proof

end
-- ==== Proof.Product8.lean ====
/- The gradient of the input norm, with the residual added. -/
module

public import proofs.«01_k».proof.Defs
public import proofs.«01_k».proof.Proof.Gen.Kernel8Ideal.Frame
public import proofs.«01_k».proof.Proof.Gen.Kernel8Ideal.Value
public import proofs.«01_k».proof.Proof.Gen.Kernel8Ideal
public import proofs.«01_k».proof.Proof.Gen.Reference8Ideal
public import proofs.«01_k».proof.Proof.Gen.Reference8Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference8Ideal.Prod

open Cert.Reference8Ideal Cert.Reference8Ideal.Gen

/-- The gradient of the input, as the reference gives it. -/
abbrev gradX (x0 : FVec Ideal S4096x2048 .f32) (x1 : FVec Ideal S1x2048 .f32) (x2 x3 : FVec Ideal S4096x2048 .f32) : FVec Ideal S4096x2048 .f32 :=
  addf (addf (addf x3 (mulf (mulf x2 (broadcastInDim S4096x2048 ![0, 1] bcast_S1x2048_S4096x2048_0_1 x1)) (broadcastInDim S4096x2048 ![0, 1] bcast_S4096x1_S4096x2048_0_1 (Host.rsqrt (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))))))) (mulf x0 (broadcastInDim S4096x2048 ![0] bcast_S4096_S4096x2048_0 (Host.reduceAdd (Host.divf (mulf (shapeCast _ (Host.reduceAdd (mulf x0 (mulf x2 (broadcastInDim S4096x2048 ![0, 1] bcast_S1x2048_S4096x2048_0_1 x1))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x0 (mulf x2 (broadcastInDim S4096x2048 ![0, 1] bcast_S1x2048_S4096x2048_0_1 x1))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x0)

/-- The gradient of the weights, as the reference gives it. -/
abbrev gradW (x0 : FVec Ideal S4096x2048 .f32) (x1 : FVec Ideal S1x2048 .f32) (x2 x3 : FVec Ideal S4096x2048 .f32) : FVec Ideal S1x2048 .f32 :=
  shapeCast _ (Host.reduceAdd (mulf (mulf x0 (broadcastInDim S4096x2048 ![0, 1] bcast_S4096x1_S4096x2048_0_1 (Host.rsqrt (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) x2) (constant S_ .f32 0x00000000#32) reducesTo_S4096x2048_S2048_d0 h_S_) shapeCasts_S2048_S1x2048

end Cert.Reference8Ideal.Prod

namespace Cert.Kernel8Ideal.Prod

open Cert.Kernel8Ideal Cert.Kernel8Ideal.Gen

variable {α : Type} (m : (ℓ : Loc nD τ sig) → Buf (Elt Ideal) ℓ)

open Cert.Reference8Ideal.Prod (gradX gradW)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

abbrev args (F : FVec Ideal S4096x2048 .f32 → FVec Ideal S1x2048 .f32 → FVec Ideal S4096x2048 .f32 → FVec Ideal S4096x2048 .f32 → α) (c : Dev nD) : α :=
  F (m ((c : Thread nD τ).loc main_arg0)) (m ((c : Thread nD τ).loc main_arg1)) (m ((c : Thread nD τ).loc main_arg2)) (m ((c : Thread nD τ).loc main_arg3))

/-- The gradient of the input, block by block. -/
theorem point (c : Dev nD) (t : Fin cfg0.N) (y) :
    k0_pay5 (iblk m c 0 t) (iblk m c 1 t) (iblk m c 2 t) (iblk m c 3 t) y
      = args m gradX c (((cfg0.win 4).blk t).view.emb y) := by
  idx_vars y
  pointwise [k0_pay2, k0_pay3, k0_pay5, gradX]
  simp only [add_assoc]
  blk_point [iblk, V, idx t]

theorem finalX (c : Dev nD) : (dats m 0 c).arrAt 4 cfg0.N = args m gradX c := by
  refine (dats m 0 c).arrAt_eq_of_covers 4 _ (by decide +kernel) fun t hf y => ?_
  blk_simp
  rw [after0_4]
  by_cases h0 : t.val % 16 = 0
  · rw [outsAt0_A m c t h0 (by have := t.isLt; simp only [N_0] at this; omega)]
    frame_out
    exact point m c t y
  · rw [outsAt0_B m c t h0 (by omega)]
    frame_out
    exact point m c t y

/-- The part of the gradient of the weights that one block of rows gives. -/
theorem part (v0 v2 : FVec Ideal S256x2048 .f32) (j : Fin 1) (k : Fin 2048) : k0_pay4 v0 v2 (ix2 j k) = ∑ l : Fin 256, (v0 (ix2 l k) * k0_pay3 v0 (ix2 l 0)) * v2 (ix2 l k) := by
  pointwise [k0_pay4]

theorem step (v18 v45 : FVec Ideal S1x2048 .f32) (j) : k0_pay1 v18 v45 j = v45 j + v18 j := by
  pointwise [k0_pay1]

theorem finalW (c : Dev nD) : (dats m 0 c).arrAt 5 cfg0.N = args m gradW c := by
  refine (dats m 0 c).arrAt_eq_of_after_last 5 t0_15 (by decide +kernel) _ fun j => ?_
  blk_simp
  idx_vars j
  rw [after0_5, Pipeline.eq_sum_fin_of_reset_step_apply_last (fun n h => (outsAt0 m c n h).2) 16 (fun _ => 0)
    (fun p j => ∑ l : Fin 256, ((show FVec Ideal S256x2048 .f32 from iblk m c 0 p) (ix2 l (j 1)) * k0_pay3 (iblk m c 0 p) (ix2 l 0))
      * (show FVec Ideal S256x2048 .f32 from iblk m c 2 p) (ix2 l (j 1)))
    (fun t h j => by
      rw [outsAt0_A m c t h (by have := lt_of_lt_of_eq t.isLt N_0; omega)]; frame_out; idx_vars j; rw [part, zero_add])
    (fun t h j => by
      rw [outsAt0_B m c t h (by omega)]; frame_out; idx_vars j; rw [step, part])
    (le_of_eq N_0) t0_15 rfl _, zero_add]
  pointwise [gradW, k0_pay2, k0_pay3]
  refine Fin.sum_mul_add_congr fun p l hl => ?_
  blk_point [iblk, V, idx p]

end Cert.Kernel8Ideal.Prod

namespace Cert.Proof

theorem frameR8 : Cert.quiescent_Reference8Ideal (hReference8Ideal := Cert.Reference8Ideal.Gen.facts) := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

theorem algebraic8 : Cert.algebraic_Kernel8Ideal_Reference8Ideal (hKernel8Ideal := Cert.Kernel8Ideal.Gen.facts) (hReference8Ideal := Cert.Reference8Ideal.Gen.facts) := fun m g m' g' _ hm =>
  ⟨fun c => Cert.Reference8Ideal.Prod.gradX (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)),
    fun c => Cert.Reference8Ideal.Prod.gradW (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)),
    (θ_run Cert.Kernel8Ideal.defs _ _).mono (fun _ h c => ⟨(h c).1.trans (Cert.Kernel8Ideal.Prod.finalX m c), (h c).2.1.trans (Cert.Kernel8Ideal.Prod.finalW m c), (h c).2.2⟩) (Cert.Kernel8Ideal.Value.run_blocks m g),
    (θ_run Cert.Reference8Ideal.defs _ _).mono (fun _ h c => ⟨(h c).1.trans (show Cert.Reference8Ideal.Prod.gradX (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) = _ from by rw [(hm c).1, (hm c).2.1, (hm c).2.2.1, (hm c).2.2.2]),
        (h c).2.1.trans (show Cert.Reference8Ideal.Prod.gradW (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) = _ from by rw [(hm c).1, (hm c).2.1, (hm c).2.2.1, (hm c).2.2.2]), (h c).2.2⟩)
      (Cert.Reference8Ideal.Value.run (F := Ideal) m' g')⟩

end Cert.Proof

end
-- ==== Proof.Product9.lean ====
/- The gradient of the input projection's weights, by windows of columns. -/
module

public import proofs.«01_k».proof.Defs
public import proofs.«01_k».proof.Proof.Gen.Kernel9.Frame
public import proofs.«01_k».proof.Proof.Gen.Kernel9Ideal.Frame
public import proofs.«01_k».proof.Proof.Gen.Kernel9Ideal
public import proofs.«01_k».proof.Proof.Gen.Reference9Ideal
public import proofs.«01_k».proof.Proof.Gen.Reference9Ideal.Run
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9.Prod

open Cert.Kernel9 Cert.Kernel9.Gen

/-- The table's words, as the call reads them. -/
def words : pre0.Contents (Elt Bits) := fun | ⟨0, _⟩ => fun x => lit0 (S32.rowMajor x) | ⟨_ + 1, h⟩ => absurd h (by simp)

theorem tbl_eq (m : (ℓ : Loc nD τ sig) → Buf (Elt Bits) ℓ) : tbl m = words := by
  funext j
  match j with
  | ⟨0, _⟩ => rfl

theorem ok (m : (ℓ : Loc nD τ sig) → Buf (Elt Bits) ℓ) : Ok (F := Bits) m := by
  unfold Ok
  rw [tbl_eq m]
  have h : ∀ (i : grid0.Coords) a, (cc0_transform_1 k0_off1_inb numel1_S1 words i a + 1) * S4096x256.size a ≤ S4096x7424.size a := by decide +kernel
  exact fun i => ⟨h i, .inr (Affine.block_words_dvd (of_decide_eq_true rfl) (by decide))⟩

end Cert.Kernel9.Prod

namespace Cert.Reference9Ideal.Prod

open Cert.Reference9Ideal Cert.Reference9Ideal.Gen Cert.Reference9Ideal.Value

/-- The block of 256 columns that lies at place `i` of the four windows of eight. -/
def block (i : ℕ) : ℕ :=
  if i < 8 then i else if i < 13 then i - 1 else if i < 16 then i + 11 else if i < 21 then i - 4 else if i < 24 then i + 5 else i - 8

theorem block_lt (i : ℕ) (h : i < 32) : block i < 29 := by
  unfold block
  split_ifs <;> omega

/-- The column of the gradient that lies at column `k` of window `n`. -/
def col (n : Fin 4) (k : Fin 2048) : Fin 7424 :=
  ⟨256 * block (8 * n.val + k.val / 256) + k.val % 256, by have := block_lt (8 * n.val + k.val / 256) (by omega); omega⟩

/-- The gradient of the weights, its columns in the order of the four windows. -/
def grad (x0 : FVec Ideal S2048x4096 .bf16) (x1 : FVec Ideal S4096x7424 .bf16) : FVec Ideal S4x2048x2048 .bf16 :=
  fun i => ∑ p : Fin 4096, x0 (ix2 (i 1) p) * x1 (ix2 p (col (i 0) (i 2)))

theorem dite_eq_of {α : Type} {P : Prop} [Decidable P] {a : P → α} {b : ¬ P → α} {x : α} (ha : ∀ h, a h = x) (hb : ∀ h, b h = x) : dite P a b = x := by
  by_cases h : P
  · rw [dif_pos h]; exact ha h
  · rw [dif_neg h]; exact hb h

theorem pick (x0 : FVec Ideal S2048x4096 .bf16) (x1 : FVec Ideal S4096x7424 .bf16) (l : Fin 2048) (a b : Fin 7424) (h : a.val = b.val) :
    ∑ p : Fin 4096, x1 (ix2 p a) * x0 (ix2 l p) = ∑ p : Fin 4096, x0 (ix2 l p) * x1 (ix2 p b) := by
  obtain rfl := Fin.ext h
  exact Finset.sum_congr rfl fun p _ => mul_comm _ _

set_option maxHeartbeats 4000000 in
theorem res (m : (ℓ : Loc nD τ sig) → Buf (Elt Ideal) ℓ) (c : Dev nD) :
    res_main_v48 (F := Ideal) m c = grad (m (c.tc.loc main_arg0)) (m (c.tc.loc main_arg1)) := by
  funext y
  idx_vars y
  unfold res_main_v48 grad
  pointwise
  repeat' refine dite_eq_of (fun _ => ?_) (fun _ => ?_)
  all_goals exact pick _ _ _ _ _ (by dsimp only [col]; unfold block; split_ifs <;> omega)

end Cert.Reference9Ideal.Prod

namespace Cert.Kernel9Ideal.Prod

open Cert.Kernel9Ideal Cert.Kernel9Ideal.Gen

/-- The table's words, as the call reads them. -/
def words : pre0.Contents (Elt Ideal) := fun | ⟨0, _⟩ => fun x => lit0 (S32.rowMajor x) | ⟨_ + 1, h⟩ => absurd h (by simp)

theorem tbl_eq (m : (ℓ : Loc nD τ sig) → Buf (Elt Ideal) ℓ) : tbl m = words := by
  funext j
  match j with
  | ⟨0, _⟩ => rfl

theorem ok (m : (ℓ : Loc nD τ sig) → Buf (Elt Ideal) ℓ) : Ok (F := Ideal) m := by
  unfold Ok
  rw [tbl_eq m]
  have h : ∀ (i : grid0.Coords) a, (cc0_transform_1 k0_off1_inb numel1_S1 words i a + 1) * S4096x256.size a ≤ S4096x7424.size a := by decide +kernel
  exact fun i => ⟨h i, .inr (Affine.block_words_dvd (of_decide_eq_true rfl) (by decide))⟩

variable (m : (ℓ : Loc nD τ sig) → Buf (Elt Ideal) ℓ)

/-- The column block that grid point `t` takes. -/
def blk (t : Fin 32) : ℕ := (lit0 t).toNat

theorem idx0 : ∀ t : Fin grid0.N, cc0_transform_0 (grid0.coords t) = ![0, 0] := by decide +kernel
theorem idx1 : ∀ t : Fin grid0.N, cc0_transform_1 k0_off1_inb numel1_S1 words (grid0.coords t) = ![0, (lit0 ⟨t.val % 32, by omega⟩).toNat] := by decide +kernel
theorem idx2 : ∀ t : Fin grid0.N, cc0_transform_2 (grid0.coords t) = ![t.val / 8, 0, t.val % 8] := by decide +kernel

theorem index0 (t : Fin (cfgM m (ok m)).N) : ((cfgM m (ok m)).win 0).index t = ![0, 0] := idx0 t
theorem index1 (t : Fin (cfgM m (ok m)).N) : ((cfgM m (ok m)).win 1).index t = ![0, (lit0 ⟨t.val % 32, by omega⟩).toNat] := by
  refine Eq.trans ?_ (idx1 t)
  show cc0_transform_1 k0_off1_inb numel1_S1 (tbl m) (grid0.coords t) = _
  rw [tbl_eq m]
theorem index2 (t : Fin (cfgM m (ok m)).N) : ((cfgM m (ok m)).win 2).index t = ![t.val / 8, 0, t.val % 8] := idx2 t

theorem out_eq (c : Dev nD) (t : Fin (cfgM m (ok m)).N) (j : Fin 1) (l : Fin 2048) (k : Fin 256) :
    (show FVec Ideal S1x2048x256 .bf16 from outsAt0 m (ok m) c t) (ix3 j l k)
      = ∑ p : Fin 4096, (show FVec Ideal S2048x4096 .bf16 from iblk m (ok m) c 0 t) (ix2 l p) * (show FVec Ideal S4096x256 .bf16 from iblk m (ok m) c 1 t) (ix2 p k) := by
  unfold outsAt0 out0_A_2
  frame_out
  refine (congrFun (congrArg₂ k0_pay1 (Memref.IsWhole.read_unread _ _) (Memref.IsWhole.read_unread _ _)) _).trans ?_
  pointwise [k0_pay1]

theorem blk0 (c : Dev nD) (t : Fin (cfgM m (ok m)).N) (l : Fin 2048) (p : Fin 4096) :
    (show FVec Ideal S2048x4096 .bf16 from iblk m (ok m) c 0 t) (ix2 l p) = m (c.tc.loc main_arg0) (ix2 l p) := by
  blk_point [iblk, V, index0 m t]

theorem blk1 (c : Dev nD) (t : Fin (cfgM m (ok m)).N) (p : Fin 4096) (k : Fin 256) (b : ℕ) (hb : (lit0 ⟨t.val % 32, by omega⟩).toNat = b) (h : 256 * b + k.val < 7424) :
    (show FVec Ideal S4096x256 .bf16 from iblk m (ok m) c 1 t) (ix2 p k) = m (c.tc.loc main_arg1) (ix2 p ⟨256 * b + k.val, h⟩) := by
  subst hb
  blk_point [iblk, V, index1 m t]

theorem emb2 (t : Fin (cfgM m (ok m)).N) (j : Fin 1) (l : Fin 2048) (k : Fin 256) (h h') :
    ((((cfgM m (ok m)).win 2).blk t).view.emb (show S1x2048x256.Idx from ix3 j l k) : S4x2048x2048.Idx) = ix3 ⟨t.val / 8, h⟩ l ⟨256 * (t.val % 8) + k.val, h'⟩ := by
  blk_point [index2 m t]

theorem covers : ((cfgM m (ok m)).win 2).Covers :=
  ((cfgM m (ok m)).win 2).covers_of_index_surj rfl (fun a => (by decide : ∀ a : Fin 3, 0 < S1x2048x256.size a) a) fun β =>
    have h0 : (β (0 : Fin 3)).val < 4 := lt_of_lt_of_eq (β (0 : Fin 3)).isLt (show (4 + 1 - 1) / 1 = 4 from rfl)
    have h1 : (β (1 : Fin 3)).val < 1 := lt_of_lt_of_eq (β (1 : Fin 3)).isLt (show (2048 + 2048 - 1) / 2048 = 1 from rfl)
    have h2 : (β (2 : Fin 3)).val < 8 := lt_of_lt_of_eq (β (2 : Fin 3)).isLt (show (2048 + 256 - 1) / 256 = 8 from rfl)
    ⟨⟨8 * (β (0 : Fin 3)).val + (β (2 : Fin 3)).val, (by omega : _ < 32)⟩, fun a => by
      rw [index2]
      match a with
      | (0 : Fin 3) => show (_ / 8 : ℕ) = _; dsimp only; omega
      | (1 : Fin 3) => show (0 : ℕ) = _; omega
      | (2 : Fin 3) => show (_ % 8 : ℕ) = _; dsimp only; omega⟩

theorem word : ∀ i : Fin 32, (lit0 i).toNat = Cert.Reference9Ideal.Prod.block i.val := by decide +kernel

theorem point (c : Dev nD) (t : Fin (cfgM m (ok m)).N) (y : S1x2048x256.Idx) :
    (show FVec Ideal S1x2048x256 .bf16 from outsAt0 m (ok m) c t) y
      = Cert.Reference9Ideal.Prod.grad (m (c.tc.loc main_arg0)) (m (c.tc.loc main_arg1)) ((((cfgM m (ok m)).win 2).blk t).view.emb y) := by
  have ht : t.val < 32 := t.isLt
  idx_vars y
  refine (out_eq m c t y0 y1 y2).trans ?_
  refine Eq.trans ?_ (congrArg (Cert.Reference9Ideal.Prod.grad _ _) (emb2 m t y0 y1 y2 (by omega) (by omega)).symm)
  refine Finset.sum_congr (M := EReal) rfl fun p _ => ?_
  have hb := Cert.Reference9Ideal.Prod.block_lt t.val ht
  have e : (lit0 ⟨t.val % 32, by omega⟩).toNat = Cert.Reference9Ideal.Prod.block t.val := by
    rw [word]; dsimp only; rw [Nat.mod_eq_of_lt ht]
  rw [blk0 m c t, blk1 m c t p y2 _ e (by omega)]
  have e' : (8 * (t.val / 8) + (256 * (t.val % 8) + y2.val) / 256) = t.val := by omega
  refine congrArg (fun k => (show FVec Ideal S2048x4096 .bf16 from m (c.tc.loc main_arg0)) (ix2 y1 p) * (show FVec Ideal S4096x7424 .bf16 from m (c.tc.loc main_arg1)) (ix2 p k)) (Fin.ext ?_)
  dsimp only [Cert.Reference9Ideal.Prod.col]
  show _ = 256 * Cert.Reference9Ideal.Prod.block (8 * (t.val / 8) + (256 * (t.val % 8) + y2.val) / 256) + (256 * (t.val % 8) + y2.val) % 256
  rw [e']
  omega

theorem final_of (c : Dev nD) (G : FVec Ideal S4x2048x2048 .bf16)
    (h : ∀ (t : Fin (cfgM m (ok m)).N) (y : S1x2048x256.Idx), (show FVec Ideal S1x2048x256 .bf16 from outsAt0 m (ok m) c t) y = G ((((cfgM m (ok m)).win 2).blk t).view.emb y)) :
    (dats m (ok m) 0 c).arrAt 2 (cfgM m (ok m)).N = G := by
  refine (dats m (ok m) 0 c).arrAt_eq_of_covers 2 _ (covers m) fun t hf y => ?_
  blk_simp
  rw [after0_2]
  exact h t y

/-- What the run leaves in the result array. -/
theorem final (c : Dev nD) : (dats m (ok m) 0 c).arrAt 2 (cfgM m (ok m)).N = Cert.Reference9Ideal.Prod.grad (m (c.tc.loc main_arg0)) (m (c.tc.loc main_arg1)) := by
  exact final_of m c _ (point m c)

theorem run_blocks (ρ : Dev nD → PrngReg) :
    θ_run defs (onTc (τ := τ) (main (F := Ideal))) ⟨m, fun _ => 0, ρ⟩ fun r => ∀ c : Dev nD,
      r.2.mem ((c.tc : Thread nD τ).loc main_v0) = (dats m (ok m) 0 c).arrAt 2 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1 2,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

end Cert.Kernel9Ideal.Prod

namespace Cert.Proof

theorem frameR9 : Cert.quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem algebraic9 : Cert.algebraic_Kernel9Ideal_Reference9Ideal (hKernel9Ideal := Cert.Kernel9Ideal.Gen.facts) (hReference9Ideal := Cert.Reference9Ideal.Gen.facts) := fun m g m' g' _ hm =>
  ⟨fun c => Cert.Reference9Ideal.Prod.grad (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun _ h c => ⟨(h c).1.trans (Cert.Kernel9Ideal.Prod.final m c), (h c).2⟩) (Cert.Kernel9Ideal.Prod.run_blocks m g),
    (θ_run Cert.Reference9Ideal.defs _ _).mono (fun _ h c => ⟨(h c).1.trans ((Cert.Reference9Ideal.Prod.res m' c).trans (by rw [(hm c).1, (hm c).2])), (h c).2⟩)
      (Cert.Reference9Ideal.Value.run (F := Ideal) m' g')⟩

end Cert.Proof

end
-- ==== Proof.Product10.lean ====
/- The gradient of the convolution. -/
module

public import proofs.«01_k».proof.Defs
public import proofs.«01_k».proof.Proof.Gen.Kernel10Ideal.Frame
public import proofs.«01_k».proof.Proof.Gen.Kernel10Ideal.Value
public import proofs.«01_k».proof.Proof.Gen.Kernel10Ideal
public import proofs.«01_k».proof.Proof.Gen.Reference10Ideal
public import proofs.«01_k».proof.Proof.Gen.Reference10Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference10Ideal.Prod

open Cert.Reference10Ideal Cert.Reference10Ideal.Gen

/-- The gradient of the input, beside the columns already there, as the reference gives it. -/
abbrev gradX (x0 : FVec Ideal S4096x7168 .f32) (x1 : FVec Ideal S4096x3072 .f32) (x2 : FVec Ideal S4x3072 .f32) (x3 : FVec Ideal S4096x7424 .bf16) : FVec Ideal S4096x7424 .bf16 :=
  concatenate S4096x7424 1 [⟨S4096x3072, (truncf .bf16 (extractStridedSlice S4096x3072 ![3, 0] (addf (addf (addf (pad S4099x3072 ![3, 0] ![0, 0] ![0, 0] (mulf (broadcastInDim S4096x3072 ![0, 1] bcast_S1x3072_S4096x3072_0_1 (broadcastInDim S1x3072 ![1] bcast_S3072_S1x3072_1 (shapeCast _ (extractStridedSlice S1x3072 ![3, 0] x2 slices_S4x3072_S1x3072_3_0) shapeCasts_S1x3072_S3072))) (shapeCast _ x1 shapeCasts_S4096x3072_S4096x3072)) (constant S_ .f32 0x00000000#32) pads_S4096x3072_S4099x3072_300_000 h_S_) (pad S4099x3072 ![2, 0] ![1, 0] ![0, 0] (mulf (broadcastInDim S4096x3072 ![0, 1] bcast_S1x3072_S4096x3072_0_1 (broadcastInDim S1x3072 ![1] bcast_S3072_S1x3072_1 (shapeCast _ (extractStridedSlice S1x3072 ![2, 0] x2 slices_S4x3072_S1x3072_2_0) shapeCasts_S1x3072_S3072))) (shapeCast _ x1 shapeCasts_S4096x3072_S4096x3072)) (constant S_ .f32 0x00000000#32) pads_S4096x3072_S4099x3072_210_000 h_S_)) (pad S4099x3072 ![1, 0] ![2, 0] ![0, 0] (mulf (broadcastInDim S4096x3072 ![0, 1] bcast_S1x3072_S4096x3072_0_1 (broadcastInDim S1x3072 ![1] bcast_S3072_S1x3072_1 (shapeCast _ (extractStridedSlice S1x3072 ![1, 0] x2 slices_S4x3072_S1x3072_1_0) shapeCasts_S1x3072_S3072))) (shapeCast _ x1 shapeCasts_S4096x3072_S4096x3072)) (constant S_ .f32 0x00000000#32) pads_S4096x3072_S4099x3072_120_000 h_S_)) (pad S4099x3072 ![0, 0] ![3, 0] ![0, 0] (mulf (broadcastInDim S4096x3072 ![0, 1] bcast_S1x3072_S4096x3072_0_1 (broadcastInDim S1x3072 ![1] bcast_S3072_S1x3072_1 (shapeCast _ (extractStridedSlice S1x3072 ![0, 0] x2 slices_S4x3072_S1x3072_0_0) shapeCasts_S1x3072_S3072))) (shapeCast _ x1 shapeCasts_S4096x3072_S4096x3072)) (constant S_ .f32 0x00000000#32) pads_S4096x3072_S4099x3072_030_000 h_S_)) slices_S4099x3072_S4096x3072_3_0) bitsLt_bf16_f32)⟩, ⟨S4096x4352, (extractStridedSlice S4096x4352 ![0, 3072] x3 slices_S4096x7424_S4096x4352_0_3072)⟩] concatenates_S4096x3072_S4096x4352_S4096x7424_d1

/-- The gradient of the weights, as the reference gives it. -/
abbrev gradW (x0 : FVec Ideal S4096x7168 .f32) (x1 : FVec Ideal S4096x3072 .f32) (x2 : FVec Ideal S4x3072 .f32) (x3 : FVec Ideal S4096x7424 .bf16) : FVec Ideal S8x3072 .f32 :=
  pad S8x3072 ![0, 0] ![4, 0] ![0, 0] (addf (addf (addf (pad S4x3072 ![3, 0] ![0, 0] ![0, 0] (broadcastInDim S1x3072 ![1] bcast_S3072_S1x3072_1 (Host.reduceAdd (shapeCast _ (Host.reduceAdd (mulf (shapeCast _ x1 shapeCasts_S4096x3072_S4096x3072) (extractStridedSlice S4096x3072 ![3, 0] (concatenate S4099x3072 0 [⟨S3x3072, (broadcastInDim S3x3072 ![] bcast_S_S3x3072 (constant S_ .f32 0x00000000#32))⟩, ⟨S4096x3072, (extractStridedSlice S4096x3072 ![0, 0] x0 slices_S4096x7168_S4096x3072_0_0)⟩] concatenates_S3x3072_S4096x3072_S4099x3072_d0) slices_S4099x3072_S4096x3072_3_0)) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S4x3072_300_000 h_S_) (pad S4x3072 ![2, 0] ![1, 0] ![0, 0] (broadcastInDim S1x3072 ![1] bcast_S3072_S1x3072_1 (Host.reduceAdd (shapeCast _ (Host.reduceAdd (mulf (shapeCast _ x1 shapeCasts_S4096x3072_S4096x3072) (extractStridedSlice S4096x3072 ![2, 0] (concatenate S4099x3072 0 [⟨S3x3072, (broadcastInDim S3x3072 ![] bcast_S_S3x3072 (constant S_ .f32 0x00000000#32))⟩, ⟨S4096x3072, (extractStridedSlice S4096x3072 ![0, 0] x0 slices_S4096x7168_S4096x3072_0_0)⟩] concatenates_S3x3072_S4096x3072_S4099x3072_d0) slices_S4099x3072_S4096x3072_2_0)) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S4x3072_210_000 h_S_)) (pad S4x3072 ![1, 0] ![2, 0] ![0, 0] (broadcastInDim S1x3072 ![1] bcast_S3072_S1x3072_1 (Host.reduceAdd (shapeCast _ (Host.reduceAdd (mulf (shapeCast _ x1 shapeCasts_S4096x3072_S4096x3072) (extractStridedSlice S4096x3072 ![1, 0] (concatenate S4099x3072 0 [⟨S3x3072, (broadcastInDim S3x3072 ![] bcast_S_S3x3072 (constant S_ .f32 0x00000000#32))⟩, ⟨S4096x3072, (extractStridedSlice S4096x3072 ![0, 0] x0 slices_S4096x7168_S4096x3072_0_0)⟩] concatenates_S3x3072_S4096x3072_S4099x3072_d0) slices_S4099x3072_S4096x3072_1_0)) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S4x3072_120_000 h_S_)) (pad S4x3072 ![0, 0] ![3, 0] ![0, 0] (broadcastInDim S1x3072 ![1] bcast_S3072_S1x3072_1 (Host.reduceAdd (shapeCast _ (Host.reduceAdd (mulf (shapeCast _ x1 shapeCasts_S4096x3072_S4096x3072) (extractStridedSlice S4096x3072 ![0, 0] (concatenate S4099x3072 0 [⟨S3x3072, (broadcastInDim S3x3072 ![] bcast_S_S3x3072 (constant S_ .f32 0x00000000#32))⟩, ⟨S4096x3072, (extractStridedSlice S4096x3072 ![0, 0] x0 slices_S4096x7168_S4096x3072_0_0)⟩] concatenates_S3x3072_S4096x3072_S4099x3072_d0) slices_S4099x3072_S4096x3072_0_0)) (constant S_ .f32 0x00000000#32) reducesTo_S4096x3072_S3072_d0 h_S_) shapeCasts_S3072_S1x3072) (constant S_ .f32 0x00000000#32) reducesTo_S1x3072_S3072_d0 h_S_)) (constant S_ .f32 0x00000000#32) pads_S1x3072_S4x3072_030_000 h_S_)) (sitofp .f32 (constantI S_ 32 0#32)) pads_S4x3072_S8x3072_040_000 h_S_

variable (x0 : FVec Ideal S4096x7168 .f32) (x1 : FVec Ideal S4096x3072 .f32) (x2 : FVec Ideal S4x3072 .f32) (x3 : FVec Ideal S4096x7424 .bf16)

theorem dite_eq_of {α : Type} {P : Prop} [Decidable P] {a : P → α} {b : ¬ P → α} {x : α} (ha : ∀ h, a h = x) (hb : ∀ h, b h = x) : dite P a b = x := by
  by_cases h : P
  · rw [dif_pos h]; exact ha h
  · rw [dif_neg h]; exact hb h

/-- Row `n` of the results' gradient, and zero beyond the last. -/
def after (n : ℕ) (k : Fin 3072) : EReal := if h : n < 4096 then x1 (ix2 ⟨n, h⟩ k) else 0

/-- The row of the input `s` before row `n`, and zero before the first. -/
def before (s n : ℕ) (k : Fin 3072) : EReal := if h : s ≤ n ∧ n - s < 4096 then x0 (ix2 ⟨n - s, h.2⟩ ⟨k.val, by omega⟩) else 0

theorem after_eq (n n' : ℕ) (k : Fin 3072) (h : n < 4096) (e : n = n') : x1 (ix2 ⟨n, h⟩ k) = after x1 n' k := by
  subst e; rw [after, dif_pos h]

theorem before_eq (s n n' : ℕ) (k : Fin 3072) (k' : Fin 7168) (h : n' < 4096) (e : n' + s = n) (ek : k'.val = k.val) : x0 (ix2 ⟨n', h⟩ k') = before x0 s n k := by
  subst e
  refine Eq.trans ?_ (dif_pos ⟨by omega, by omega⟩).symm
  exact congrArg x0 (congrArg₂ ix2 (Fin.ext (show n' = n' + s - s by omega)) (Fin.ext ek))

theorem gradX_left (n : Fin 4096) (k : Fin 7424) (hk : k.val < 3072) :
    gradX x0 x1 x2 x3 (ix2 n k) = (after x1 (n + 3) ⟨k, hk⟩ * x2 (ix2 0 ⟨k, hk⟩) + after x1 (n + 2) ⟨k, hk⟩ * x2 (ix2 1 ⟨k, hk⟩)
      + after x1 (n + 1) ⟨k, hk⟩ * x2 (ix2 2 ⟨k, hk⟩)) + x1 (ix2 n ⟨k, hk⟩) * x2 (ix2 3 ⟨k, hk⟩) := by
  pointwise [gradX]
  simp only [dif_pos hk]
  have e : ∀ a b c d : EReal, a + b + c + d = d + c + b + a := fun _ _ _ _ => by ac_rfl
  refine (e _ _ _ _).trans ?_
  refine congrArg₂ (· + ·) (congrArg₂ (· + ·) (congrArg₂ (· + ·) ?_ ?_) ?_) (mul_comm _ _)
  all_goals
    refine dite_eq_of (fun h => ?_) (fun h => ?_)
    · exact (mul_comm _ _).trans (congrArg (· * _) (after_eq x1 _ _ _ _ (by omega)))
    · rw [after, dif_neg (by omega), zero_mul]

theorem gradX_right (n : Fin 4096) (k : Fin 7424) (hk : ¬ k.val < 3072) : gradX x0 x1 x2 x3 (ix2 n k) = x3 (ix2 n k) := by
  pointwise [gradX]
  rw [dif_neg hk]
  exact congrArg x3 (congrArg₂ ix2 rfl (Fin.ext (show 3072 + (k.val - 3072) = k.val by omega)))

theorem sum_split (f : Fin 4096 → EReal) (h : ∀ x : Fin 4096, x.val < 3 → f x = 0) : ∑ x : Fin 4093, f ⟨3 + x, by omega⟩ = ∑ x, f x := by
  refine Eq.symm ((Fin.sum_univ_add (a := 3) (b := 4093) f).trans ?_)
  rw [Finset.sum_eq_zero fun x _ => h _ x.isLt, zero_add]
  rfl

theorem gradW_eq (j : Fin 8) (k : Fin 3072) : gradW x0 x1 x2 x3 (ix2 j k) = if j.val < 4 then ∑ n : Fin 4096, x1 (ix2 n k) * before x0 (3 - j) n k else 0 := by
  have z : (FloatOps.sitofp FTy.f32 0#32 : Ideal .f32) = 0 := by
    show (((0#32 : BitVec 32).toInt : ℝ) : EReal) = 0
    simp
  pointwise [gradW]
  rw [z]
  fin_cases j
  all_goals simp
  · rw [← sum_split fun n => x1 (ix2 n k) * before x0 3 n k]
    · exact Finset.sum_congr (M := EReal) rfl fun x _ => congrArg (_ * ·) (before_eq x0 3 _ x _ _ _ (Nat.add_comm _ _) rfl)
    · intro x hx
      rw [before, dif_neg (by omega), mul_zero]
  · refine Finset.sum_congr (M := EReal) rfl fun x _ => dite_eq_of (fun h => ?_) (fun h => congrArg (_ * ·) (before_eq x0 2 _ _ _ _ _ (by omega) rfl))
    rw [before, dif_neg (by omega), mul_zero]
  · refine Finset.sum_congr (M := EReal) rfl fun x _ => dite_eq_of (fun h => ?_) (fun h => congrArg (_ * ·) (before_eq x0 1 _ _ _ _ _ (by omega) rfl))
    rw [before, dif_neg (by omega), mul_zero]
  · exact Finset.sum_congr (M := EReal) rfl fun x _ => congrArg (_ * ·) (before_eq x0 0 _ x _ _ _ rfl rfl)

end Cert.Reference10Ideal.Prod

namespace Cert.Kernel10Ideal.Prod

open Cert.Kernel10Ideal Cert.Kernel10Ideal.Gen
open Cert.Reference10Ideal.Prod (gradX gradW after before after_eq before_eq dite_eq_of)

variable (m : (ℓ : Loc nD τ sig) → Buf (Elt Ideal) ℓ)

theorem select_last (t : ℕ) (ht : t < 16) (a b : EReal) : Scalar.select (Scalar.cmpi .eq (BitVec.ofNat 32 t) 15#32) a b = if t = 15 then a else b := by
  interval_cases t <;> rfl

theorem select_first (t : ℕ) (ht : t < 16) (a b : EReal) : Scalar.select (Scalar.cmpi .eq (BitVec.ofNat 32 t) 0#32) a b = if t = 0 then a else b := by
  interval_cases t <;> rfl

/-- What the body gives for the gradient of the input, of blocks that are rows of the results' gradient. -/
theorem payX (x1 : FVec Ideal S4096x3072 .f32) (i : grid0.Coords) (v7 : Vec Ideal S8x3072 .f32) (v10 : Vec Ideal S256x3072 .f32) (v12 : Vec Ideal S4x3072 .f32)
    (t : ℕ) (ht : t < 16) (hi : (i 0).val = t) (h10 : ∀ r k, v10 (ix2 r k) = after x1 (256 * t + r.val) k)
    (h7 : t ≠ 15 → ∀ r k, v7 (ix2 r k) = after x1 (256 * t + 256 + r.val) k) (r : Fin 256) (k : Fin 3072) :
    k0_pay1 (k0_pay5 i v7 v10) v12 (k0_pay7 i v7 v10 v12) (k0_pay9 i v7 v10) (k0_pay10 v12) (ix2 r k)
      = (after x1 (256 * t + r.val + 3) k * v12 (ix2 0 k) + after x1 (256 * t + r.val + 2) k * v12 (ix2 1 k)
        + after x1 (256 * t + r.val + 1) k * v12 (ix2 2 k)) + after x1 (256 * t + r.val) k * v12 (ix2 3 k) := by
  pointwise [k0_pay1, k0_pay5, k0_pay7, k0_pay9, k0_pay10]
  refine congrArg₂ (· + ·) (congrArg₂ (· + ·) (congrArg₂ (· + ·) ?_ ?_) ?_) (congrArg (· * _) (h10 r k))
  all_goals
    refine congrArg (· * _) (dite_eq_of (fun h => ?_) (fun h => ?_))
    · rw [h10]
      refine congrArg (after x1 · k) ?_
      dsimp only
      omega
    · rw [hi, select_last t ht]
      by_cases e : t = 15
      · rw [if_pos e, after, dif_neg (by omega)]
      · rw [if_neg e]
        rw [h7 e]
        refine congrArg (after x1 · k) ?_
        dsimp only
        omega

/-- What the body adds to the gradient of the weights at one block of rows. -/
theorem payW (x0 : FVec Ideal S4096x7168 .f32) (i : grid0.Coords) (v1 : Vec Ideal S8x3072 .f32) (v4 v10 : Vec Ideal S256x3072 .f32)
    (t : ℕ) (ht : t < 16) (hi : (i 0).val = t) (h4 : ∀ r k, v4 (ix2 r k) = before x0 0 (256 * t + r.val) k)
    (h1 : t ≠ 0 → ∀ r k, v1 (ix2 r k) = before x0 8 (256 * t + r.val) k) (r : Fin 8) (k : Fin 3072) :
    k0_pay2 (k0_pay4 i v1 v4) v10 (k0_pay6 i v1 v4 v10) (k0_pay8 i v1 v4 v10) (ix2 r k)
      = if r.val < 4 then ∑ x : Fin 256, v10 (ix2 x k) * before x0 (3 - r.val) (256 * t + x.val) k else 0 := by
  have b : ∀ s n s' n', (s ≤ n ↔ s' ≤ n') → n - s = n' - s' → before x0 s n k = before x0 s' n' k := fun s n s' n' h e => by
    unfold before
    by_cases hs : s ≤ n ∧ n - s < 4096
    · rw [dif_pos hs, dif_pos (by omega)]
      exact congrArg x0 (congrArg₂ ix2 (Fin.ext e) rfl)
    · rw [dif_neg hs, dif_neg (by omega)]
  pointwise [k0_pay2, k0_pay4, k0_pay6, k0_pay8]
  by_cases hr : r.val < 4
  swap
  · rw [if_neg hr, dif_neg (by omega), dif_neg (by omega), dif_neg (by omega), dif_neg (by omega)]
  rw [if_pos hr]
  repeat' refine dite_eq_of (fun _ => ?_) (fun _ => ?_)
  all_goals first | omega | skip
  all_goals
    refine Finset.sum_congr (M := EReal) rfl fun x _ => congrArg (_ * ·) ?_
    first
    | refine dite_eq_of (fun h => ?_) (fun h => ?_)
      · rw [hi, select_first t ht]
        split_ifs with e
        · rw [before, dif_neg (by omega)]
        · rw [h1 e]
          refine b _ _ _ _ ?_ ?_ <;> dsimp only <;> omega
      · rw [h4]
        refine b _ _ _ _ ?_ ?_ <;> dsimp only <;> omega
    | rw [h4]
      refine b _ _ _ _ ?_ ?_ <;> omega

theorem idx : ∀ t : Fin cfg0.N, win0_0.index t = ![t.val, 0] ∧ win0_1.index t = ![32 * t.val - 1, 0] ∧ win0_2.index t = ![t.val, 0]
    ∧ win0_3.index t = ![min (32 * (t.val + 1)) 511, 0] ∧ win0_4.index t = ![0, 0] ∧ win0_5.index t = ![t.val, 0] := by
  decide +kernel

theorem coord : ∀ t : Fin cfg0.N, (grid0.coords t 0).val = t.val := by decide +kernel

abbrev a0 (c : Dev nD) : FVec Ideal S4096x7168 .f32 := m (c.tc.loc main_arg0)
abbrev a1 (c : Dev nD) : FVec Ideal S4096x3072 .f32 := m (c.tc.loc main_arg1)
abbrev a2 (c : Dev nD) : FVec Ideal S4x3072 .f32 := m (c.tc.loc main_arg2)

theorem blk0 (c : Dev nD) (t : Fin cfg0.N) (r : Fin 256) (k : Fin 3072) :
    (show FVec Ideal S256x3072 .f32 from X0_0 m c t) (ix2 r k) = before (a0 m c) 0 (256 * t.val + r.val) k := by
  have hN := lt_of_lt_of_eq t.isLt N_0
  refine Eq.trans ?_ (before_eq (a0 m c) 0 _ (256 * t.val + r.val) k ⟨k.val, by omega⟩ (by omega) (by omega) rfl)
  unfold X0_0 Pipeline.Window.fill
  dsimp only
  rw [dif_pos (moved0_0 t _)]
  unfold iblk
  blk_point [iblk, V, idx t]

theorem blk1 (c : Dev nD) (t : Fin cfg0.N) (h0 : t.val ≠ 0) (r : Fin 8) (k : Fin 3072) :
    (show FVec Ideal S8x3072 .f32 from X0_1 m c t) (ix2 r k) = before (a0 m c) 8 (256 * t.val + r.val) k := by
  have hN := lt_of_lt_of_eq t.isLt N_0
  refine Eq.trans ?_ (before_eq (a0 m c) 8 _ (256 * t.val - 8 + r.val) k ⟨k.val, by omega⟩ (by omega) (by omega) rfl)
  unfold X0_1 Pipeline.Window.fill
  dsimp only
  rw [dif_pos (moved0_1 t _)]
  unfold iblk
  blk_point [iblk, V, idx t]

theorem blk2 (c : Dev nD) (t : Fin cfg0.N) (r : Fin 256) (k : Fin 3072) :
    (show FVec Ideal S256x3072 .f32 from iblk m c 2 t) (ix2 r k) = after (a1 m c) (256 * t.val + r.val) k := by
  have hN := lt_of_lt_of_eq t.isLt N_0
  refine Eq.trans ?_ (after_eq (a1 m c) (256 * t.val + r.val) _ k (by omega) rfl)
  blk_point [iblk, V, idx t]

theorem blk3 (c : Dev nD) (t : Fin cfg0.N) (h0 : t.val ≠ 15) (r : Fin 8) (k : Fin 3072) :
    (show FVec Ideal S8x3072 .f32 from iblk m c 3 t) (ix2 r k) = after (a1 m c) (256 * t.val + 256 + r.val) k := by
  have hN := lt_of_lt_of_eq t.isLt N_0
  refine Eq.trans ?_ (after_eq (a1 m c) (256 * t.val + 256 + r.val) _ k (by omega) rfl)
  blk_point [iblk, V, idx t]

theorem blk4 (c : Dev nD) (t : Fin cfg0.N) (r : Fin 4) (k : Fin 3072) :
    (show FVec Ideal S4x3072 .f32 from iblk m c 4 t) (ix2 r k) = a2 m c (ix2 r k) := by
  blk_point [iblk, V, idx t]

abbrev args {α : Type} (F : FVec Ideal S4096x7168 .f32 → FVec Ideal S4096x3072 .f32 → FVec Ideal S4x3072 .f32 → FVec Ideal S4096x7424 .bf16 → α) (c : Dev nD) : α :=
  F (m (c.tc.loc main_arg0)) (m (c.tc.loc main_arg1)) (m (c.tc.loc main_arg2)) (m (c.tc.loc main_arg3))

/-- At a row and a column of a block the body gives the reference's value. -/
theorem point (c : Dev nD) (t : Fin cfg0.N) (r : Fin 256) (k : Fin 3072) (h) (h') :
    k0_pay1 (F := Ideal) (k0_pay5 (grid0.coords t) (iblk m c 3 t) (iblk m c 2 t)) (iblk m c 4 t) (k0_pay7 (grid0.coords t) (iblk m c 3 t) (iblk m c 2 t) (iblk m c 4 t))
      (k0_pay9 (grid0.coords t) (iblk m c 3 t) (iblk m c 2 t)) (k0_pay10 (iblk m c 4 t)) (ix2 r k) = args m gradX c (ix2 ⟨256 * t.val + r.val, h⟩ ⟨k.val, h'⟩) := by
  have hN := lt_of_lt_of_eq t.isLt N_0
  refine (payX (a1 m c) _ _ _ _ t.val hN (coord t) (blk2 m c t) (blk3 m c t) _ _).trans ?_
  refine Eq.trans ?_ (Cert.Reference10Ideal.Prod.gradX_left _ _ _ _ _ _ k.isLt).symm
  exact congrArg₂ (· + ·) (congrArg₂ (· + ·) (congrArg₂ (· + ·) (congrArg (_ * ·) (blk4 m c t 0 k)) (congrArg (_ * ·) (blk4 m c t 1 k))) (congrArg (_ * ·) (blk4 m c t 2 k)))
    (congrArg₂ (· * ·) (after_eq (a1 m c) _ _ k h rfl).symm (blk4 m c t 3 k))

theorem emb5 (t : Fin cfg0.N) (y : ((cfg0.win 5).xblock (cfg0.grid.coords t)).Idx) (r : Fin 256) (k : Fin 3072) (hr : (y (0 : Fin 2)).val = r.val) (hk : (y (1 : Fin 2)).val = k.val) (h h') :
    (((cfg0.win 5).blk t).view.emb y : S4096x7424.Idx) = ix2 ⟨256 * t.val + r.val, h⟩ ⟨k.val, h'⟩ := by
  funext a
  apply Fin.ext
  fin_cases a
  · refine (Pipeline.Window.rect_emb_val _ t y _).trans ?_
    show win0_5.index t 0 * 256 + (y (0 : Fin 2)).val = 256 * t.val + r.val
    rw [(idx t).2.2.2.2.2, hr, Nat.mul_comm]
    rfl
  · refine (Pipeline.Window.rect_emb_val _ t y _).trans ?_
    show win0_5.index t 1 * 3072 + (y (1 : Fin 2)).val = k.val
    rw [(idx t).2.2.2.2.2, hk]
    exact (congrArg (· + k.val) (Nat.zero_mul 3072)).trans (Nat.zero_add _)

/-- The same at an index of the block, and the index of the array it is written to. -/
theorem point' (c : Dev nD) (t : Fin cfg0.N) (y : ((cfg0.win 5).xblock (cfg0.grid.coords t)).Idx) :
    k0_pay1 (F := Ideal) (k0_pay5 (grid0.coords t) (iblk m c 3 t) (iblk m c 2 t)) (iblk m c 4 t) (k0_pay7 (grid0.coords t) (iblk m c 3 t) (iblk m c 2 t) (iblk m c 4 t))
      (k0_pay9 (grid0.coords t) (iblk m c 3 t) (iblk m c 2 t)) (k0_pay10 (iblk m c 4 t)) ((win0 5).xinj (grid0.coords t) y) = args m gradX c (((cfg0.win 5).blk t).view.emb y) := by
  have hN := lt_of_lt_of_eq t.isLt N_0
  generalize hz : ((win0 5).xinj (grid0.coords t) y : S256x3072.Idx) = z
  idx_vars z
  rw [emb5 t y z0 z1 (congrArg (fun f : S256x3072.Idx => (f 0).val) hz) (congrArg (fun f : S256x3072.Idx => (f 1).val) hz) (by omega) (by omega)]
  exact point m c t z0 z1 _ _

theorem finalX (c : Dev nD) : (dats m 0 c).arrAt 5 cfg0.N = args m gradX c := by
  refine ((dats m 0 c).arrAt_eq_of_coversWhere 5 (args m gradX c) (P := fun i => (i 1 : ℕ) / 3072 = 0) (fun β => β (1 : Fin _) = 0) (by decide +kernel) (fun t hf y => ?_) (fun j => Iff.rfl)).trans ?_
  · blk_simp
    rw [after0_5]
    by_cases h0 : t.val % 16 = 0
    · rw [outsAt0_A m c t h0 (by have := lt_of_lt_of_eq t.isLt N_0; omega)]
      frame_out
      exact point' m c t y
    · rw [outsAt0_B m c t h0 (by omega)]
      frame_out
      exact point' m c t y
  · funext i
    split_ifs with h
    · rfl
    · idx_vars i
      refine Eq.trans ?_ (Cert.Reference10Ideal.Prod.gradX_right _ _ _ _ _ _ (by simp at h ⊢; omega)).symm
      rw [A_eq]
      rfl

theorem step (v10 : Vec Ideal S256x3072 .f32) (i : grid0.Coords) (v1 : Vec Ideal S8x3072 .f32) (v4 : Vec Ideal S256x3072 .f32) (v64) (j) :
    k0_pay3 (k0_pay4 i v1 v4) v10 (k0_pay6 i v1 v4 v10) (k0_pay8 i v1 v4 v10) v64 j = v64 j + k0_pay2 (k0_pay4 i v1 v4) v10 (k0_pay6 i v1 v4 v10) (k0_pay8 i v1 v4 v10) j := by
  pointwise [k0_pay3]

theorem finalW (c : Dev nD) : (dats m 0 c).arrAt 6 cfg0.N = args m gradW c := by
  refine (dats m 0 c).arrAt_eq_of_after_last 6 t0_15 (by decide +kernel) _ fun j => ?_
  blk_simp
  idx_vars j
  rw [after0_6, Pipeline.eq_sum_fin_of_reset_step_apply_last (fun n h => (outsAt0 m c n h).2) 16 (fun _ => 0)
    (fun p j => if (j 0).val < 4 then ∑ x : Fin 256, (show FVec Ideal S256x3072 .f32 from iblk m c 2 p) (ix2 x (j 1)) * before (a0 m c) (3 - (j 0).val) (256 * p.val + x.val) (j 1) else 0)
    (fun t h j => by
      rw [outsAt0_A m c t h (by have := lt_of_lt_of_eq t.isLt N_0; omega)]; frame_out; idx_vars j
      rw [payW (a0 m c) _ _ _ _ t.val (lt_of_lt_of_eq t.isLt N_0) (coord t) (blk0 m c t) (blk1 m c t), zero_add]; rfl)
    (fun t h j => by
      rw [outsAt0_B m c t h (by omega)]; frame_out; idx_vars j
      rw [step, payW (a0 m c) _ _ _ _ t.val (lt_of_lt_of_eq t.isLt N_0) (coord t) (blk0 m c t) (blk1 m c t)]; rfl)
    (le_of_eq N_0) t0_15 rfl _, zero_add]
  refine Eq.trans ?_ (Cert.Reference10Ideal.Prod.gradW_eq _ _ _ _ _ _).symm
  by_cases h : j0.val < 4
  · refine Eq.trans (Finset.sum_congr (M := EReal) rfl fun p _ => if_pos h) ((Fin.sum_mul_add_congr fun p l hl => ?_).trans (if_pos h).symm)
    refine congrArg₂ (· * ·) ((blk2 m c p l j1).trans (after_eq _ _ _ _ hl (by omega)).symm) (congrArg (fun n => before (a0 m c) (3 - j0.val) n j1) ?_)
    dsimp only
    omega
  · exact (Finset.sum_eq_zero (M := EReal) fun p _ => if_neg h).trans (if_neg h).symm

end Cert.Kernel10Ideal.Prod

namespace Cert.Proof

theorem frameR10 : Cert.quiescent_Reference10Ideal (hReference10Ideal := Cert.Reference10Ideal.Gen.facts) := fun m ρ _ =>
  (θ_run Cert.Reference10Ideal.defs _ _).mono (fun r h => ⟨fun c => (h c).2.2, Idealize.ShloMosaic.sem_eq_zero_of_no_sems (by decide) r.2⟩)
    (Cert.Reference10Ideal.Value.run (F := Ideal) m ρ)

theorem algebraic10 : Cert.algebraic_Kernel10Ideal_Reference10Ideal (hKernel10Ideal := Cert.Kernel10Ideal.Gen.facts) (hReference10Ideal := Cert.Reference10Ideal.Gen.facts) := fun m g m' g' _ hm =>
  ⟨fun c => Cert.Reference10Ideal.Prod.gradX (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    fun c => Cert.Reference10Ideal.Prod.gradW (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    (θ_run Cert.Kernel10Ideal.defs _ _).mono (fun _ h c => ⟨(h c).1.trans (Cert.Kernel10Ideal.Prod.finalX m c), (h c).2.1.trans (Cert.Kernel10Ideal.Prod.finalW m c), (h c).2.2⟩) (Cert.Kernel10Ideal.Value.run_blocks m g),
    (θ_run Cert.Reference10Ideal.defs _ _).mono (fun _ h c => ⟨(h c).1.trans (show Cert.Reference10Ideal.Prod.gradX (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) = _ from by rw [(hm c).1, (hm c).2.1, (hm c).2.2.1, (hm c).2.2.2]),
        (h c).2.1.trans (show Cert.Reference10Ideal.Prod.gradW (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) = _ from by rw [(hm c).1, (hm c).2.1, (hm c).2.2.1, (hm c).2.2.2]), (h c).2.2⟩)
      (Cert.Reference10Ideal.Value.run (F := Ideal) m' g')⟩

end Cert.Proof

end
-- ==== Proof.Product11.lean ====
/- AdamW on the output projection's weights. -/
module

public import proofs.«01_k».proof.Defs
public import proofs.«01_k».proof.Proof.Gen.Kernel11Ideal.Frame
public import proofs.«01_k».proof.Proof.Gen.Kernel11Ideal.Value
public import proofs.«01_k».proof.Proof.Gen.Kernel11Ideal
public import proofs.«01_k».proof.Proof.Gen.Reference11Ideal
public import proofs.«01_k».proof.Proof.Gen.Reference11Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference11Ideal.Prod

open Cert.Reference11Ideal Cert.Reference11Ideal.Gen

/-- The change of the weights. -/
abbrev delta (x0 x1 x2 x3 : FVec Ideal S512x2048 .f32) : FVec Ideal S512x2048 .f32 :=
  mulf (broadcastInDim S512x2048 ![] bcast_S_S512x2048 (constant S_ .f32 0xBA83126F#32)) (addf (Host.divf (Host.divf (addf (mulf (broadcastInDim S512x2048 ![] bcast_S_S512x2048 (constant S_ .f32 0x3F666666#32)) x2) (mulf (broadcastInDim S512x2048 ![] bcast_S_S512x2048 (constant S_ .f32 0x3DCCCCCD#32)) x1)) (broadcastInDim S512x2048 ![] bcast_S_S512x2048 (constant S_ .f32 0x3F26BD02#32))) (addf (Host.sqrt (Host.divf (addf (mulf (broadcastInDim S512x2048 ![] bcast_S_S512x2048 (constant S_ .f32 0x3F7FBE77#32)) x3) (mulf (broadcastInDim S512x2048 ![] bcast_S_S512x2048 (constant S_ .f32 0x3A83126F#32)) (mulf x1 x1))) (broadcastInDim S512x2048 ![] bcast_S_S512x2048 (constant S_ .f32 0x3C231ACC#32)))) (broadcastInDim S512x2048 ![] bcast_S_S512x2048 (constant S_ .f32 0x322BCC77#32)))) (mulf (broadcastInDim S512x2048 ![] bcast_S_S512x2048 (constant S_ .f32 0x3C23D70A#32)) x0))

/-- The new running mean of the gradient. -/
abbrev mean (x0 x1 x2 x3 : FVec Ideal S512x2048 .f32) : FVec Ideal S512x2048 .f32 :=
  addf (mulf (broadcastInDim S512x2048 ![] bcast_S_S512x2048 (constant S_ .f32 0x3F666666#32)) x2) (mulf (broadcastInDim S512x2048 ![] bcast_S_S512x2048 (constant S_ .f32 0x3DCCCCCD#32)) x1)

/-- The new running mean of its square. -/
abbrev square (x0 x1 x2 x3 : FVec Ideal S512x2048 .f32) : FVec Ideal S512x2048 .f32 :=
  addf (mulf (broadcastInDim S512x2048 ![] bcast_S_S512x2048 (constant S_ .f32 0x3F7FBE77#32)) x3) (mulf (broadcastInDim S512x2048 ![] bcast_S_S512x2048 (constant S_ .f32 0x3A83126F#32)) (mulf x1 x1))

end Cert.Reference11Ideal.Prod

namespace Cert.Kernel11Ideal.Prod

open Cert.Kernel11Ideal Cert.Kernel11Ideal.Gen Cert.Kernel11Ideal.Value

open Cert.Reference11Ideal.Prod (delta mean square)

variable (x0 x1 x2 x3 : FVec Ideal S512x2048 .f32)

theorem eq0 : G4 (F := Ideal) x1 x2 x3 x0 = delta x0 x1 x2 x3 := by
  funext y
  idx_vars y
  pointwise [G4, delta]

theorem eq1 : G5 (F := Ideal) x1 x2 = mean x0 x1 x2 x3 := by
  funext y
  idx_vars y
  pointwise [G5, mean]

theorem eq2 : G6 (F := Ideal) x1 x3 = square x0 x1 x2 x3 := by
  funext y
  idx_vars y
  pointwise [G6, square]

end Cert.Kernel11Ideal.Prod

namespace Cert.Proof

theorem frameR11 : Cert.quiescent_Reference11Ideal (hReference11Ideal := Cert.Reference11Ideal.Gen.facts) := fun m ρ _ =>
  (θ_run Cert.Reference11Ideal.defs _ _).mono (fun r h => ⟨fun c => (h c).2.2.2, Idealize.ShloMosaic.sem_eq_zero_of_no_sems (by decide) r.2⟩)
    (Cert.Reference11Ideal.Value.run (F := Ideal) m ρ)

theorem algebraic11 : Cert.algebraic_Kernel11Ideal_Reference11Ideal (hKernel11Ideal := Cert.Kernel11Ideal.Gen.facts) (hReference11Ideal := Cert.Reference11Ideal.Gen.facts) := fun m g m' g' _ hm =>
  ⟨fun c => Cert.Reference11Ideal.Prod.delta (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    fun c => Cert.Reference11Ideal.Prod.mean (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    fun c => Cert.Reference11Ideal.Prod.square (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    (θ_run Cert.Kernel11Ideal.defs _ _).mono (fun _ h c => ⟨(h c).1.trans (Cert.Kernel11Ideal.Prod.eq0 _ _ _ _), (h c).2.1.trans (Cert.Kernel11Ideal.Prod.eq1 _ _ _ _), (h c).2.2.1.trans (Cert.Kernel11Ideal.Prod.eq2 _ _ _ _), (h c).2.2.2⟩) (Cert.Kernel11Ideal.Value.run m g),
    (θ_run Cert.Reference11Ideal.defs _ _).mono (fun _ h c => ⟨(h c).1.trans (show Cert.Reference11Ideal.Prod.delta (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) = _ from by rw [(hm c).1, (hm c).2.1, (hm c).2.2.1, (hm c).2.2.2]),
        (h c).2.1.trans (show Cert.Reference11Ideal.Prod.mean (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) = _ from by rw [(hm c).1, (hm c).2.1, (hm c).2.2.1, (hm c).2.2.2]),
        (h c).2.2.1.trans (show Cert.Reference11Ideal.Prod.square (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) = _ from by rw [(hm c).1, (hm c).2.1, (hm c).2.2.1, (hm c).2.2.2]), (h c).2.2.2⟩)
      (Cert.Reference11Ideal.Value.run (F := Ideal) m' g')⟩

end Cert.Proof

end
-- ==== Proof.Product12.lean ====
/- AdamW on the input projection's weights. -/
module

public import proofs.«01_k».proof.Defs
public import proofs.«01_k».proof.Proof.Gen.Kernel12Ideal.Frame
public import proofs.«01_k».proof.Proof.Gen.Kernel12Ideal.Value
public import proofs.«01_k».proof.Proof.Gen.Kernel12Ideal
public import proofs.«01_k».proof.Proof.Gen.Reference12Ideal
public import proofs.«01_k».proof.Proof.Gen.Reference12Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference12Ideal.Prod

open Cert.Reference12Ideal Cert.Reference12Ideal.Gen

/-- The change of the weights. -/
abbrev delta (x0 x1 x2 x3 : FVec Ideal S28736x128 .f32) : FVec Ideal S28736x128 .f32 :=
  mulf (broadcastInDim S28736x128 ![] bcast_S_S28736x128 (constant S_ .f32 0xBA83126F#32)) (addf (Host.divf (Host.divf (addf (mulf (broadcastInDim S28736x128 ![] bcast_S_S28736x128 (constant S_ .f32 0x3F666666#32)) x2) (mulf (broadcastInDim S28736x128 ![] bcast_S_S28736x128 (constant S_ .f32 0x3DCCCCCD#32)) x1)) (broadcastInDim S28736x128 ![] bcast_S_S28736x128 (constant S_ .f32 0x3F26BD02#32))) (addf (Host.sqrt (Host.divf (addf (mulf (broadcastInDim S28736x128 ![] bcast_S_S28736x128 (constant S_ .f32 0x3F7FBE77#32)) x3) (mulf (broadcastInDim S28736x128 ![] bcast_S_S28736x128 (constant S_ .f32 0x3A83126F#32)) (mulf x1 x1))) (broadcastInDim S28736x128 ![] bcast_S_S28736x128 (constant S_ .f32 0x3C231ACC#32)))) (broadcastInDim S28736x128 ![] bcast_S_S28736x128 (constant S_ .f32 0x322BCC77#32)))) (mulf (broadcastInDim S28736x128 ![] bcast_S_S28736x128 (constant S_ .f32 0x3C23D70A#32)) x0))

/-- The new running mean of the gradient. -/
abbrev mean (x0 x1 x2 x3 : FVec Ideal S28736x128 .f32) : FVec Ideal S28736x128 .f32 :=
  addf (mulf (broadcastInDim S28736x128 ![] bcast_S_S28736x128 (constant S_ .f32 0x3F666666#32)) x2) (mulf (broadcastInDim S28736x128 ![] bcast_S_S28736x128 (constant S_ .f32 0x3DCCCCCD#32)) x1)

/-- The new running mean of its square. -/
abbrev square (x0 x1 x2 x3 : FVec Ideal S28736x128 .f32) : FVec Ideal S28736x128 .f32 :=
  addf (mulf (broadcastInDim S28736x128 ![] bcast_S_S28736x128 (constant S_ .f32 0x3F7FBE77#32)) x3) (mulf (broadcastInDim S28736x128 ![] bcast_S_S28736x128 (constant S_ .f32 0x3A83126F#32)) (mulf x1 x1))

end Cert.Reference12Ideal.Prod

namespace Cert.Kernel12Ideal.Prod

open Cert.Kernel12Ideal Cert.Kernel12Ideal.Gen Cert.Kernel12Ideal.Value

open Cert.Reference12Ideal.Prod (delta mean square)

variable (x0 x1 x2 x3 : FVec Ideal S28736x128 .f32)

theorem eq0 : G4 (F := Ideal) x1 x2 x3 x0 = delta x0 x1 x2 x3 := by
  funext y
  idx_vars y
  pointwise [G4, delta]

theorem eq1 : G5 (F := Ideal) x1 x2 = mean x0 x1 x2 x3 := by
  funext y
  idx_vars y
  pointwise [G5, mean]

theorem eq2 : G6 (F := Ideal) x1 x3 = square x0 x1 x2 x3 := by
  funext y
  idx_vars y
  pointwise [G6, square]

end Cert.Kernel12Ideal.Prod

namespace Cert.Proof

theorem frameR12 : Cert.quiescent_Reference12Ideal (hReference12Ideal := Cert.Reference12Ideal.Gen.facts) := fun m ρ _ =>
  (θ_run Cert.Reference12Ideal.defs _ _).mono (fun r h => ⟨fun c => (h c).2.2.2, Idealize.ShloMosaic.sem_eq_zero_of_no_sems (by decide) r.2⟩)
    (Cert.Reference12Ideal.Value.run (F := Ideal) m ρ)

theorem algebraic12 : Cert.algebraic_Kernel12Ideal_Reference12Ideal (hKernel12Ideal := Cert.Kernel12Ideal.Gen.facts) (hReference12Ideal := Cert.Reference12Ideal.Gen.facts) := fun m g m' g' _ hm =>
  ⟨fun c => Cert.Reference12Ideal.Prod.delta (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)),
    fun c => Cert.Reference12Ideal.Prod.mean (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)),
    fun c => Cert.Reference12Ideal.Prod.square (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)),
    (θ_run Cert.Kernel12Ideal.defs _ _).mono (fun _ h c => ⟨(h c).1.trans (Cert.Kernel12Ideal.Prod.eq0 _ _ _ _), (h c).2.1.trans (Cert.Kernel12Ideal.Prod.eq1 _ _ _ _), (h c).2.2.1.trans (Cert.Kernel12Ideal.Prod.eq2 _ _ _ _), (h c).2.2.2⟩) (Cert.Kernel12Ideal.Value.run m g),
    (θ_run Cert.Reference12Ideal.defs _ _).mono (fun _ h c => ⟨(h c).1.trans (show Cert.Reference12Ideal.Prod.delta (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) = _ from by rw [(hm c).1, (hm c).2.1, (hm c).2.2.1, (hm c).2.2.2]),
        (h c).2.1.trans (show Cert.Reference12Ideal.Prod.mean (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) = _ from by rw [(hm c).1, (hm c).2.1, (hm c).2.2.1, (hm c).2.2.2]),
        (h c).2.2.1.trans (show Cert.Reference12Ideal.Prod.square (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) = _ from by rw [(hm c).1, (hm c).2.1, (hm c).2.2.1, (hm c).2.2.2]), (h c).2.2.2⟩)
      (Cert.Reference12Ideal.Value.run (F := Ideal) m' g')⟩

end Cert.Proof

end
-- ==== Proof.Product13.lean ====
/- The input norm, in rows and transposed. -/
module

public import proofs.«01_k».proof.Defs
public import proofs.«01_k».proof.Proof.Gen.Kernel13Ideal.Frame
public import proofs.«01_k».proof.Proof.Gen.Kernel13Ideal.Value
public import proofs.«01_k».proof.Proof.Gen.Kernel13Ideal
public import proofs.«01_k».proof.Proof.Gen.Reference13Ideal
public import proofs.«01_k».proof.Proof.Gen.Reference13Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference13Ideal.Prod

open Cert.Reference13Ideal Cert.Reference13Ideal.Gen

/-- The normed input. -/
abbrev normed (x0 : FVec Ideal S4096x2048 .f32) (x1 : FVec Ideal S1x2048 .f32) : FVec Ideal S4096x2048 .bf16 :=
  truncf .bf16 (mulf (mulf x0 (broadcastInDim S4096x2048 ![0, 1] bcast_S4096x1_S4096x2048_0_1 (Host.rsqrt (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x1 shapeCasts_S1x2048_S2048)))) bitsLt_bf16_f32

/-- The same, transposed. -/
abbrev normedT (x0 : FVec Ideal S4096x2048 .f32) (x1 : FVec Ideal S1x2048 .f32) : FVec Ideal S2048x4096 .bf16 :=
  transpose S2048x4096 [1, 0] (truncf .bf16 (mulf (mulf x0 (broadcastInDim S4096x2048 ![0, 1] bcast_S4096x1_S4096x2048_0_1 (Host.rsqrt (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x1 shapeCasts_S1x2048_S2048)))) bitsLt_bf16_f32) transposes_S4096x2048_S2048x4096_1_0

end Cert.Reference13Ideal.Prod

namespace Cert.Kernel13Ideal.Prod

open Cert.Kernel13Ideal Cert.Kernel13Ideal.Gen

variable (m : (ℓ : Loc nD τ sig) → Buf (Elt Ideal) ℓ)

open Cert.Reference13Ideal.Prod (normed normedT)

theorem idx : ∀ t : Fin cfg0.N, win0_0.index t = ![t.val, 0] ∧ win0_1.index t = ![0, 0] ∧ win0_2.index t = ![t.val, 0]
    ∧ win0_3.index t = ![0, t.val] :=
  (by decide +kernel : ∀ t : Fin grid0.N, _)

theorem final (c : Dev nD) : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  pointwise [k0_pay1, k0_pay2, normed]
  blk_point [iblk, V, idx t]

theorem finalT (c : Dev nD) : (dats m 0 c).arrAt 3 cfg0.N = normedT (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  idx_vars y
  pointwise [k0_pay1, k0_pay3, normedT]
  blk_point [iblk, V, idx t]

end Cert.Kernel13Ideal.Prod

namespace Cert.Proof

theorem frameR13 : Cert.quiescent_Reference13Ideal (hReference13Ideal := Cert.Reference13Ideal.Gen.facts) := fun m ρ _ =>
  (θ_run Cert.Reference13Ideal.defs _ _).mono (fun r h => ⟨fun c => (h c).2.2, Idealize.ShloMosaic.sem_eq_zero_of_no_sems (by decide) r.2⟩)
    (Cert.Reference13Ideal.Value.run (F := Ideal) m ρ)

theorem algebraic13 : Cert.algebraic_Kernel13Ideal_Reference13Ideal (hKernel13Ideal := Cert.Kernel13Ideal.Gen.facts) (hReference13Ideal := Cert.Reference13Ideal.Gen.facts) := fun m g m' g' _ hm =>
  ⟨fun c => Cert.Reference13Ideal.Prod.normed (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    fun c => Cert.Reference13Ideal.Prod.normedT (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run Cert.Kernel13Ideal.defs _ _).mono (fun _ h c => ⟨(h c).1.trans (Cert.Kernel13Ideal.Prod.final m c), (h c).2.1.trans (Cert.Kernel13Ideal.Prod.finalT m c), (h c).2.2⟩) (Cert.Kernel13Ideal.Value.run_blocks m g),
    (θ_run Cert.Reference13Ideal.defs _ _).mono (fun _ h c => ⟨(h c).1.trans (show Cert.Reference13Ideal.Prod.normed (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) = _ from by rw [(hm c).1, (hm c).2]),
        (h c).2.1.trans (show Cert.Reference13Ideal.Prod.normedT (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) = _ from by rw [(hm c).1, (hm c).2]), (h c).2.2⟩)
      (Cert.Reference13Ideal.Value.run (F := Ideal) m' g')⟩

end Cert.Proof

end
-- ==== Proof.Product14.lean ====
/- AdamW on the small weights. -/
module

public import proofs.«01_k».proof.Defs
public import proofs.«01_k».proof.Proof.Gen.Kernel14Ideal.Frame
public import proofs.«01_k».proof.Proof.Gen.Kernel14Ideal.Value
public import proofs.«01_k».proof.Proof.Gen.Kernel14Ideal
public import proofs.«01_k».proof.Proof.Gen.Reference14Ideal
public import proofs.«01_k».proof.Proof.Gen.Reference14Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference14Ideal.Prod

open Cert.Reference14Ideal Cert.Reference14Ideal.Gen

/-- The change of the weights. -/
abbrev delta (x0 x1 x2 x3 : FVec Ideal S1128x128 .f32) : FVec Ideal S1128x128 .f32 :=
  mulf (broadcastInDim S1128x128 ![] bcast_S_S1128x128 (constant S_ .f32 0xBA83126F#32)) (addf (Host.divf (Host.divf (addf (mulf (broadcastInDim S1128x128 ![] bcast_S_S1128x128 (constant S_ .f32 0x3F666666#32)) x2) (mulf (broadcastInDim S1128x128 ![] bcast_S_S1128x128 (constant S_ .f32 0x3DCCCCCD#32)) x1)) (broadcastInDim S1128x128 ![] bcast_S_S1128x128 (constant S_ .f32 0x3F26BD02#32))) (addf (Host.sqrt (Host.divf (addf (mulf (broadcastInDim S1128x128 ![] bcast_S_S1128x128 (constant S_ .f32 0x3F7FBE77#32)) x3) (mulf (broadcastInDim S1128x128 ![] bcast_S_S1128x128 (constant S_ .f32 0x3A83126F#32)) (mulf x1 x1))) (broadcastInDim S1128x128 ![] bcast_S_S1128x128 (constant S_ .f32 0x3C231ACC#32)))) (broadcastInDim S1128x128 ![] bcast_S_S1128x128 (constant S_ .f32 0x322BCC77#32)))) (mulf (broadcastInDim S1128x128 ![] bcast_S_S1128x128 (constant S_ .f32 0x3C23D70A#32)) x0))

/-- The new running mean of the gradient. -/
abbrev mean (x0 x1 x2 x3 : FVec Ideal S1128x128 .f32) : FVec Ideal S1128x128 .f32 :=
  addf (mulf (broadcastInDim S1128x128 ![] bcast_S_S1128x128 (constant S_ .f32 0x3F666666#32)) x2) (mulf (broadcastInDim S1128x128 ![] bcast_S_S1128x128 (constant S_ .f32 0x3DCCCCCD#32)) x1)

/-- The new running mean of its square. -/
abbrev square (x0 x1 x2 x3 : FVec Ideal S1128x128 .f32) : FVec Ideal S1128x128 .f32 :=
  addf (mulf (broadcastInDim S1128x128 ![] bcast_S_S1128x128 (constant S_ .f32 0x3F7FBE77#32)) x3) (mulf (broadcastInDim S1128x128 ![] bcast_S_S1128x128 (constant S_ .f32 0x3A83126F#32)) (mulf x1 x1))

end Cert.Reference14Ideal.Prod

namespace Cert.Kernel14Ideal.Prod

open Cert.Kernel14Ideal Cert.Kernel14Ideal.Gen Cert.Kernel14Ideal.Value

open Cert.Reference14Ideal.Prod (delta mean square)

variable (x0 x1 x2 x3 : FVec Ideal S1128x128 .f32)

theorem eq0 : G4 (F := Ideal) x1 x2 x3 x0 = delta x0 x1 x2 x3 := by
  funext y
  idx_vars y
  pointwise [G4, delta]

theorem eq1 : G5 (F := Ideal) x1 x2 = mean x0 x1 x2 x3 := by
  funext y
  idx_vars y
  pointwise [G5, mean]

theorem eq2 : G6 (F := Ideal) x1 x3 = square x0 x1 x2 x3 := by
  funext y
  idx_vars y
  pointwise [G6, square]

end Cert.Kernel14Ideal.Prod

namespace Cert.Proof

theorem frameR14 : Cert.quiescent_Reference14Ideal (hReference14Ideal := Cert.Reference14Ideal.Gen.facts) := fun m ρ _ =>
  (θ_run Cert.Reference14Ideal.defs _ _).mono (fun r h => ⟨fun c => (h c).2.2.2, Idealize.ShloMosaic.sem_eq_zero_of_no_sems (by decide) r.2⟩)
    (Cert.Reference14Ideal.Value.run (F := Ideal) m ρ)

theorem algebraic14 : Cert.algebraic_Kernel14Ideal_Reference14Ideal (hKernel14Ideal := Cert.Kernel14Ideal.Gen.facts) (hReference14Ideal := Cert.Reference14Ideal.Gen.facts) := fun m g m' g' _ hm =>
  ⟨fun c => Cert.Reference14Ideal.Prod.delta (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)),
    fun c => Cert.Reference14Ideal.Prod.mean (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)),
    fun c => Cert.Reference14Ideal.Prod.square (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)),
    (θ_run Cert.Kernel14Ideal.defs _ _).mono (fun _ h c => ⟨(h c).1.trans (Cert.Kernel14Ideal.Prod.eq0 _ _ _ _), (h c).2.1.trans (Cert.Kernel14Ideal.Prod.eq1 _ _ _ _), (h c).2.2.1.trans (Cert.Kernel14Ideal.Prod.eq2 _ _ _ _), (h c).2.2.2⟩) (Cert.Kernel14Ideal.Value.run m g),
    (θ_run Cert.Reference14Ideal.defs _ _).mono (fun _ h c => ⟨(h c).1.trans (show Cert.Reference14Ideal.Prod.delta (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) = _ from by rw [(hm c).1, (hm c).2.1, (hm c).2.2.1, (hm c).2.2.2]),
        (h c).2.1.trans (show Cert.Reference14Ideal.Prod.mean (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) = _ from by rw [(hm c).1, (hm c).2.1, (hm c).2.2.1, (hm c).2.2.2]),
        (h c).2.2.1.trans (show Cert.Reference14Ideal.Prod.square (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) = _ from by rw [(hm c).1, (hm c).2.1, (hm c).2.2.1, (hm c).2.2.2]), (h c).2.2.2⟩)
      (Cert.Reference14Ideal.Value.run (F := Ideal) m' g')⟩

end Cert.Proof

end
-- ==== Proof.Product15.lean ====
/- The norm and the gate after the recurrence. -/
module

public import proofs.«01_k».proof.Defs
public import proofs.«01_k».proof.Proof.Gen.Kernel15Ideal.Frame
public import proofs.«01_k».proof.Proof.Gen.Kernel15Ideal.Value
public import proofs.«01_k».proof.Proof.Gen.Kernel15Ideal
public import proofs.«01_k».proof.Proof.Gen.Reference15Ideal
public import proofs.«01_k».proof.Proof.Gen.Reference15Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference15Ideal.Prod

open Cert.Reference15Ideal Cert.Reference15Ideal.Gen

/-- The normed and gated outputs. -/
abbrev gated (x0 : FVec Ideal S8x4096x128 .f32) (x1 : FVec Ideal S4096x7168 .f32) (x2 : FVec Ideal S1x128 .f32) : FVec Ideal S4096x1024 .bf16 :=
  truncf .bf16 (shapeCast _ (mulf (mulf (mulf (transpose S4096x8x128 [1, 0, 2] x0 transposes_S8x4096x128_S4096x8x128_1_0_2) (broadcastInDim S4096x8x128 ![0, 1, 2] bcast_S4096x8x1_S4096x8x128_0_1_2 (Host.rsqrt (addf (Host.divf (broadcastInDim S4096x8x1 ![0, 1] bcast_S4096x8_S4096x8x1_0_1 (Host.reduceAdd (mulf (transpose S4096x8x128 [1, 0, 2] x0 transposes_S8x4096x128_S4096x8x128_1_0_2) (transpose S4096x8x128 [1, 0, 2] x0 transposes_S8x4096x128_S4096x8x128_1_0_2)) (constant S_ .f32 0x00000000#32) reducesTo_S4096x8x128_S4096x8_d2 h_S_)) (broadcastInDim S4096x8x1 ![] bcast_S_S4096x8x1 (constant S_ .f32 0x43000000#32))) (broadcastInDim S4096x8x1 ![] bcast_S_S4096x8x1 (constant S_ .f32 0x358637BD#32)))))) (broadcastInDim S4096x8x128 ![0, 1, 2] bcast_S1x1x128_S4096x8x128_0_1_2 (broadcastInDim S1x1x128 ![2] bcast_S128_S1x1x128_2 (shapeCast _ x2 shapeCasts_S1x128_S128)))) (mulf (shapeCast _ (extractStridedSlice S4096x1024 ![0, 6144] x1 slices_S4096x7168_S4096x1024_0_6144) shapeCasts_S4096x1024_S4096x8x128) (Host.divf (broadcastInDim S4096x8x128 ![] bcast_S_S4096x8x128 (constant S_ .f32 0x3F800000#32)) (addf (broadcastInDim S4096x8x128 ![] bcast_S_S4096x8x128 (constant S_ .f32 0x3F800000#32)) (Host.exp (Host.negf (shapeCast _ (extractStridedSlice S4096x1024 ![0, 6144] x1 slices_S4096x7168_S4096x1024_0_6144) shapeCasts_S4096x1024_S4096x8x128))))))) shapeCasts_S4096x8x128_S4096x1024) bitsLt_bf16_f32

/-- The same, transposed. -/
abbrev gatedT (x0 : FVec Ideal S8x4096x128 .f32) (x1 : FVec Ideal S4096x7168 .f32) (x2 : FVec Ideal S1x128 .f32) : FVec Ideal S1024x4096 .bf16 :=
  transpose S1024x4096 [1, 0] (truncf .bf16 (shapeCast _ (mulf (mulf (mulf (transpose S4096x8x128 [1, 0, 2] x0 transposes_S8x4096x128_S4096x8x128_1_0_2) (broadcastInDim S4096x8x128 ![0, 1, 2] bcast_S4096x8x1_S4096x8x128_0_1_2 (Host.rsqrt (addf (Host.divf (broadcastInDim S4096x8x1 ![0, 1] bcast_S4096x8_S4096x8x1_0_1 (Host.reduceAdd (mulf (transpose S4096x8x128 [1, 0, 2] x0 transposes_S8x4096x128_S4096x8x128_1_0_2) (transpose S4096x8x128 [1, 0, 2] x0 transposes_S8x4096x128_S4096x8x128_1_0_2)) (constant S_ .f32 0x00000000#32) reducesTo_S4096x8x128_S4096x8_d2 h_S_)) (broadcastInDim S4096x8x1 ![] bcast_S_S4096x8x1 (constant S_ .f32 0x43000000#32))) (broadcastInDim S4096x8x1 ![] bcast_S_S4096x8x1 (constant S_ .f32 0x358637BD#32)))))) (broadcastInDim S4096x8x128 ![0, 1, 2] bcast_S1x1x128_S4096x8x128_0_1_2 (broadcastInDim S1x1x128 ![2] bcast_S128_S1x1x128_2 (shapeCast _ x2 shapeCasts_S1x128_S128)))) (mulf (shapeCast _ (extractStridedSlice S4096x1024 ![0, 6144] x1 slices_S4096x7168_S4096x1024_0_6144) shapeCasts_S4096x1024_S4096x8x128) (Host.divf (broadcastInDim S4096x8x128 ![] bcast_S_S4096x8x128 (constant S_ .f32 0x3F800000#32)) (addf (broadcastInDim S4096x8x128 ![] bcast_S_S4096x8x128 (constant S_ .f32 0x3F800000#32)) (Host.exp (Host.negf (shapeCast _ (extractStridedSlice S4096x1024 ![0, 6144] x1 slices_S4096x7168_S4096x1024_0_6144) shapeCasts_S4096x1024_S4096x8x128))))))) shapeCasts_S4096x8x128_S4096x1024) bitsLt_bf16_f32) transposes_S4096x1024_S1024x4096_1_0

/-- One entry: the head's output over its root mean square, times its weight, times the gate. -/
def cell (o : Fin 128 → EReal) (j : Fin 128) (w z : EReal) : EReal :=
  o j * Ideal.rsqrt (Ideal.div (∑ x, o x * o x) (Ideal.ofBits .f32 0x43000000#32) + Ideal.ofBits .f32 0x358637BD#32) * w
    * (z * Ideal.div 1 (1 + Ideal.exp (-z)))

end Cert.Reference15Ideal.Prod

namespace Cert.Kernel15Ideal.Prod

open Cert.Kernel15Ideal Cert.Kernel15Ideal.Gen

open Cert.Reference15Ideal.Prod (gated gatedT cell)

/-- The kernel's sigmoid, written with the hyperbolic tangent, is the sigmoid at every extended real. -/
theorem sigmoid_eq (z : EReal) : Ideal.ofBits .f32 0x3F000000#32 * (Ideal.tanh (Ideal.ofBits .f32 0x3F000000#32 * z) + 1) = Ideal.div 1 (1 + Ideal.exp (-z)) := by
  have hh : Ideal.ofBits .f32 0x3F000000#32 = ((1 / 2 : ℝ) : EReal) := by
    simp [Ideal.ofBits, Ideal.ieee, -EReal.coe_mul]; norm_num
  rw [hh]
  change _ = Ideal.logistic z
  induction z with
  | bot =>
    rw [EReal.coe_mul_bot_of_pos (by norm_num), Ideal.tanh_bot, Ideal.logistic_bot]
    have : (-1 : EReal) + 1 = 0 := by
      rw [show (-1 : EReal) = ((-1 : ℝ) : EReal) by norm_num, show (1 : EReal) = ((1 : ℝ) : EReal) by norm_num, ← EReal.coe_add]; norm_num
    rw [this, mul_zero]
  | top =>
    rw [EReal.coe_mul_top_of_pos (by norm_num), Ideal.tanh_top, Ideal.logistic_top]
    rw [show (1 : EReal) = ((1 : ℝ) : EReal) by norm_num, ← EReal.coe_add, ← EReal.coe_mul]; norm_num
  | coe r =>
    rw [← EReal.coe_mul, Ideal.tanh_coe, Ideal.logistic_coe, show (1 : EReal) = ((1 : ℝ) : EReal) by norm_num, ← EReal.coe_add, ← EReal.coe_mul]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have f : Real.exp (1 / 2 * r) * Real.exp (-(1 / 2 * r)) = 1 := by rw [← Real.exp_add]; simp
    rw [e]
    have p := Real.exp_pos (1 / 2 * r)
    have q := Real.exp_pos (-(1 / 2 * r))
    generalize Real.exp (1 / 2 * r) = a at *
    generalize Real.exp (-(1 / 2 * r)) = b at *
    have ha : a = b⁻¹ := eq_inv_of_mul_eq_one_left f
    subst ha
    field_simp
    ring

section
variable (x0 : Vec Ideal S8x512x128 .f32) (x1 : Vec Ideal S512x1024 .f32) (x2 : Vec Ideal S1x128 .f32) (r : Fin 512) (k : Fin 1024)

/-- One entry of a block. -/
def tile : EReal := cell (fun j => x0 (ix3 ⟨k.val / 128, by omega⟩ r j)) ⟨k.val % 128, by omega⟩ (x2 (ix2 0 ⟨k.val % 128, by omega⟩)) (x1 (ix2 r k))

theorem head (h : Fin 8) (a : ℕ) (ha : h.val = a) (j : Fin 128) (q : Fin 1024) (hq : q.val = k.val) (hj : k.val = a * 128 + j.val) :
    cell (fun j => x0 (ix3 h r j)) j (x2 (ix2 0 j)) (x1 (ix2 r q)) = tile x0 x1 x2 r k := by
  have e1 : h = ⟨k.val / 128, by omega⟩ := Fin.ext (by simp only; omega)
  have e2 : j = ⟨k.val % 128, by omega⟩ := Fin.ext (by simp only; omega)
  have e3 : q = k := Fin.ext hq
  rw [e3, tile, ← e1, ← e2]

theorem rows : k0_pay2 (k0_pay27 x0 x1 x2) x1 x2 (k0_pay28 x0 x1 x2) (k0_pay29 x0 x1 x2) (k0_pay30 x0 x1 x2) (k0_pay31 x0 x1 x2) (k0_pay32 x0 x1 x2) (k0_pay33 x0 x1 x2) (k0_pay34 x0 x1 x2) (k0_pay35 x0 x1 x2) (k0_pay36 x0 x1 x2) (k0_pay37 x0 x1 x2) (ix2 r k) = tile x0 x1 x2 r k := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
  simp only [sigmoid_eq]
  by_cases h0 : k.val < 128
  · rw [dif_pos h0]; exact head x0 x1 x2 r k 0 0 rfl ⟨_, _⟩ _ rfl (by simp only; omega)
  rw [dif_neg h0]
  by_cases h1 : k.val - 128 < 128
  · rw [dif_pos h1]; exact head x0 x1 x2 r k 1 1 rfl ⟨_, _⟩ ⟨_, _⟩ (by simp only; omega) (by simp only; omega)
  rw [dif_neg h1]
  by_cases h2 : k.val - 128 - 128 < 128
  · rw [dif_pos h2]; exact head x0 x1 x2 r k 2 2 rfl ⟨_, _⟩ ⟨_, _⟩ (by simp only; omega) (by simp only; omega)
  rw [dif_neg h2]
  by_cases h3 : k.val - 128 - 128 - 128 < 128
  · rw [dif_pos h3]; exact head x0 x1 x2 r k 3 3 rfl ⟨_, _⟩ ⟨_, _⟩ (by simp only; omega) (by simp only; omega)
  rw [dif_neg h3]
  by_cases h4 : k.val - 128 - 128 - 128 - 128 < 128
  · rw [dif_pos h4]; exact head x0 x1 x2 r k 4 4 rfl ⟨_, _⟩ ⟨_, _⟩ (by simp only; omega) (by simp only; omega)
  rw [dif_neg h4]
  by_cases h5 : k.val - 128 - 128 - 128 - 128 - 128 < 128
  · rw [dif_pos h5]; exact head x0 x1 x2 r k 5 5 rfl ⟨_, _⟩ ⟨_, _⟩ (by simp only; omega) (by simp only; omega)
  rw [dif_neg h5]
  by_cases h6 : k.val - 128 - 128 - 128 - 128 - 128 - 128 < 128
  · rw [dif_pos h6]; exact head x0 x1 x2 r k 6 6 rfl ⟨_, _⟩ ⟨_, _⟩ (by simp only; omega) (by simp only; omega)
  rw [dif_neg h6]
  exact head x0 x1 x2 r k 7 7 rfl ⟨_, _⟩ ⟨_, _⟩ (by simp only; omega) (by simp only; omega)

theorem columns : k0_pay3 (k0_pay27 x0 x1 x2) x1 x2 (k0_pay28 x0 x1 x2) (k0_pay29 x0 x1 x2) (k0_pay30 x0 x1 x2) (k0_pay31 x0 x1 x2) (k0_pay32 x0 x1 x2) (k0_pay33 x0 x1 x2) (k0_pay34 x0 x1 x2) (k0_pay35 x0 x1 x2) (k0_pay36 x0 x1 x2) (k0_pay37 x0 x1 x2) (ix2 k r) = tile x0 x1 x2 r k :=
  Eq.trans (by pointwise [k0_pay1, k0_pay2, k0_pay3]) (rows x0 x1 x2 r k)

end

variable (m : (ℓ : Loc nD τ sig) → Buf (Elt Ideal) ℓ)

theorem idx : ∀ t : Fin cfg0.N, win0_0.index t = ![0, t.val, 0] ∧ win0_1.index t = ![t.val, 6] ∧ win0_2.index t = ![0, 0] ∧ win0_3.index t = ![t.val, 0]
    ∧ win0_4.index t = ![0, t.val] :=
  (by decide +kernel : ∀ t : Fin grid0.N, _)

/-- A function of the three arguments' contents. -/
abbrev args {α : Sort*} (f : FVec Ideal S8x4096x128 .f32 → FVec Ideal S4096x7168 .f32 → FVec Ideal S1x128 .f32 → α) (c : Dev nD) : α :=
  f (m ((c : Thread nD τ).loc main_arg0)) (m ((c : Thread nD τ).loc main_arg1)) (m ((c : Thread nD τ).loc main_arg2))

theorem final (c : Dev nD) : (dats m 0 c).arrAt 3 cfg0.N = args m gated c := by
  refine (dats m 0 c).arrAt_eq_of_covers 3 _ (by decide +kernel) fun t hf y => ?_
  blk_simp
  rw [after0_3]
  unfold out0_3
  frame_out
  idx_vars y
  refine (rows _ _ _ y0 y1).trans ?_
  pointwise [tile, cell, gated]
  blk_point [iblk, V, idx t]

theorem finalT (c : Dev nD) : (dats m 0 c).arrAt 4 cfg0.N = args m gatedT c := by
  refine (dats m 0 c).arrAt_eq_of_covers 4 _ (by decide +kernel) fun t hf y => ?_
  blk_simp
  rw [after0_4]
  unfold out0_4
  frame_out
  idx_vars y
  refine (columns _ _ _ y1 y0).trans ?_
  pointwise [tile, cell, gatedT]
  blk_point [iblk, V, idx t]

end Cert.Kernel15Ideal.Prod

namespace Cert.Proof

theorem frameR15 : Cert.quiescent_Reference15Ideal (hReference15Ideal := Cert.Reference15Ideal.Gen.facts) := fun m ρ _ =>
  (θ_run Cert.Reference15Ideal.defs _ _).mono (fun r h => ⟨fun c => (h c).2.2, Idealize.ShloMosaic.sem_eq_zero_of_no_sems (by decide) r.2⟩)
    (Cert.Reference15Ideal.Value.run (F := Ideal) m ρ)

theorem algebraic15 : Cert.algebraic_Kernel15Ideal_Reference15Ideal (hKernel15Ideal := Cert.Kernel15Ideal.Gen.facts) (hReference15Ideal := Cert.Reference15Ideal.Gen.facts) := fun m g m' g' _ hm =>
  ⟨fun c => Cert.Reference15Ideal.Prod.gated (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)),
    fun c => Cert.Reference15Ideal.Prod.gatedT (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)),
    (θ_run Cert.Kernel15Ideal.defs _ _).mono (fun _ h c => ⟨(h c).1.trans (Cert.Kernel15Ideal.Prod.final m c), (h c).2.1.trans (Cert.Kernel15Ideal.Prod.finalT m c), (h c).2.2⟩) (Cert.Kernel15Ideal.Value.run_blocks m g),
    (θ_run Cert.Reference15Ideal.defs _ _).mono (fun _ h c => ⟨(h c).1.trans (show Cert.Reference15Ideal.Prod.gated (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) = _ from by rw [(hm c).1, (hm c).2.1, (hm c).2.2]),
        (h c).2.1.trans (show Cert.Reference15Ideal.Prod.gatedT (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) = _ from by rw [(hm c).1, (hm c).2.1, (hm c).2.2]), (h c).2.2⟩)
      (Cert.Reference15Ideal.Value.run (F := Ideal) m' g')⟩

end Cert.Proof

end
-- ==== Proof.Product16.lean ====
/- The gate of the channel mixing branch: layer norm, causal mixing within chunks, bias, and the two gates. -/
module

public import proofs.«01_k».proof.Defs
public import proofs.«01_k».proof.Proof.Gen.Kernel16Ideal.Frame
public import proofs.«01_k».proof.Proof.Gen.Kernel16Ideal.Value
public import proofs.«01_k».proof.Proof.Gen.Kernel16Ideal
public import proofs.«01_k».proof.Proof.Gen.Reference16Ideal
public import proofs.«01_k».proof.Proof.Gen.Reference16Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference16Ideal.Prod

open Cert.Reference16Ideal Cert.Reference16Ideal.Gen

/-- The gated mixing. -/
def gate (x0 : FVec Ideal S4096x7168 .f32) (x1 : FVec Ideal S1x1024 .f32) (x2 : FVec Ideal S1x1024 .f32) (x3 : FVec Ideal S8x128x128 .f32) (x4 : FVec Ideal S8x128 .f32) : FVec Ideal S4096x1024 .bf16 :=
  truncf .bf16 (mulf (mulf (extractStridedSlice S4096x1024 ![0, 3072] x0 slices_S4096x7168_S4096x1024_0_3072) (shapeCast _ (addf (transpose S32x128x8x128 [1, 3, 0, 2] (Host.dotGeneral dot_S32x128x8x128_S8x128x128_S8x32x128x128_1_2_03_1_2_0 none (shapeCast _ (addf (mulf (mulf (subf (extractStridedSlice S4096x1024 ![0, 4096] x0 slices_S4096x7168_S4096x1024_0_4096) (broadcastInDim S4096x1024 ![0, 1] bcast_S4096x1_S4096x1024_0_1 (Host.divf (broadcastInDim S4096x1 ![0] bcast_S4096_S4096x1_0 (Host.reduceAdd (extractStridedSlice S4096x1024 ![0, 4096] x0 slices_S4096x7168_S4096x1024_0_4096) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (extractStridedSlice S4096x1024 ![0, 4096] x0 slices_S4096x7168_S4096x1024_0_4096) (broadcastInDim S4096x1024 ![0, 1] bcast_S4096x1_S4096x1024_0_1 (Host.divf (broadcastInDim S4096x1 ![0] bcast_S4096_S4096x1_0 (Host.reduceAdd (extractStridedSlice S4096x1024 ![0, 4096] x0 slices_S4096x7168_S4096x1024_0_4096) (constant S_ .f32 0x00000000#32) reducesTo_S4096x1024_S4096_d1 h_S_)) (broadcastInDim S4096x1 ![] bcast_S_S4096x1 (constant S_ .f32 0x44800000#32))))) (subf (extractStridedSlice S4096x1024 ![0, 4096] x0 slices_S4096x7168_S4096x1024_0_4096) (broadcastInDim S4096x1024 ![0, 1] bcast_S4096x1_S4096x1024_0_1 (Host.divf (broadcastInDim S4096x1 ![0] bcast_S4096_S4096x1_0 (Host.reduceAdd (extractStridedSlice S4096x1024 ![0, 4096] x0 slices_S4096x7168_S4096x1024_0_4096) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ x1 shapeCasts_S1x1024_S1024)))) (broadcastInDim S4096x1024 ![0, 1] bcast_S1x1024_S4096x1024_0_1 (broadcastInDim S1x1024 ![1] bcast_S1024_S1x1024_1 (shapeCast _ x2 shapeCasts_S1x1024_S1024)))) shapeCasts_S4096x1024_S32x128x8x128) (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) x3 (broadcastInDim S8x128x128 ![] bcast_S_S8x128x128 (id (constant S_ .f32 0x00000000#32))))) transposes_S8x32x128x128_S32x128x8x128_1_3_0_2) (broadcastInDim S32x128x8x128 ![0, 1, 2, 3] bcast_S1x128x8x1_S32x128x8x128_0_1_2_3 (broadcastInDim S1x128x8x1 ![1, 2] bcast_S128x8_S1x128x8x1_1_2 (transpose S128x8 [1, 0] x4 transposes_S8x128_S128x8_1_0)))) shapeCasts_S32x128x8x128_S4096x1024)) (mulf (extractStridedSlice S4096x1024 ![0, 5120] x0 slices_S4096x7168_S4096x1024_0_5120) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 5120] x0 slices_S4096x7168_S4096x1024_0_5120))))))) bitsLt_bf16_f32

/-- The same, transposed. -/
def gateT (x0 : FVec Ideal S4096x7168 .f32) (x1 : FVec Ideal S1x1024 .f32) (x2 : FVec Ideal S1x1024 .f32) (x3 : FVec Ideal S8x128x128 .f32) (x4 : FVec Ideal S8x128 .f32) : FVec Ideal S1024x4096 .bf16 :=
  transpose S1024x4096 [1, 0] (gate x0 x1 x2 x3 x4) transposes_S4096x1024_S1024x4096_1_0

end Cert.Reference16Ideal.Prod

namespace Cert.Kernel16Ideal.Prod

open Cert.Kernel16Ideal Cert.Kernel16Ideal.Gen

/-- The kernel's sigmoid, written with the hyperbolic tangent, is the sigmoid at every extended real. -/
theorem sigmoid_eq (z : EReal) : Ideal.ofBits .f32 0x3F000000#32 * (Ideal.tanh (Ideal.ofBits .f32 0x3F000000#32 * z) + 1) = Ideal.div 1 (1 + Ideal.exp (-z)) := by
  have hh : Ideal.ofBits .f32 0x3F000000#32 = ((1 / 2 : ℝ) : EReal) := by
    simp [Ideal.ofBits, Ideal.ieee, -EReal.coe_mul]; norm_num
  rw [hh]
  change _ = Ideal.logistic z
  induction z with
  | bot =>
    rw [EReal.coe_mul_bot_of_pos (by norm_num), Ideal.tanh_bot, Ideal.logistic_bot]
    have : (-1 : EReal) + 1 = 0 := by
      rw [show (-1 : EReal) = ((-1 : ℝ) : EReal) by norm_num, show (1 : EReal) = ((1 : ℝ) : EReal) by norm_num, ← EReal.coe_add]; norm_num
    rw [this, mul_zero]
  | top =>
    rw [EReal.coe_mul_top_of_pos (by norm_num), Ideal.tanh_top, Ideal.logistic_top]
    rw [show (1 : EReal) = ((1 : ℝ) : EReal) by norm_num, ← EReal.coe_add, ← EReal.coe_mul]; norm_num
  | coe r =>
    rw [← EReal.coe_mul, Ideal.tanh_coe, Ideal.logistic_coe, show (1 : EReal) = ((1 : ℝ) : EReal) by norm_num, ← EReal.coe_add, ← EReal.coe_mul]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have f : Real.exp (1 / 2 * r) * Real.exp (-(1 / 2 * r)) = 1 := by rw [← Real.exp_add]; simp
    rw [e]
    have p := Real.exp_pos (1 / 2 * r)
    have q := Real.exp_pos (-(1 / 2 * r))
    generalize Real.exp (1 / 2 * r) = a at *
    generalize Real.exp (-(1 / 2 * r)) = b at *
    have ha : a = b⁻¹ := eq_inv_of_mul_eq_one_left f
    subst ha
    field_simp
    ring

/-- The layer norm of a row at one column. -/
def normed (v : Fin 1024 → EReal) (w b : EReal) (k : Fin 1024) : EReal :=
  (v k - Ideal.div (∑ x, v x) (Ideal.ofBits .f32 0x44800000#32))
    * Ideal.rsqrt (Ideal.div (∑ x, (v x - Ideal.div (∑ x, v x) (Ideal.ofBits .f32 0x44800000#32)) * (v x - Ideal.div (∑ x, v x) (Ideal.ofBits .f32 0x44800000#32))) (Ideal.ofBits .f32 0x44800000#32) + Ideal.ofBits .f32 0x358637BD#32)
    * w + b

/-- The causal mixing of a chunk at position `p`: the products at positions up to `p`, and the bias. -/
def mix (w v : Fin 128 → EReal) (p : ℕ) (b : EReal) : EReal :=
  ∑ x, Scalar.select (IntOp.cmpi .sge (BitVec.ofNat 32 p) (BitVec.ofNat 32 x.val)) (w x * v x) 0 + b

section
variable (x0 : Vec Ideal S256x1024 .f32) (x1 : Vec Ideal S256x1024 .f32) (x2 : Vec Ideal S256x1024 .f32) (x3 : Vec Ideal S1x1024 .f32) (x4 : Vec Ideal S1x1024 .f32) (x5 : Vec Ideal S8x128x128 .f32) (x6 : Vec Ideal S8x128x128 .f32)

/-- The layer norm of a row of the block. -/
def row (r : Fin 256) (k : Fin 1024) : EReal := normed (fun x => x1 (ix2 r x)) (x3 (ix2 0 k)) (x4 (ix2 0 k)) k

theorem row_eq (r : Fin 256) (k : Fin 1024) : k0_pay43 x0 x1 x2 x3 x4 x5 x6 (ix2 r k) = row x1 x3 x4 r k := by
  unfold row normed
  pointwise [k0_pay43, k0_pay41, k0_pay42, k0_pay20, k0_pay21, k0_pay22]

theorem row_eq' (r : Fin 256) (k : Fin 1024) : k0_pay22 (k0_pay41 x0 x1 x2 x3 x4 x5 x6) (k0_pay42 x0 x1 x2 x3 x4 x5 x6) (ix2 r k) = row x1 x3 x4 r k :=
  row_eq x0 x1 x2 x3 x4 x5 x6 r k

/-- One group's mixing at a row of the block. -/
def group (h : Fin 8) (r : Fin 256) (j : Fin 128) : EReal :=
  mix (fun x => x5 (ix3 h ⟨r.val % 128, by omega⟩ x)) (fun x => row x1 x3 x4 ⟨r.val / 128 * 128 + x.val, by omega⟩ ⟨h.val * 128 + j.val, by omega⟩) (r.val % 128) (x6 (ix3 h ⟨r.val % 128, by omega⟩ j))

theorem chunk (h : Fin 8) (a : ℕ) (ha : h.val = a) (r : Fin 256) (j : Fin 128) (p : Fin 128) (f : Fin 128 → Fin 256) (q : Fin 1024)
    (hp : p.val = r.val % 128) (hf : ∀ x, (f x).val = r.val / 128 * 128 + x.val) (hq : q.val = a * 128 + j.val) :
    ∑ x : Fin 128, Scalar.select (IntOp.cmpi .sge (BitVec.ofNat 32 p.val) (BitVec.ofNat 32 x.val)) (x5 (ix3 h p x) * row x1 x3 x4 (f x) q) 0 + x6 (ix3 h p j)
      = group x1 x3 x4 x5 x6 h r j := by
  have e1 : p = ⟨r.val % 128, by omega⟩ := Fin.ext hp
  have e2 : f = fun x => ⟨r.val / 128 * 128 + x.val, by omega⟩ := funext fun x => Fin.ext (hf x)
  have e3 : q = ⟨h.val * 128 + j.val, by omega⟩ := Fin.ext (by simp only; omega)
  rw [e1, e2, e3]
  rfl

theorem group0 (r : Fin 256) (j : Fin 128) : k0_pay45 x0 x1 x2 x3 x4 x5 x6 (ix2 r j) = group x1 x3 x4 x5 x6 0 r j := by
  pointwise [k0_pay45, k0_pay24, k0_pay4, k0_pay12, k0_pay44, k0_pay23]
  simp only [row_eq, row_eq']
  by_cases hr : r.val < 128
  · rw [dif_pos hr]; exact chunk x1 x3 x4 x5 x6 0 0 rfl r j ⟨r.val, hr⟩ (fun x => ⟨x.val, by omega⟩) ⟨j.val, by omega⟩ (by simp only; omega) (fun x => by simp only; omega) (by first | rfl | (simp only; omega))
  · rw [dif_neg hr]; exact chunk x1 x3 x4 x5 x6 0 0 rfl r j ⟨r.val - 128, by omega⟩ (fun x => ⟨128 + x.val, by omega⟩) ⟨j.val, by omega⟩ (by simp only; omega) (fun x => by simp only; omega) (by first | rfl | (simp only; omega))

theorem group1 (r : Fin 256) (j : Fin 128) : k0_pay46 x0 x1 x2 x3 x4 x5 x6 (ix2 r j) = group x1 x3 x4 x5 x6 1 r j := by
  pointwise [k0_pay46, k0_pay25, k0_pay5, k0_pay13, k0_pay44, k0_pay23]
  simp only [row_eq, row_eq']
  by_cases hr : r.val < 128
  · rw [dif_pos hr]; exact chunk x1 x3 x4 x5 x6 1 1 rfl r j ⟨r.val, hr⟩ (fun x => ⟨x.val, by omega⟩) ⟨128 + j.val, by omega⟩ (by simp only; omega) (fun x => by simp only; omega) (by first | rfl | (simp only; omega))
  · rw [dif_neg hr]; exact chunk x1 x3 x4 x5 x6 1 1 rfl r j ⟨r.val - 128, by omega⟩ (fun x => ⟨128 + x.val, by omega⟩) ⟨128 + j.val, by omega⟩ (by simp only; omega) (fun x => by simp only; omega) (by first | rfl | (simp only; omega))

theorem group2 (r : Fin 256) (j : Fin 128) : k0_pay47 x0 x1 x2 x3 x4 x5 x6 (ix2 r j) = group x1 x3 x4 x5 x6 2 r j := by
  pointwise [k0_pay47, k0_pay26, k0_pay6, k0_pay14, k0_pay44, k0_pay23]
  simp only [row_eq, row_eq']
  by_cases hr : r.val < 128
  · rw [dif_pos hr]; exact chunk x1 x3 x4 x5 x6 2 2 rfl r j ⟨r.val, hr⟩ (fun x => ⟨x.val, by omega⟩) ⟨256 + j.val, by omega⟩ (by simp only; omega) (fun x => by simp only; omega) (by first | rfl | (simp only; omega))
  · rw [dif_neg hr]; exact chunk x1 x3 x4 x5 x6 2 2 rfl r j ⟨r.val - 128, by omega⟩ (fun x => ⟨128 + x.val, by omega⟩) ⟨256 + j.val, by omega⟩ (by simp only; omega) (fun x => by simp only; omega) (by first | rfl | (simp only; omega))

theorem group3 (r : Fin 256) (j : Fin 128) : k0_pay48 x0 x1 x2 x3 x4 x5 x6 (ix2 r j) = group x1 x3 x4 x5 x6 3 r j := by
  pointwise [k0_pay48, k0_pay30, k0_pay37, k0_pay39, k0_pay27, k0_pay28, k0_pay29, k0_pay7, k0_pay15, k0_pay44, k0_pay23]
  simp only [row_eq, row_eq']
  by_cases hr : r.val < 128
  · rw [dif_pos hr]; exact chunk x1 x3 x4 x5 x6 3 3 rfl r j ⟨r.val, hr⟩ (fun x => ⟨x.val, by omega⟩) ⟨384 + j.val, by omega⟩ (by simp only; omega) (fun x => by simp only; omega) (by first | rfl | (simp only; omega))
  · rw [dif_neg hr]; exact chunk x1 x3 x4 x5 x6 3 3 rfl r j ⟨r.val - 128, by omega⟩ (fun x => ⟨128 + x.val, by omega⟩) ⟨384 + j.val, by omega⟩ (by simp only; omega) (fun x => by simp only; omega) (by first | rfl | (simp only; omega))

theorem group4 (r : Fin 256) (j : Fin 128) : k0_pay49 x0 x1 x2 x3 x4 x5 x6 (ix2 r j) = group x1 x3 x4 x5 x6 4 r j := by
  pointwise [k0_pay49, k0_pay31, k0_pay8, k0_pay16, k0_pay44, k0_pay23]
  simp only [row_eq, row_eq']
  by_cases hr : r.val < 128
  · rw [dif_pos hr]; exact chunk x1 x3 x4 x5 x6 4 4 rfl r j ⟨r.val, hr⟩ (fun x => ⟨x.val, by omega⟩) ⟨512 + j.val, by omega⟩ (by simp only; omega) (fun x => by simp only; omega) (by first | rfl | (simp only; omega))
  · rw [dif_neg hr]; exact chunk x1 x3 x4 x5 x6 4 4 rfl r j ⟨r.val - 128, by omega⟩ (fun x => ⟨128 + x.val, by omega⟩) ⟨512 + j.val, by omega⟩ (by simp only; omega) (fun x => by simp only; omega) (by first | rfl | (simp only; omega))

theorem group5 (r : Fin 256) (j : Fin 128) : k0_pay50 x0 x1 x2 x3 x4 x5 x6 (ix2 r j) = group x1 x3 x4 x5 x6 5 r j := by
  pointwise [k0_pay50, k0_pay32, k0_pay9, k0_pay17, k0_pay44, k0_pay23]
  simp only [row_eq, row_eq']
  by_cases hr : r.val < 128
  · rw [dif_pos hr]; exact chunk x1 x3 x4 x5 x6 5 5 rfl r j ⟨r.val, hr⟩ (fun x => ⟨x.val, by omega⟩) ⟨640 + j.val, by omega⟩ (by simp only; omega) (fun x => by simp only; omega) (by first | rfl | (simp only; omega))
  · rw [dif_neg hr]; exact chunk x1 x3 x4 x5 x6 5 5 rfl r j ⟨r.val - 128, by omega⟩ (fun x => ⟨128 + x.val, by omega⟩) ⟨640 + j.val, by omega⟩ (by simp only; omega) (fun x => by simp only; omega) (by first | rfl | (simp only; omega))

theorem group6 (r : Fin 256) (j : Fin 128) : k0_pay51 x0 x1 x2 x3 x4 x5 x6 (ix2 r j) = group x1 x3 x4 x5 x6 6 r j := by
  pointwise [k0_pay51, k0_pay33, k0_pay10, k0_pay18, k0_pay44, k0_pay23]
  simp only [row_eq, row_eq']
  by_cases hr : r.val < 128
  · rw [dif_pos hr]; exact chunk x1 x3 x4 x5 x6 6 6 rfl r j ⟨r.val, hr⟩ (fun x => ⟨x.val, by omega⟩) ⟨768 + j.val, by omega⟩ (by simp only; omega) (fun x => by simp only; omega) (by first | rfl | (simp only; omega))
  · rw [dif_neg hr]; exact chunk x1 x3 x4 x5 x6 6 6 rfl r j ⟨r.val - 128, by omega⟩ (fun x => ⟨128 + x.val, by omega⟩) ⟨768 + j.val, by omega⟩ (by simp only; omega) (fun x => by simp only; omega) (by first | rfl | (simp only; omega))

theorem group7 (r : Fin 256) (j : Fin 128) : (if hr : r.val < 128 then k0_pay53 x0 x1 x2 x3 x4 x5 x6 (ix2 ⟨r.val, hr⟩ j)
      else ∑ x : Fin 128, k0_pay52 x0 x1 x2 x3 x4 x5 x6 (ix2 ⟨r.val - 128, by omega⟩ x) * k0_pay54 x0 x1 x2 x3 x4 x5 x6 (ix2 x j) + k0_pay40 x0 x1 x2 x3 x4 x5 x6 (ix2 ⟨r.val - 128, by omega⟩ j)) = group x1 x3 x4 x5 x6 7 r j := by
  by_cases hr : r.val < 128
  · rw [dif_pos hr]
    pointwise [k0_pay53, k0_pay35, k0_pay34, k0_pay38, k0_pay11, k0_pay40, k0_pay19, k0_pay44, k0_pay23]
    simp only [row_eq, row_eq']
    exact chunk x1 x3 x4 x5 x6 7 7 rfl r j ⟨r.val, hr⟩ (fun x => ⟨x.val, by omega⟩) ⟨896 + j.val, by omega⟩ (by simp only; omega) (fun x => by simp only; omega) (by first | rfl | (simp only; omega))
  · rw [dif_neg hr]
    pointwise [k0_pay52, k0_pay54, k0_pay34, k0_pay36, k0_pay38, k0_pay11, k0_pay40, k0_pay19, k0_pay44, k0_pay23]
    simp only [row_eq, row_eq']
    exact chunk x1 x3 x4 x5 x6 7 7 rfl r j ⟨r.val - 128, by omega⟩ (fun x => ⟨128 + x.val, by omega⟩) ⟨896 + j.val, by omega⟩ (by simp only; omega) (fun x => by simp only; omega) (by first | rfl | (simp only; omega))

theorem pick (r : Fin 256) (k : Fin 1024) (h : Fin 8) (a : ℕ) (ha : h.val = a) (j : Fin 128) (hj : k.val = a * 128 + j.val) :
    group x1 x3 x4 x5 x6 h r j = group x1 x3 x4 x5 x6 ⟨k.val / 128, by omega⟩ r ⟨k.val % 128, by omega⟩ := by
  have e1 : h = ⟨k.val / 128, by omega⟩ := Fin.ext (by simp only; omega)
  have e2 : j = ⟨k.val % 128, by omega⟩ := Fin.ext (by simp only; omega)
  rw [← e1, ← e2]

/-- One entry of a block. -/
def tile (r : Fin 256) (k : Fin 1024) : EReal :=
  x0 (ix2 r k) * group x1 x3 x4 x5 x6 ⟨k.val / 128, by omega⟩ r ⟨k.val % 128, by omega⟩ * (x2 (ix2 r k) * Ideal.div 1 (1 + Ideal.exp (-x2 (ix2 r k))))

theorem rows (r : Fin 256) (k : Fin 1024) : k0_pay2 x0 x2 (k0_pay40 x0 x1 x2 x3 x4 x5 x6) (k0_pay45 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (ix2 r k) = tile x0 x1 x2 x3 x4 x5 x6 r k := by
  pointwise [k0_pay2, k0_pay1]
  simp only [sigmoid_eq, group0, group1, group2, group3, group4, group5, group6]
  unfold tile
  refine congrArg (x0 (ix2 r k) * · * (x2 (ix2 r k) * Ideal.div 1 (1 + Ideal.exp (-x2 (ix2 r k))))) ?_
  by_cases h0 : k.val < 128
  · rw [dif_pos h0]; exact pick x1 x3 x4 x5 x6 r k 0 0 rfl ⟨k.val, by omega⟩ (by simp only; omega)
  rw [dif_neg h0]
  by_cases h1 : k.val - 128 < 128
  · rw [dif_pos h1]; exact pick x1 x3 x4 x5 x6 r k 1 1 rfl ⟨k.val - 128, by omega⟩ (by simp only; omega)
  rw [dif_neg h1]
  by_cases h2 : k.val - 128 - 128 < 128
  · rw [dif_pos h2]; exact pick x1 x3 x4 x5 x6 r k 2 2 rfl ⟨k.val - 128 - 128, by omega⟩ (by simp only; omega)
  rw [dif_neg h2]
  by_cases h3 : k.val - 128 - 128 - 128 < 128
  · rw [dif_pos h3]; exact pick x1 x3 x4 x5 x6 r k 3 3 rfl ⟨k.val - 128 - 128 - 128, by omega⟩ (by simp only; omega)
  rw [dif_neg h3]
  by_cases h4 : k.val - 128 - 128 - 128 - 128 < 128
  · rw [dif_pos h4]; exact pick x1 x3 x4 x5 x6 r k 4 4 rfl ⟨k.val - 128 - 128 - 128 - 128, by omega⟩ (by simp only; omega)
  rw [dif_neg h4]
  by_cases h5 : k.val - 128 - 128 - 128 - 128 - 128 < 128
  · rw [dif_pos h5]; exact pick x1 x3 x4 x5 x6 r k 5 5 rfl ⟨k.val - 128 - 128 - 128 - 128 - 128, by omega⟩ (by simp only; omega)
  rw [dif_neg h5]
  by_cases h6 : k.val - 128 - 128 - 128 - 128 - 128 - 128 < 128
  · rw [dif_pos h6]; exact pick x1 x3 x4 x5 x6 r k 6 6 rfl ⟨k.val - 128 - 128 - 128 - 128 - 128 - 128, by omega⟩ (by simp only; omega)
  rw [dif_neg h6]
  exact (group7 x0 x1 x2 x3 x4 x5 x6 r ⟨k.val - 128 - 128 - 128 - 128 - 128 - 128 - 128, by omega⟩).trans (pick x1 x3 x4 x5 x6 r k 7 7 rfl ⟨k.val - 128 - 128 - 128 - 128 - 128 - 128 - 128, by omega⟩ (by simp only; omega))

theorem columns (r : Fin 256) (k : Fin 1024) : k0_pay3 x0 x2 (k0_pay40 x0 x1 x2 x3 x4 x5 x6) (k0_pay45 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6) (k0_pay53 x0 x1 x2 x3 x4 x5 x6) (k0_pay54 x0 x1 x2 x3 x4 x5 x6) (ix2 k r) = tile x0 x1 x2 x3 x4 x5 x6 r k :=
  Eq.trans (by pointwise [k0_pay1, k0_pay2, k0_pay3]) (rows x0 x1 x2 x3 x4 x5 x6 r k)

end

open Cert.Reference16Ideal.Prod (gate gateT)

/-- The mask on the weights is the mask on the products. -/
theorem masked (p x : BitVec 32) (w v : EReal) :
    v * Scalar.select (Scalar.select (IntOp.cmpi .sge (IntOp.addi p 0#32) x) 1#1 0#1) w 0 = Scalar.select (IntOp.cmpi .sge p x) (w * v) 0 := by
  have e : IntOp.addi p 0#32 = p := by simp [IntOp.addi]
  rw [e]
  generalize IntOp.cmpi .sge p x = b
  have hb : b = 0#1 ∨ b = 1#1 := by revert b; decide
  rcases hb with rfl | rfl
  · simp [Scalar.select]
  · simp [Scalar.select, mul_comm]

theorem gate_at (x0 : FVec Ideal S4096x7168 .f32) (x1 : FVec Ideal S1x1024 .f32) (x2 : FVec Ideal S1x1024 .f32) (x3 : FVec Ideal S8x128x128 .f32) (x4 : FVec Ideal S8x128 .f32)
    (n : Fin 4096) (k : Fin 1024) : gate x0 x1 x2 x3 x4 (ix2 n k)
    = x0 (ix2 n ⟨3072 + k.val, by omega⟩)
      * mix (fun x => x3 (ix3 ⟨k.val / 128, by omega⟩ ⟨n.val % 128, by omega⟩ x)) (fun x => normed (fun z => x0 (ix2 ⟨n.val / 128 * 128 + x.val, by omega⟩ ⟨4096 + z.val, by omega⟩)) (x1 (ix2 0 k)) (x2 (ix2 0 k)) k) (n.val % 128) (x4 (ix2 ⟨k.val / 128, by omega⟩ ⟨n.val % 128, by omega⟩))
      * (x0 (ix2 n ⟨5120 + k.val, by omega⟩) * Ideal.div 1 (1 + Ideal.exp (-x0 (ix2 n ⟨5120 + k.val, by omega⟩)))) := by
  have z : (id (constant (F := Ideal) Cert.Reference16Ideal.S_ .f32 0#32) ix0 : EReal) = 0 := by
    show Ideal.ofBits .f32 0#32 = 0
    simp [Ideal.ofBits, Ideal.ieee]
  unfold mix normed
  pointwise [gate]
  simp only [z, masked]

theorem gateT_at (x0 : FVec Ideal S4096x7168 .f32) (x1 : FVec Ideal S1x1024 .f32) (x2 : FVec Ideal S1x1024 .f32) (x3 : FVec Ideal S8x128x128 .f32) (x4 : FVec Ideal S8x128 .f32)
    (n : Fin 4096) (k : Fin 1024) : gateT x0 x1 x2 x3 x4 (ix2 k n) = gate x0 x1 x2 x3 x4 (ix2 n k) := by
  unfold gateT
  generalize gate x0 x1 x2 x3 x4 = g
  pointwise []

variable (m : (ℓ : Loc nD τ sig) → Buf (Elt Ideal) ℓ)

theorem idx : ∀ t : Fin cfg0.N, win0_0.index t = ![t.val, 3] ∧ win0_1.index t = ![t.val, 4] ∧ win0_2.index t = ![t.val, 5] ∧ win0_3.index t = ![0, 0]
    ∧ win0_4.index t = ![0, 0] ∧ win0_5.index t = ![0, 0, 0] ∧ win0_6.index t = ![0, 0, 0] ∧ win0_7.index t = ![t.val, 0] ∧ win0_8.index t = ![0, t.val] :=
  (by decide +kernel : ∀ t : Fin grid0.N, _)

/-- A function of the five arguments' contents. -/
abbrev args {α : Sort*} (f : FVec Ideal S4096x7168 .f32 → FVec Ideal S1x1024 .f32 → FVec Ideal S1x1024 .f32 → FVec Ideal S8x128x128 .f32 → FVec Ideal S8x128 .f32 → α) (c : Dev nD) : α :=
  f (m ((c : Thread nD τ).loc main_arg0)) (m ((c : Thread nD τ).loc main_arg1)) (m ((c : Thread nD τ).loc main_arg2)) (m ((c : Thread nD τ).loc main_arg3)) (m ((c : Thread nD τ).loc main_arg4))

/-- The bias, repeated along the channels, as the region finds it. -/
theorem bias (c : Dev nD) (h : Fin 8) (p j : Fin 128) : (V m c main_v1 : FVec Ideal S8x128x128 .f32) (ix3 h p j) = (m ((c : Thread nD τ).loc main_arg4) : FVec Ideal S8x128 .f32) (ix2 h p) := by
  unfold V
  after_results
  pointwise []

theorem mix_congr {w w' v v' : Fin 128 → EReal} {p p' : ℕ} {b b' : EReal} (hw : ∀ x, w x = w' x) (hv : ∀ x, v x = v' x) (hp : p = p') (hb : b = b') : mix w v p b = mix w' v' p' b' := by
  rw [funext hw, funext hv, hp, hb]

theorem normed_congr {v v' : Fin 1024 → EReal} {w w' b b' : EReal} {k k' : Fin 1024} (hv : ∀ x, v x = v' x) (hw : w = w') (hb : b = b') (hk : k = k') : normed v w b k = normed v' w' b' k' := by
  rw [funext hv, hw, hb, hk]

theorem point (c : Dev nD) (t : Fin cfg0.N) (r : Fin 256) (k : Fin 1024) (n : Fin 4096) (hn : n.val = 256 * t.val + r.val) :
    tile (iblk m c 0 t) (iblk m c 1 t) (iblk m c 2 t) (iblk m c 3 t) (iblk m c 4 t) (iblk m c 5 t) (iblk m c 6 t) r k = args m gate c (ix2 n k) := by
  have hk : (⟨k.val / 128 * 128 + k.val % 128, by omega⟩ : Fin 1024) = k := Fin.ext (by simp only; omega)
  have hz : (iblk m c 2 t : Vec Ideal S256x1024 .f32) (ix2 r k) = (m ((c : Thread nD τ).loc main_arg0) : FVec Ideal S4096x7168 .f32) (ix2 n ⟨5120 + k.val, by omega⟩) := by
    blk_ext [iblk, V, idx t]
  have hu : (iblk m c 0 t : Vec Ideal S256x1024 .f32) (ix2 r k) = (m ((c : Thread nD τ).loc main_arg0) : FVec Ideal S4096x7168 .f32) (ix2 n ⟨3072 + k.val, by omega⟩) := by
    blk_ext [iblk, V, idx t]
  refine Eq.trans ?_ (gate_at _ _ _ _ _ n k).symm
  unfold tile group row
  refine congrArg₂ (fun a b : EReal => a * b) (congrArg₂ (fun a b : EReal => a * b) hu (mix_congr (fun x => ?_) (fun x => normed_congr (fun z => ?_) ?_ ?_ hk) ?_ ?_))
    (congrArg (fun a : EReal => a * Ideal.div 1 (1 + Ideal.exp (-a))) hz)
  · blk_ext [iblk, V, idx t]
  · blk_ext [iblk, V, idx t]
  · rw [hk]; blk_ext [iblk, V, idx t]
  · rw [hk]; blk_ext [iblk, V, idx t]
  · omega
  · refine Eq.trans ?_ (bias m c _ _ ⟨k.val % 128, by omega⟩)
    blk_ext [iblk, idx t]

theorem final (c : Dev nD) : (dats m 0 c).arrAt 7 cfg0.N = args m gate c := by
  refine (dats m 0 c).arrAt_eq_of_covers 7 _ (by decide +kernel) fun t hf y => ?_
  have ht : t.val < 16 := t.isLt
  blk_simp
  rw [after0_7]
  unfold out0_7
  frame_out
  idx_vars y
  refine (rows _ _ _ _ _ _ _ y0 y1).trans ((point m c t y0 y1 ⟨256 * t.val + y0.val, by omega⟩ rfl).trans ?_)
  refine congrArg (args m gate c) ?_
  blk_ext [idx t]

theorem finalT (c : Dev nD) : (dats m 0 c).arrAt 8 cfg0.N = args m gateT c := by
  refine (dats m 0 c).arrAt_eq_of_covers 8 _ (by decide +kernel) fun t hf y => ?_
  have ht : t.val < 16 := t.isLt
  blk_simp
  rw [after0_8]
  unfold out0_8
  frame_out
  idx_vars y
  refine (columns _ _ _ _ _ _ _ y1 y0).trans ((point m c t y1 y0 ⟨256 * t.val + y1.val, by omega⟩ rfl).trans ?_)
  refine (gateT_at _ _ _ _ _ _ _).symm.trans (congrArg (args m gateT c) ?_)
  blk_ext [idx t]

end Cert.Kernel16Ideal.Prod

namespace Cert.Proof

theorem frameR16 : Cert.quiescent_Reference16Ideal (hReference16Ideal := Cert.Reference16Ideal.Gen.facts) := fun m ρ _ =>
  (θ_run Cert.Reference16Ideal.defs _ _).mono (fun r h => ⟨fun c => (h c).2.2, Idealize.ShloMosaic.sem_eq_zero_of_no_sems (by decide) r.2⟩)
    (Cert.Reference16Ideal.Value.run (F := Ideal) m ρ)

theorem algebraic16 : Cert.algebraic_Kernel16Ideal_Reference16Ideal (hKernel16Ideal := Cert.Kernel16Ideal.Gen.facts) (hReference16Ideal := Cert.Reference16Ideal.Gen.facts) := fun m g m' g' _ hm =>
  ⟨fun c => Cert.Reference16Ideal.Prod.gate (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)),
    fun c => Cert.Reference16Ideal.Prod.gateT (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)),
    (θ_run Cert.Kernel16Ideal.defs _ _).mono (fun _ h c => ⟨(h c).1.trans (Cert.Kernel16Ideal.Prod.final m c), (h c).2.1.trans (Cert.Kernel16Ideal.Prod.finalT m c), (h c).2.2⟩) (Cert.Kernel16Ideal.Value.run_blocks m g),
    (θ_run Cert.Reference16Ideal.defs _ _).mono (fun _ h c => ⟨(h c).1.trans (show Cert.Reference16Ideal.Prod.gate (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) = _ from by rw [(hm c).1, (hm c).2.1, (hm c).2.2.1, (hm c).2.2.2.1, (hm c).2.2.2.2]),
        (h c).2.1.trans (show Cert.Reference16Ideal.Prod.gateT (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) = _ from by rw [(hm c).1, (hm c).2.1, (hm c).2.2.1, (hm c).2.2.2.1, (hm c).2.2.2.2]), (h c).2.2⟩)
      (Cert.Reference16Ideal.Value.run (F := Ideal) m' g')⟩

end Cert.Proof

end
-- ==== Proof.lean ====
/- The claims: the frames are the generated ones, `preserves` has no rewrites to justify, and the two value claims are the
   forward call's (`Proof.Forward`) and the backward call's (`Proof.Backward`). -/
module

public import proofs.«01_k».proof.Defs
public import proofs.«01_k».proof.Proof.Forward
public import proofs.«01_k».proof.Proof.Backward
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.ReferenceIdeal
public import proofs.«01_k».proof.Proof.Gen.Reference2Ideal
public import proofs.«01_k».proof.Proof.Gen.ReferenceIdeal.Step
public import proofs.«01_k».proof.Proof.Gen.Reference2Ideal.Step
public import proofs.«01_k».proof.Proof.Gen.ReferenceIdeal.Run
public import proofs.«01_k».proof.Proof.Gen.Reference2Ideal.Run
public import proofs.«01_k».proof.Proof.Gen.KernelIdeal.Value
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Value
public import proofs.«01_k».proof.Proof.Gen.Reference6Ideal.Run
public import proofs.«01_k».proof.Proof.Product3
public import proofs.«01_k».proof.Proof.Product4
public import proofs.«01_k».proof.Proof.Product5
public import proofs.«01_k».proof.Proof.Product6
public import proofs.«01_k».proof.Proof.Gen.Kernel7.Frame
public import proofs.«01_k».proof.Proof.Gen.Kernel7Ideal.Frame
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import proofs.«01_k».proof.Proof.Product7
public import proofs.«01_k».proof.Proof.Product8
public import proofs.«01_k».proof.Proof.Gen.Kernel9.Frame
public import proofs.«01_k».proof.Proof.Gen.Kernel9Ideal.Frame
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Product9
public import proofs.«01_k».proof.Proof.Gen.Kernel10.Frame
public import proofs.«01_k».proof.Proof.Gen.Kernel10Ideal.Frame
public import proofs.«01_k».proof.Proof.Gen.Kernel10
public import proofs.«01_k».proof.Proof.Gen.Kernel10Ideal
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11
public import proofs.«01_k».proof.Proof.Gen.Kernel11Ideal
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12
public import proofs.«01_k».proof.Proof.Gen.Kernel12Ideal
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13
public import proofs.«01_k».proof.Proof.Gen.Kernel13Ideal
public import proofs.«01_k».proof.Proof.Gen.Reference13Ideal
public import proofs.«01_k».proof.Proof.Gen.Kernel13Ideal.Value
public import proofs.«01_k».proof.Proof.Gen.Reference13Ideal.Run
public import proofs.«01_k».proof.Proof.Product10
public import proofs.«01_k».proof.Proof.Product11
public import proofs.«01_k».proof.Proof.Product12
public import proofs.«01_k».proof.Proof.Product13
public import proofs.«01_k».proof.Proof.Gen.Kernel14.Frame
public import proofs.«01_k».proof.Proof.Gen.Kernel14Ideal.Frame
public import proofs.«01_k».proof.Proof.Gen.Kernel14
public import proofs.«01_k».proof.Proof.Gen.Kernel14Ideal
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15
public import proofs.«01_k».proof.Proof.Gen.Kernel15Ideal
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16
public import proofs.«01_k».proof.Proof.Gen.Kernel16Ideal
public import proofs.«01_k».proof.Proof.Gen.Reference16Ideal
public import proofs.«01_k».proof.Proof.Gen.Kernel16Ideal.Value
public import proofs.«01_k».proof.Proof.Gen.Reference16Ideal.Run
public import proofs.«01_k».proof.Proof.Product14
public import proofs.«01_k».proof.Proof.Product15
public import proofs.«01_k».proof.Proof.Product16

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    fun m ρ _ => Cert.Kernel.Gen.frame m ρ, fun m ρ _ => Cert.KernelIdeal.Gen.frame m ρ, frameA,
    fun m ρ _ => Cert.Kernel2.Gen.frame m ρ, fun m ρ _ => Cert.Kernel2Ideal.Gen.frame m ρ, frameB,
    fun m ρ _ => Cert.Kernel3.Gen.frame m ρ, fun m ρ _ => Cert.Kernel3Ideal.Gen.frame m ρ, frameR3,
    fun m ρ _ => Cert.Kernel4.Gen.frame m ρ, fun m ρ _ => Cert.Kernel4Ideal.Gen.frame m ρ, frameR4,
    fun m ρ _ => Cert.Kernel5.Gen.frame m ρ, fun m ρ _ => Cert.Kernel5Ideal.Gen.frame m ρ, frameR5,
    fun m ρ _ => Cert.Kernel6.Gen.frame m ρ, fun m ρ _ => Cert.Kernel6Ideal.Gen.frame m ρ, frameR6,
    fun m ρ _ => Cert.Kernel7.Gen.frame m ρ, fun m ρ _ => Cert.Kernel7Ideal.Gen.frame m ρ, frameR7,
    fun m ρ _ => Cert.Kernel8.Gen.frame m ρ, fun m ρ _ => Cert.Kernel8Ideal.Gen.frame m ρ, frameR8,
    fun m ρ _ => Cert.Kernel9.Gen.frame m ρ (Cert.Kernel9.Prod.ok m), fun m ρ _ => Cert.Kernel9Ideal.Gen.frame m ρ (Cert.Kernel9Ideal.Prod.ok m), frameR9,
    fun m ρ _ => Cert.Kernel10.Gen.frame m ρ, fun m ρ _ => Cert.Kernel10Ideal.Gen.frame m ρ, frameR10,
    fun m ρ _ => Cert.Kernel11.Gen.frame m ρ, fun m ρ _ => Cert.Kernel11Ideal.Gen.frame m ρ, frameR11,
    fun m ρ _ => Cert.Kernel12.Gen.frame m ρ, fun m ρ _ => Cert.Kernel12Ideal.Gen.frame m ρ, frameR12,
    fun m ρ _ => Cert.Kernel13.Gen.frame m ρ, fun m ρ _ => Cert.Kernel13Ideal.Gen.frame m ρ, frameR13,
    fun m ρ _ => Cert.Kernel14.Gen.frame m ρ, fun m ρ _ => Cert.Kernel14Ideal.Gen.frame m ρ, frameR14,
    fun m ρ _ => Cert.Kernel15.Gen.frame m ρ, fun m ρ _ => Cert.Kernel15Ideal.Gen.frame m ρ, frameR15,
    fun m ρ _ => Cert.Kernel16.Gen.frame m ρ, fun m ρ _ => Cert.Kernel16Ideal.Gen.frame m ρ, frameR16,
    trivial, algebraicA, trivial, algebraicB, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16⟩

end Cert.Proof

end
